-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x512x32 : Shape := ⟨4, ![4, 512, 512, 32]⟩
abbrev S4x32x512x512 : Shape := ⟨4, ![4, 32, 512, 512]⟩
abbrev S128x512x512 : Shape := ⟨3, ![128, 512, 512]⟩
abbrev S8x512x512 : Shape := ⟨3, ![8, 512, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S512x1 : Shape := ⟨2, ![512, 1]⟩
abbrev S1 : Shape := ⟨1, ![1]⟩
abbrev S1x1 : Shape := ⟨2, ![1, 1]⟩
abbrev S4x1 : Shape := ⟨2, ![4, 1]⟩
abbrev S1x256 : Shape := ⟨2, ![1, 256]⟩
abbrev S128x1 : Shape := ⟨2, ![128, 1]⟩
abbrev S128x256 : Shape := ⟨2, ![128, 256]⟩
abbrev S1x256x512 : Shape := ⟨3, ![1, 256, 512]⟩
abbrev S256x512 : Shape := ⟨2, ![256, 512]⟩
abbrev S128x512 : Shape := ⟨2, ![128, 512]⟩

abbrev nBuf : Space → Nat
  | .hbm => 6
  | .vmem => 5
  | .smem => 0
  | _ => 0

abbrev bufTy : (tb : Table) → Fin (tcTables nBuf tb) → BufTy
  | .hbm, ⟨0, _⟩ => ⟨S4x512x512x32, .f32⟩
  | .hbm, ⟨1, _⟩ => ⟨S4x32x512x512, .f32⟩
  | .hbm, ⟨2, _⟩ => ⟨S128x512x512, .f32⟩
  | .hbm, ⟨3, _⟩ => ⟨S128x512x512, .f32⟩
  | .hbm, ⟨4, _⟩ => ⟨S4x32x512x512, .f32⟩
  | .hbm, ⟨5, _⟩ => ⟨S4x512x512x32, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S512x512, .f32⟩
  | _, _ => ⟨S4x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def k0_mult1 (v1822 : BitVec 32) : BitVec 32 :=
  v1822
def k0_cond2 (v211 : BitVec 32) : BitVec 1 :=
  let c0_i32_55 : BitVec 32 := 0#32
  let v215 : BitVec 1 := Scalar.cmpi .eq v211 c0_i32_55
  let v216 : BitVec 32 := Scalar.extui v215
  let c0_i32_56 : BitVec 32 := 0#32
  let v217 : BitVec 1 := Scalar.cmpi .ne v216 c0_i32_56
  v217

def k0_off1 (v1822 : BitVec 32) : Fin 3 → Nat :=
  let c0_522 : Index := 0#32
  let v1823 : BitVec 32 := v1822
  let v1837 : Index := Scalar.indexCast v1823
  let c0_523 : Index := 0#32
  ![0, v1837.toNat, 0]

def k0_chk1 (v211 : BitVec 32) (v1822 : BitVec 32) : Prop :=
  (∀ (k0_h2 : k0_cond2 v211 = 1#1), 8 ∣ (k0_mult1 v1822).toNat) ∧
  (∀ (k0_h2 : k0_cond2 v211 = 1#1), ∀ a, (k0_off1 v1822) a + S1x256x512.size a ≤ S8x512x512.size a)
theorem k0_mult1_dvd : ∀ (v211 : BitVec 32) (v1822 : BitVec 32) (k0_hw1 : k0_chk1 v211 v1822), ∀ (k0_h2 : k0_cond2 v211 = 1#1), 8 ∣ (k0_mult1 v1822).toNat := fun v211 v1822 k0_hw1 k0_h2 => k0_hw1.1 k0_h2
theorem k0_off1_inb : ∀ (v211 : BitVec 32) (v1822 : BitVec 32) (k0_hw1 : k0_chk1 v211 v1822), ∀ (k0_h2 : k0_cond2 v211 = 1#1), ∀ a, (k0_off1 v1822) a + S1x256x512.size a ≤ S8x512x512.size a := fun v211 v1822 k0_hw1 k0_h2 => k0_hw1.2 k0_h2

def k0_mult2 (v1845 : BitVec 32) : BitVec 32 :=
  v1845

def k0_off2 (v1845 : BitVec 32) : Fin 3 → Nat :=
  let c0_529 : Index := 0#32
  let v1846 : BitVec 32 := v1845
  let v1860 : Index := Scalar.indexCast v1846
  let c0_530 : Index := 0#32
  ![0, v1860.toNat, 0]

def k0_chk2 (v211 : BitVec 32) (v1845 : BitVec 32) : Prop :=
  (∀ (k0_h2 : k0_cond2 v211 = 1#1), 8 ∣ (k0_mult2 v1845).toNat) ∧
  (∀ (k0_h2 : k0_cond2 v211 = 1#1), ∀ a, (k0_off2 v1845) a + S1x256x512.size a ≤ S8x512x512.size a)
theorem k0_mult2_dvd : ∀ (v211 : BitVec 32) (v1845 : BitVec 32) (k0_hw2 : k0_chk2 v211 v1845), ∀ (k0_h2 : k0_cond2 v211 = 1#1), 8 ∣ (k0_mult2 v1845).toNat := fun v211 v1845 k0_hw2 k0_h2 => k0_hw2.1 k0_h2
theorem k0_off2_inb : ∀ (v211 : BitVec 32) (v1845 : BitVec 32) (k0_hw2 : k0_chk2 v211 v1845), ∀ (k0_h2 : k0_cond2 v211 = 1#1), ∀ a, (k0_off2 v1845) a + S1x256x512.size a ≤ S8x512x512.size a := fun v211 v1845 k0_hw2 k0_h2 => k0_hw2.2 k0_h2

def k0_mult3 (v1868 : BitVec 32) : BitVec 32 :=
  v1868

def k0_off3 (v1868 : BitVec 32) : Fin 3 → Nat :=
  let c0_535 : Index := 0#32
  let v1869 : BitVec 32 := v1868
  let v1883 : Index := Scalar.indexCast v1869
  let c0_536 : Index := 0#32
  ![0, v1883.toNat, 0]

def k0_chk3 (v211 : BitVec 32) (v1868 : BitVec 32) : Prop :=
  (∀ (k0_h2 : k0_cond2 v211 = 1#1), 8 ∣ (k0_mult3 v1868).toNat) ∧
  (∀ (k0_h2 : k0_cond2 v211 = 1#1), ∀ a, (k0_off3 v1868) a + S1x256x512.size a ≤ S8x512x512.size a)
theorem k0_mult3_dvd : ∀ (v211 : BitVec 32) (v1868 : BitVec 32) (k0_hw3 : k0_chk3 v211 v1868), ∀ (k0_h2 : k0_cond2 v211 = 1#1), 8 ∣ (k0_mult3 v1868).toNat := fun v211 v1868 k0_hw3 k0_h2 => k0_hw3.1 k0_h2
theorem k0_off3_inb : ∀ (v211 : BitVec 32) (v1868 : BitVec 32) (k0_hw3 : k0_chk3 v211 v1868), ∀ (k0_h2 : k0_cond2 v211 = 1#1), ∀ a, (k0_off3 v1868) a + S1x256x512.size a ≤ S8x512x512.size a := fun v211 v1868 k0_hw3 k0_h2 => k0_hw3.2 k0_h2

def k0_mult4 (v1891 : BitVec 32) : BitVec 32 :=
  v1891

def k0_off4 (v1891 : BitVec 32) : Fin 3 → Nat :=
  let c0_541 : Index := 0#32
  let v1892 : BitVec 32 := v1891
  let v1906 : Index := Scalar.indexCast v1892
  let c0_542 : Index := 0#32
  ![0, v1906.toNat, 0]

def k0_chk4 (v211 : BitVec 32) (v1891 : BitVec 32) : Prop :=
  (∀ (k0_h2 : k0_cond2 v211 = 1#1), 8 ∣ (k0_mult4 v1891).toNat) ∧
  (∀ (k0_h2 : k0_cond2 v211 = 1#1), ∀ a, (k0_off4 v1891) a + S1x256x512.size a ≤ S8x512x512.size a)
theorem k0_mult4_dvd : ∀ (v211 : BitVec 32) (v1891 : BitVec 32) (k0_hw4 : k0_chk4 v211 v1891), ∀ (k0_h2 : k0_cond2 v211 = 1#1), 8 ∣ (k0_mult4 v1891).toNat := fun v211 v1891 k0_hw4 k0_h2 => k0_hw4.1 k0_h2
theorem k0_off4_inb : ∀ (v211 : BitVec 32) (v1891 : BitVec 32) (k0_hw4 : k0_chk4 v211 v1891), ∀ (k0_h2 : k0_cond2 v211 = 1#1), ∀ a, (k0_off4 v1891) a + S1x256x512.size a ≤ S8x512x512.size a := fun v211 v1891 k0_hw4 k0_h2 => k0_hw4.2 k0_h2

def k0_mult5 (v1822 : BitVec 32) : BitVec 32 :=
  v1822
def k0_cond4 (v429 : BitVec 32) : BitVec 1 :=
  let c0_i32_119 : BitVec 32 := 0#32
  let v433 : BitVec 1 := Scalar.cmpi .eq v429 c0_i32_119
  let v434 : BitVec 32 := Scalar.extui v433
  let c0_i32_120 : BitVec 32 := 0#32
  let v435 : BitVec 1 := Scalar.cmpi .ne v434 c0_i32_120
  v435

def k0_off5 (v1822 : BitVec 32) : Fin 3 → Nat :=
  let c1_522 : Index := 1#32
  let v1823 : BitVec 32 := v1822
  let v1837 : Index := Scalar.indexCast v1823
  let c0_523 : Index := 0#32
  ![1, v1837.toNat, 0]

def k0_chk5 (v429 : BitVec 32) (v1822 : BitVec 32) : Prop :=
  (∀ (k0_h4 : k0_cond4 v429 = 1#1), 8 ∣ (k0_mult5 v1822).toNat) ∧
  (∀ (k0_h4 : k0_cond4 v429 = 1#1), ∀ a, (k0_off5 v1822) a + S1x256x512.size a ≤ S8x512x512.size a)
theorem k0_mult5_dvd : ∀ (v429 : BitVec 32) (v1822 : BitVec 32) (k0_hw5 : k0_chk5 v429 v1822), ∀ (k0_h4 : k0_cond4 v429 = 1#1), 8 ∣ (k0_mult5 v1822).toNat := fun v429 v1822 k0_hw5 k0_h4 => k0_hw5.1 k0_h4
theorem k0_off5_inb : ∀ (v429 : BitVec 32) (v1822 : BitVec 32) (k0_hw5 : k0_chk5 v429 v1822), ∀ (k0_h4 : k0_cond4 v429 = 1#1), ∀ a, (k0_off5 v1822) a + S1x256x512.size a ≤ S8x512x512.size a := fun v429 v1822 k0_hw5 k0_h4 => k0_hw5.2 k0_h4

def k0_mult6 (v1845 : BitVec 32) : BitVec 32 :=
  v1845

def k0_off6 (v1845 : BitVec 32) : Fin 3 → Nat :=
  let c1_529 : Index := 1#32
  let v1846 : BitVec 32 := v1845
  let v1860 : Index := Scalar.indexCast v1846
  let c0_530 : Index := 0#32
  ![1, v1860.toNat, 0]

def k0_chk6 (v429 : BitVec 32) (v1845 : BitVec 32) : Prop :=
  (∀ (k0_h4 : k0_cond4 v429 = 1#1), 8 ∣ (k0_mult6 v1845).toNat) ∧
  (∀ (k0_h4 : k0_cond4 v429 = 1#1), ∀ a, (k0_off6 v1845) a + S1x256x512.size a ≤ S8x512x512.size a)
theorem k0_mult6_dvd : ∀ (v429 : BitVec 32) (v1845 : BitVec 32) (k0_hw6 : k0_chk6 v429 v1845), ∀ (k0_h4 : k0_cond4 v429 = 1#1), 8 ∣ (k0_mult6 v1845).toNat := fun v429 v1845 k0_hw6 k0_h4 => k0_hw6.1 k0_h4
theorem k0_off6_inb : ∀ (v429 : BitVec 32) (v1845 : BitVec 32) (k0_hw6 : k0_chk6 v429 v1845), ∀ (k0_h4 : k0_cond4 v429 = 1#1), ∀ a, (k0_off6 v1845) a + S1x256x512.size a ≤ S8x512x512.size a := fun v429 v1845 k0_hw6 k0_h4 => k0_hw6.2 k0_h4

def k0_mult7 (v1868 : BitVec 32) : BitVec 32 :=
  v1868

def k0_off7 (v1868 : BitVec 32) : Fin 3 → Nat :=
  let c1_535 : Index := 1#32
  let v1869 : BitVec 32 := v1868
  let v1883 : Index := Scalar.indexCast v1869
  let c0_536 : Index := 0#32
  ![1, v1883.toNat, 0]

def k0_chk7 (v429 : BitVec 32) (v1868 : BitVec 32) : Prop :=
  (∀ (k0_h4 : k0_cond4 v429 = 1#1), 8 ∣ (k0_mult7 v1868).toNat) ∧
  (∀ (k0_h4 : k0_cond4 v429 = 1#1), ∀ a, (k0_off7 v1868) a + S1x256x512.size a ≤ S8x512x512.size a)
theorem k0_mult7_dvd : ∀ (v429 : BitVec 32) (v1868 : BitVec 32) (k0_hw7 : k0_chk7 v429 v1868), ∀ (k0_h4 : k0_cond4 v429 = 1#1), 8 ∣ (k0_mult7 v1868).toNat := fun v429 v1868 k0_hw7 k0_h4 => k0_hw7.1 k0_h4
theorem k0_off7_inb : ∀ (v429 : BitVec 32) (v1868 : BitVec 32) (k0_hw7 : k0_chk7 v429 v1868), ∀ (k0_h4 : k0_cond4 v429 = 1#1), ∀ a, (k0_off7 v1868) a + S1x256x512.size a ≤ S8x512x512.size a := fun v429 v1868 k0_hw7 k0_h4 => k0_hw7.2 k0_h4

def k0_mult8 (v1891 : BitVec 32) : BitVec 32 :=
  v1891

def k0_off8 (v1891 : BitVec 32) : Fin 3 → Nat :=
  let c1_541 : Index := 1#32
  let v1892 : BitVec 32 := v1891
  let v1906 : Index := Scalar.indexCast v1892
  let c0_542 : Index := 0#32
  ![1, v1906.toNat, 0]

def k0_chk8 (v429 : BitVec 32) (v1891 : BitVec 32) : Prop :=
  (∀ (k0_h4 : k0_cond4 v429 = 1#1), 8 ∣ (k0_mult8 v1891).toNat) ∧
  (∀ (k0_h4 : k0_cond4 v429 = 1#1), ∀ a, (k0_off8 v1891) a + S1x256x512.size a ≤ S8x512x512.size a)
theorem k0_mult8_dvd : ∀ (v429 : BitVec 32) (v1891 : BitVec 32) (k0_hw8 : k0_chk8 v429 v1891), ∀ (k0_h4 : k0_cond4 v429 = 1#1), 8 ∣ (k0_mult8 v1891).toNat := fun v429 v1891 k0_hw8 k0_h4 => k0_hw8.1 k0_h4
theorem k0_off8_inb : ∀ (v429 : BitVec 32) (v1891 : BitVec 32) (k0_hw8 : k0_chk8 v429 v1891), ∀ (k0_h4 : k0_cond4 v429 = 1#1), ∀ a, (k0_off8 v1891) a + S1x256x512.size a ≤ S8x512x512.size a := fun v429 v1891 k0_hw8 k0_h4 => k0_hw8.2 k0_h4

def k0_mult9 (v1822 : BitVec 32) : BitVec 32 :=
  v1822
def k0_cond6 (v647 : BitVec 32) : BitVec 1 :=
  let c0_i32_183 : BitVec 32 := 0#32
  let v651 : BitVec 1 := Scalar.cmpi .eq v647 c0_i32_183
  let v652 : BitVec 32 := Scalar.extui v651
  let c0_i32_184 : BitVec 32 := 0#32
  let v653 : BitVec 1 := Scalar.cmpi .ne v652 c0_i32_184
  v653

def k0_off9 (v1822 : BitVec 32) : Fin 3 → Nat :=
  let c2_522 : Index := 2#32
  let v1823 : BitVec 32 := v1822
  let v1837 : Index := Scalar.indexCast v1823
  let c0_523 : Index := 0#32
  ![2, v1837.toNat, 0]

def k0_chk9 (v647 : BitVec 32) (v1822 : BitVec 32) : Prop :=
  (∀ (k0_h6 : k0_cond6 v647 = 1#1), 8 ∣ (k0_mult9 v1822).toNat) ∧
  (∀ (k0_h6 : k0_cond6 v647 = 1#1), ∀ a, (k0_off9 v1822) a + S1x256x512.size a ≤ S8x512x512.size a)
theorem k0_mult9_dvd : ∀ (v647 : BitVec 32) (v1822 : BitVec 32) (k0_hw9 : k0_chk9 v647 v1822), ∀ (k0_h6 : k0_cond6 v647 = 1#1), 8 ∣ (k0_mult9 v1822).toNat := fun v647 v1822 k0_hw9 k0_h6 => k0_hw9.1 k0_h6
theorem k0_off9_inb : ∀ (v647 : BitVec 32) (v1822 : BitVec 32) (k0_hw9 : k0_chk9 v647 v1822), ∀ (k0_h6 : k0_cond6 v647 = 1#1), ∀ a, (k0_off9 v1822) a + S1x256x512.size a ≤ S8x512x512.size a := fun v647 v1822 k0_hw9 k0_h6 => k0_hw9.2 k0_h6

def k0_mult10 (v1845 : BitVec 32) : BitVec 32 :=
  v1845

def k0_off10 (v1845 : BitVec 32) : Fin 3 → Nat :=
  let c2_529 : Index := 2#32
  let v1846 : BitVec 32 := v1845
  let v1860 : Index := Scalar.indexCast v1846
  let c0_530 : Index := 0#32
  ![2, v1860.toNat, 0]

def k0_chk10 (v647 : BitVec 32) (v1845 : BitVec 32) : Prop :=
  (∀ (k0_h6 : k0_cond6 v647 = 1#1), 8 ∣ (k0_mult10 v1845).toNat) ∧
  (∀ (k0_h6 : k0_cond6 v647 = 1#1), ∀ a, (k0_off10 v1845) a + S1x256x512.size a ≤ S8x512x512.size a)
theorem k0_mult10_dvd : ∀ (v647 : BitVec 32) (v1845 : BitVec 32) (k0_hw10 : k0_chk10 v647 v1845), ∀ (k0_h6 : k0_cond6 v647 = 1#1), 8 ∣ (k0_mult10 v1845).toNat := fun v647 v1845 k0_hw10 k0_h6 => k0_hw10.1 k0_h6
theorem k0_off10_inb : ∀ (v647 : BitVec 32) (v1845 : BitVec 32) (k0_hw10 : k0_chk10 v647 v1845), ∀ (k0_h6 : k0_cond6 v647 = 1#1), ∀ a, (k0_off10 v1845) a + S1x256x512.size a ≤ S8x512x512.size a := fun v647 v1845 k0_hw10 k0_h6 => k0_hw10.2 k0_h6

def k0_mult11 (v1868 : BitVec 32) : BitVec 32 :=
  v1868

def k0_off11 (v1868 : BitVec 32) : Fin 3 → Nat :=
  let c2_535 : Index := 2#32
  let v1869 : BitVec 32 := v1868
  let v1883 : Index := Scalar.indexCast v1869
  let c0_536 : Index := 0#32
  ![2, v1883.toNat, 0]

def k0_chk11 (v647 : BitVec 32) (v1868 : BitVec 32) : Prop :=
  (∀ (k0_h6 : k0_cond6 v647 = 1#1), 8 ∣ (k0_mult11 v1868).toNat) ∧
  (∀ (k0_h6 : k0_cond6 v647 = 1#1), ∀ a, (k0_off11 v1868) a + S1x256x512.size a ≤ S8x512x512.size a)
theorem k0_mult11_dvd : ∀ (v647 : BitVec 32) (v1868 : BitVec 32) (k0_hw11 : k0_chk11 v647 v1868), ∀ (k0_h6 : k0_cond6 v647 = 1#1), 8 ∣ (k0_mult11 v1868).toNat := fun v647 v1868 k0_hw11 k0_h6 => k0_hw11.1 k0_h6
theorem k0_off11_inb : ∀ (v647 : BitVec 32) (v1868 : BitVec 32) (k0_hw11 : k0_chk11 v647 v1868), ∀ (k0_h6 : k0_cond6 v647 = 1#1), ∀ a, (k0_off11 v1868) a + S1x256x512.size a ≤ S8x512x512.size a := fun v647 v1868 k0_hw11 k0_h6 => k0_hw11.2 k0_h6

def k0_mult12 (v1891 : BitVec 32) : BitVec 32 :=
  v1891

def k0_off12 (v1891 : BitVec 32) : Fin 3 → Nat :=
  let c2_541 : Index := 2#32
  let v1892 : BitVec 32 := v1891
  let v1906 : Index := Scalar.indexCast v1892
  let c0_542 : Index := 0#32
  ![2, v1906.toNat, 0]

def k0_chk12 (v647 : BitVec 32) (v1891 : BitVec 32) : Prop :=
  (∀ (k0_h6 : k0_cond6 v647 = 1#1), 8 ∣ (k0_mult12 v1891).toNat) ∧
  (∀ (k0_h6 : k0_cond6 v647 = 1#1), ∀ a, (k0_off12 v1891) a + S1x256x512.size a ≤ S8x512x512.size a)
theorem k0_mult12_dvd : ∀ (v647 : BitVec 32) (v1891 : BitVec 32) (k0_hw12 : k0_chk12 v647 v1891), ∀ (k0_h6 : k0_cond6 v647 = 1#1), 8 ∣ (k0_mult12 v1891).toNat := fun v647 v1891 k0_hw12 k0_h6 => k0_hw12.1 k0_h6
theorem k0_off12_inb : ∀ (v647 : BitVec 32) (v1891 : BitVec 32) (k0_hw12 : k0_chk12 v647 v1891), ∀ (k0_h6 : k0_cond6 v647 = 1#1), ∀ a, (k0_off12 v1891) a + S1x256x512.size a ≤ S8x512x512.size a := fun v647 v1891 k0_hw12 k0_h6 => k0_hw12.2 k0_h6

def k0_mult13 (v1822 : BitVec 32) : BitVec 32 :=
  v1822
def k0_cond8 (v865 : BitVec 32) : BitVec 1 :=
  let c0_i32_247 : BitVec 32 := 0#32
  let v869 : BitVec 1 := Scalar.cmpi .eq v865 c0_i32_247
  let v870 : BitVec 32 := Scalar.extui v869
  let c0_i32_248 : BitVec 32 := 0#32
  let v871 : BitVec 1 := Scalar.cmpi .ne v870 c0_i32_248
  v871

def k0_off13 (v1822 : BitVec 32) : Fin 3 → Nat :=
  let c3_522 : Index := 3#32
  let v1823 : BitVec 32 := v1822
  let v1837 : Index := Scalar.indexCast v1823
  let c0_523 : Index := 0#32
  ![3, v1837.toNat, 0]

def k0_chk13 (v865 : BitVec 32) (v1822 : BitVec 32) : Prop :=
  (∀ (k0_h8 : k0_cond8 v865 = 1#1), 8 ∣ (k0_mult13 v1822).toNat) ∧
  (∀ (k0_h8 : k0_cond8 v865 = 1#1), ∀ a, (k0_off13 v1822) a + S1x256x512.size a ≤ S8x512x512.size a)
theorem k0_mult13_dvd : ∀ (v865 : BitVec 32) (v1822 : BitVec 32) (k0_hw13 : k0_chk13 v865 v1822), ∀ (k0_h8 : k0_cond8 v865 = 1#1), 8 ∣ (k0_mult13 v1822).toNat := fun v865 v1822 k0_hw13 k0_h8 => k0_hw13.1 k0_h8
theorem k0_off13_inb : ∀ (v865 : BitVec 32) (v1822 : BitVec 32) (k0_hw13 : k0_chk13 v865 v1822), ∀ (k0_h8 : k0_cond8 v865 = 1#1), ∀ a, (k0_off13 v1822) a + S1x256x512.size a ≤ S8x512x512.size a := fun v865 v1822 k0_hw13 k0_h8 => k0_hw13.2 k0_h8

def k0_mult14 (v1845 : BitVec 32) : BitVec 32 :=
  v1845

def k0_off14 (v1845 : BitVec 32) : Fin 3 → Nat :=
  let c3_529 : Index := 3#32
  let v1846 : BitVec 32 := v1845
  let v1860 : Index := Scalar.indexCast v1846
  let c0_530 : Index := 0#32
  ![3, v1860.toNat, 0]

def k0_chk14 (v865 : BitVec 32) (v1845 : BitVec 32) : Prop :=
  (∀ (k0_h8 : k0_cond8 v865 = 1#1), 8 ∣ (k0_mult14 v1845).toNat) ∧
  (∀ (k0_h8 : k0_cond8 v865 = 1#1), ∀ a, (k0_off14 v1845) a + S1x256x512.size a ≤ S8x512x512.size a)
theorem k0_mult14_dvd : ∀ (v865 : BitVec 32) (v1845 : BitVec 32) (k0_hw14 : k0_chk14 v865 v1845), ∀ (k0_h8 : k0_cond8 v865 = 1#1), 8 ∣ (k0_mult14 v1845).toNat := fun v865 v1845 k0_hw14 k0_h8 => k0_hw14.1 k0_h8
theorem k0_off14_inb : ∀ (v865 : BitVec 32) (v1845 : BitVec 32) (k0_hw14 : k0_chk14 v865 v1845), ∀ (k0_h8 : k0_cond8 v865 = 1#1), ∀ a, (k0_off14 v1845) a + S1x256x512.size a ≤ S8x512x512.size a := fun v865 v1845 k0_hw14 k0_h8 => k0_hw14.2 k0_h8

def k0_mult15 (v1868 : BitVec 32) : BitVec 32 :=
  v1868

def k0_off15 (v1868 : BitVec 32) : Fin 3 → Nat :=
  let c3_535 : Index := 3#32
  let v1869 : BitVec 32 := v1868
  let v1883 : Index := Scalar.indexCast v1869
  let c0_536 : Index := 0#32
  ![3, v1883.toNat, 0]

def k0_chk15 (v865 : BitVec 32) (v1868 : BitVec 32) : Prop :=
  (∀ (k0_h8 : k0_cond8 v865 = 1#1), 8 ∣ (k0_mult15 v1868).toNat) ∧
  (∀ (k0_h8 : k0_cond8 v865 = 1#1), ∀ a, (k0_off15 v1868) a + S1x256x512.size a ≤ S8x512x512.size a)
theorem k0_mult15_dvd : ∀ (v865 : BitVec 32) (v1868 : BitVec 32) (k0_hw15 : k0_chk15 v865 v1868), ∀ (k0_h8 : k0_cond8 v865 = 1#1), 8 ∣ (k0_mult15 v1868).toNat := fun v865 v1868 k0_hw15 k0_h8 => k0_hw15.1 k0_h8
theorem k0_off15_inb : ∀ (v865 : BitVec 32) (v1868 : BitVec 32) (k0_hw15 : k0_chk15 v865 v1868), ∀ (k0_h8 : k0_cond8 v865 = 1#1), ∀ a, (k0_off15 v1868) a + S1x256x512.size a ≤ S8x512x512.size a := fun v865 v1868 k0_hw15 k0_h8 => k0_hw15.2 k0_h8

def k0_mult16 (v1891 : BitVec 32) : BitVec 32 :=
  v1891

def k0_off16 (v1891 : BitVec 32) : Fin 3 → Nat :=
  let c3_541 : Index := 3#32
  let v1892 : BitVec 32 := v1891
  let v1906 : Index := Scalar.indexCast v1892
  let c0_542 : Index := 0#32
  ![3, v1906.toNat, 0]

def k0_chk16 (v865 : BitVec 32) (v1891 : BitVec 32) : Prop :=
  (∀ (k0_h8 : k0_cond8 v865 = 1#1), 8 ∣ (k0_mult16 v1891).toNat) ∧
  (∀ (k0_h8 : k0_cond8 v865 = 1#1), ∀ a, (k0_off16 v1891) a + S1x256x512.size a ≤ S8x512x512.size a)
theorem k0_mult16_dvd : ∀ (v865 : BitVec 32) (v1891 : BitVec 32) (k0_hw16 : k0_chk16 v865 v1891), ∀ (k0_h8 : k0_cond8 v865 = 1#1), 8 ∣ (k0_mult16 v1891).toNat := fun v865 v1891 k0_hw16 k0_h8 => k0_hw16.1 k0_h8
theorem k0_off16_inb : ∀ (v865 : BitVec 32) (v1891 : BitVec 32) (k0_hw16 : k0_chk16 v865 v1891), ∀ (k0_h8 : k0_cond8 v865 = 1#1), ∀ a, (k0_off16 v1891) a + S1x256x512.size a ≤ S8x512x512.size a := fun v865 v1891 k0_hw16 k0_h8 => k0_hw16.2 k0_h8

def k0_mult17 (v1822 : BitVec 32) : BitVec 32 :=
  v1822
def k0_cond10 (v1083 : BitVec 32) : BitVec 1 :=
  let c0_i32_311 : BitVec 32 := 0#32
  let v1087 : BitVec 1 := Scalar.cmpi .eq v1083 c0_i32_311
  let v1088 : BitVec 32 := Scalar.extui v1087
  let c0_i32_312 : BitVec 32 := 0#32
  let v1089 : BitVec 1 := Scalar.cmpi .ne v1088 c0_i32_312
  v1089

def k0_off17 (v1822 : BitVec 32) : Fin 3 → Nat :=
  let c4_522 : Index := 4#32
  let v1823 : BitVec 32 := v1822
  let v1837 : Index := Scalar.indexCast v1823
  let c0_523 : Index := 0#32
  ![4, v1837.toNat, 0]

def k0_chk17 (v1083 : BitVec 32) (v1822 : BitVec 32) : Prop :=
  (∀ (k0_h10 : k0_cond10 v1083 = 1#1), 8 ∣ (k0_mult17 v1822).toNat) ∧
  (∀ (k0_h10 : k0_cond10 v1083 = 1#1), ∀ a, (k0_off17 v1822) a + S1x256x512.size a ≤ S8x512x512.size a)
theorem k0_mult17_dvd : ∀ (v1083 : BitVec 32) (v1822 : BitVec 32) (k0_hw17 : k0_chk17 v1083 v1822), ∀ (k0_h10 : k0_cond10 v1083 = 1#1), 8 ∣ (k0_mult17 v1822).toNat := fun v1083 v1822 k0_hw17 k0_h10 => k0_hw17.1 k0_h10
theorem k0_off17_inb : ∀ (v1083 : BitVec 32) (v1822 : BitVec 32) (k0_hw17 : k0_chk17 v1083 v1822), ∀ (k0_h10 : k0_cond10 v1083 = 1#1), ∀ a, (k0_off17 v1822) a + S1x256x512.size a ≤ S8x512x512.size a := fun v1083 v1822 k0_hw17 k0_h10 => k0_hw17.2 k0_h10

def k0_mult18 (v1845 : BitVec 32) : BitVec 32 :=
  v1845

def k0_off18 (v1845 : BitVec 32) : Fin 3 → Nat :=
  let c4_529 : Index := 4#32
  let v1846 : BitVec 32 := v1845
  let v1860 : Index := Scalar.indexCast v1846
  let c0_530 : Index := 0#32
  ![4, v1860.toNat, 0]

def k0_chk18 (v1083 : BitVec 32) (v1845 : BitVec 32) : Prop :=
  (∀ (k0_h10 : k0_cond10 v1083 = 1#1), 8 ∣ (k0_mult18 v1845).toNat) ∧
  (∀ (k0_h10 : k0_cond10 v1083 = 1#1), ∀ a, (k0_off18 v1845) a + S1x256x512.size a ≤ S8x512x512.size a)
theorem k0_mult18_dvd : ∀ (v1083 : BitVec 32) (v1845 : BitVec 32) (k0_hw18 : k0_chk18 v1083 v1845), ∀ (k0_h10 : k0_cond10 v1083 = 1#1), 8 ∣ (k0_mult18 v1845).toNat := fun v1083 v1845 k0_hw18 k0_h10 => k0_hw18.1 k0_h10
theorem k0_off18_inb : ∀ (v1083 : BitVec 32) (v1845 : BitVec 32) (k0_hw18 : k0_chk18 v1083 v1845), ∀ (k0_h10 : k0_cond10 v1083 = 1#1), ∀ a, (k0_off18 v1845) a + S1x256x512.size a ≤ S8x512x512.size a := fun v1083 v1845 k0_hw18 k0_h10 => k0_hw18.2 k0_h10

def k0_mult19 (v1868 : BitVec 32) : BitVec 32 :=
  v1868

def k0_off19 (v1868 : BitVec 32) : Fin 3 → Nat :=
  let c4_535 : Index := 4#32
  let v1869 : BitVec 32 := v1868
  let v1883 : Index := Scalar.indexCast v1869
  let c0_536 : Index := 0#32
  ![4, v1883.toNat, 0]

def k0_chk19 (v1083 : BitVec 32) (v1868 : BitVec 32) : Prop :=
  (∀ (k0_h10 : k0_cond10 v1083 = 1#1), 8 ∣ (k0_mult19 v1868).toNat) ∧
  (∀ (k0_h10 : k0_cond10 v1083 = 1#1), ∀ a, (k0_off19 v1868) a + S1x256x512.size a ≤ S8x512x512.size a)
theorem k0_mult19_dvd : ∀ (v1083 : BitVec 32) (v1868 : BitVec 32) (k0_hw19 : k0_chk19 v1083 v1868), ∀ (k0_h10 : k0_cond10 v1083 = 1#1), 8 ∣ (k0_mult19 v1868).toNat := fun v1083 v1868 k0_hw19 k0_h10 => k0_hw19.1 k0_h10
theorem k0_off19_inb : ∀ (v1083 : BitVec 32) (v1868 : BitVec 32) (k0_hw19 : k0_chk19 v1083 v1868), ∀ (k0_h10 : k0_cond10 v1083 = 1#1), ∀ a, (k0_off19 v1868) a + S1x256x512.size a ≤ S8x512x512.size a := fun v1083 v1868 k0_hw19 k0_h10 => k0_hw19.2 k0_h10

def k0_mult20 (v1891 : BitVec 32) : BitVec 32 :=
  v1891

def k0_off20 (v1891 : BitVec 32) : Fin 3 → Nat :=
  let c4_541 : Index := 4#32
  let v1892 : BitVec 32 := v1891
  let v1906 : Index := Scalar.indexCast v1892
  let c0_542 : Index := 0#32
  ![4, v1906.toNat, 0]

def k0_chk20 (v1083 : BitVec 32) (v1891 : BitVec 32) : Prop :=
  (∀ (k0_h10 : k0_cond10 v1083 = 1#1), 8 ∣ (k0_mult20 v1891).toNat) ∧
  (∀ (k0_h10 : k0_cond10 v1083 = 1#1), ∀ a, (k0_off20 v1891) a + S1x256x512.size a ≤ S8x512x512.size a)
theorem k0_mult20_dvd : ∀ (v1083 : BitVec 32) (v1891 : BitVec 32) (k0_hw20 : k0_chk20 v1083 v1891), ∀ (k0_h10 : k0_cond10 v1083 = 1#1), 8 ∣ (k0_mult20 v1891).toNat := fun v1083 v1891 k0_hw20 k0_h10 => k0_hw20.1 k0_h10
theorem k0_off20_inb : ∀ (v1083 : BitVec 32) (v1891 : BitVec 32) (k0_hw20 : k0_chk20 v1083 v1891), ∀ (k0_h10 : k0_cond10 v1083 = 1#1), ∀ a, (k0_off20 v1891) a + S1x256x512.size a ≤ S8x512x512.size a := fun v1083 v1891 k0_hw20 k0_h10 => k0_hw20.2 k0_h10

def k0_mult21 (v1822 : BitVec 32) : BitVec 32 :=
  v1822
def k0_cond12 (v1301 : BitVec 32) : BitVec 1 :=
  let c0_i32_375 : BitVec 32 := 0#32
  let v1305 : BitVec 1 := Scalar.cmpi .eq v1301 c0_i32_375
  let v1306 : BitVec 32 := Scalar.extui v1305
  let c0_i32_376 : BitVec 32 := 0#32
  let v1307 : BitVec 1 := Scalar.cmpi .ne v1306 c0_i32_376
  v1307

def k0_off21 (v1822 : BitVec 32) : Fin 3 → Nat :=
  let c5_522 : Index := 5#32
  let v1823 : BitVec 32 := v1822
  let v1837 : Index := Scalar.indexCast v1823
  let c0_523 : Index := 0#32
  ![5, v1837.toNat, 0]

def k0_chk21 (v1301 : BitVec 32) (v1822 : BitVec 32) : Prop :=
  (∀ (k0_h12 : k0_cond12 v1301 = 1#1), 8 ∣ (k0_mult21 v1822).toNat) ∧
  (∀ (k0_h12 : k0_cond12 v1301 = 1#1), ∀ a, (k0_off21 v1822) a + S1x256x512.size a ≤ S8x512x512.size a)
theorem k0_mult21_dvd : ∀ (v1301 : BitVec 32) (v1822 : BitVec 32) (k0_hw21 : k0_chk21 v1301 v1822), ∀ (k0_h12 : k0_cond12 v1301 = 1#1), 8 ∣ (k0_mult21 v1822).toNat := fun v1301 v1822 k0_hw21 k0_h12 => k0_hw21.1 k0_h12
theorem k0_off21_inb : ∀ (v1301 : BitVec 32) (v1822 : BitVec 32) (k0_hw21 : k0_chk21 v1301 v1822), ∀ (k0_h12 : k0_cond12 v1301 = 1#1), ∀ a, (k0_off21 v1822) a + S1x256x512.size a ≤ S8x512x512.size a := fun v1301 v1822 k0_hw21 k0_h12 => k0_hw21.2 k0_h12

def k0_mult22 (v1845 : BitVec 32) : BitVec 32 :=
  v1845

def k0_off22 (v1845 : BitVec 32) : Fin 3 → Nat :=
  let c5_529 : Index := 5#32
  let v1846 : BitVec 32 := v1845
  let v1860 : Index := Scalar.indexCast v1846
  let c0_530 : Index := 0#32
  ![5, v1860.toNat, 0]

def k0_chk22 (v1301 : BitVec 32) (v1845 : BitVec 32) : Prop :=
  (∀ (k0_h12 : k0_cond12 v1301 = 1#1), 8 ∣ (k0_mult22 v1845).toNat) ∧
  (∀ (k0_h12 : k0_cond12 v1301 = 1#1), ∀ a, (k0_off22 v1845) a + S1x256x512.size a ≤ S8x512x512.size a)
theorem k0_mult22_dvd : ∀ (v1301 : BitVec 32) (v1845 : BitVec 32) (k0_hw22 : k0_chk22 v1301 v1845), ∀ (k0_h12 : k0_cond12 v1301 = 1#1), 8 ∣ (k0_mult22 v1845).toNat := fun v1301 v1845 k0_hw22 k0_h12 => k0_hw22.1 k0_h12
theorem k0_off22_inb : ∀ (v1301 : BitVec 32) (v1845 : BitVec 32) (k0_hw22 : k0_chk22 v1301 v1845), ∀ (k0_h12 : k0_cond12 v1301 = 1#1), ∀ a, (k0_off22 v1845) a + S1x256x512.size a ≤ S8x512x512.size a := fun v1301 v1845 k0_hw22 k0_h12 => k0_hw22.2 k0_h12

def k0_mult23 (v1868 : BitVec 32) : BitVec 32 :=
  v1868

def k0_off23 (v1868 : BitVec 32) : Fin 3 → Nat :=
  let c5_535 : Index := 5#32
  let v1869 : BitVec 32 := v1868
  let v1883 : Index := Scalar.indexCast v1869
  let c0_536 : Index := 0#32
  ![5, v1883.toNat, 0]

def k0_chk23 (v1301 : BitVec 32) (v1868 : BitVec 32) : Prop :=
  (∀ (k0_h12 : k0_cond12 v1301 = 1#1), 8 ∣ (k0_mult23 v1868).toNat) ∧
  (∀ (k0_h12 : k0_cond12 v1301 = 1#1), ∀ a, (k0_off23 v1868) a + S1x256x512.size a ≤ S8x512x512.size a)
theorem k0_mult23_dvd : ∀ (v1301 : BitVec 32) (v1868 : BitVec 32) (k0_hw23 : k0_chk23 v1301 v1868), ∀ (k0_h12 : k0_cond12 v1301 = 1#1), 8 ∣ (k0_mult23 v1868).toNat := fun v1301 v1868 k0_hw23 k0_h12 => k0_hw23.1 k0_h12
theorem k0_off23_inb : ∀ (v1301 : BitVec 32) (v1868 : BitVec 32) (k0_hw23 : k0_chk23 v1301 v1868), ∀ (k0_h12 : k0_cond12 v1301 = 1#1), ∀ a, (k0_off23 v1868) a + S1x256x512.size a ≤ S8x512x512.size a := fun v1301 v1868 k0_hw23 k0_h12 => k0_hw23.2 k0_h12

def k0_mult24 (v1891 : BitVec 32) : BitVec 32 :=
  v1891

def k0_off24 (v1891 : BitVec 32) : Fin 3 → Nat :=
  let c5_541 : Index := 5#32
  let v1892 : BitVec 32 := v1891
  let v1906 : Index := Scalar.indexCast v1892
  let c0_542 : Index := 0#32
  ![5, v1906.toNat, 0]

def k0_chk24 (v1301 : BitVec 32) (v1891 : BitVec 32) : Prop :=
  (∀ (k0_h12 : k0_cond12 v1301 = 1#1), 8 ∣ (k0_mult24 v1891).toNat) ∧
  (∀ (k0_h12 : k0_cond12 v1301 = 1#1), ∀ a, (k0_off24 v1891) a + S1x256x512.size a ≤ S8x512x512.size a)
theorem k0_mult24_dvd : ∀ (v1301 : BitVec 32) (v1891 : BitVec 32) (k0_hw24 : k0_chk24 v1301 v1891), ∀ (k0_h12 : k0_cond12 v1301 = 1#1), 8 ∣ (k0_mult24 v1891).toNat := fun v1301 v1891 k0_hw24 k0_h12 => k0_hw24.1 k0_h12
theorem k0_off24_inb : ∀ (v1301 : BitVec 32) (v1891 : BitVec 32) (k0_hw24 : k0_chk24 v1301 v1891), ∀ (k0_h12 : k0_cond12 v1301 = 1#1), ∀ a, (k0_off24 v1891) a + S1x256x512.size a ≤ S8x512x512.size a := fun v1301 v1891 k0_hw24 k0_h12 => k0_hw24.2 k0_h12

def k0_mult25 (v1822 : BitVec 32) : BitVec 32 :=
  v1822
def k0_cond14 (v1519 : BitVec 32) : BitVec 1 :=
  let c0_i32_439 : BitVec 32 := 0#32
  let v1523 : BitVec 1 := Scalar.cmpi .eq v1519 c0_i32_439
  let v1524 : BitVec 32 := Scalar.extui v1523
  let c0_i32_440 : BitVec 32 := 0#32
  let v1525 : BitVec 1 := Scalar.cmpi .ne v1524 c0_i32_440
  v1525

def k0_off25 (v1822 : BitVec 32) : Fin 3 → Nat :=
  let c6_522 : Index := 6#32
  let v1823 : BitVec 32 := v1822
  let v1837 : Index := Scalar.indexCast v1823
  let c0_523 : Index := 0#32
  ![6, v1837.toNat, 0]

def k0_chk25 (v1519 : BitVec 32) (v1822 : BitVec 32) : Prop :=
  (∀ (k0_h14 : k0_cond14 v1519 = 1#1), 8 ∣ (k0_mult25 v1822).toNat) ∧
  (∀ (k0_h14 : k0_cond14 v1519 = 1#1), ∀ a, (k0_off25 v1822) a + S1x256x512.size a ≤ S8x512x512.size a)
theorem k0_mult25_dvd : ∀ (v1519 : BitVec 32) (v1822 : BitVec 32) (k0_hw25 : k0_chk25 v1519 v1822), ∀ (k0_h14 : k0_cond14 v1519 = 1#1), 8 ∣ (k0_mult25 v1822).toNat := fun v1519 v1822 k0_hw25 k0_h14 => k0_hw25.1 k0_h14
theorem k0_off25_inb : ∀ (v1519 : BitVec 32) (v1822 : BitVec 32) (k0_hw25 : k0_chk25 v1519 v1822), ∀ (k0_h14 : k0_cond14 v1519 = 1#1), ∀ a, (k0_off25 v1822) a + S1x256x512.size a ≤ S8x512x512.size a := fun v1519 v1822 k0_hw25 k0_h14 => k0_hw25.2 k0_h14

def k0_mult26 (v1845 : BitVec 32) : BitVec 32 :=
  v1845

def k0_off26 (v1845 : BitVec 32) : Fin 3 → Nat :=
  let c6_529 : Index := 6#32
  let v1846 : BitVec 32 := v1845
  let v1860 : Index := Scalar.indexCast v1846
  let c0_530 : Index := 0#32
  ![6, v1860.toNat, 0]

def k0_chk26 (v1519 : BitVec 32) (v1845 : BitVec 32) : Prop :=
  (∀ (k0_h14 : k0_cond14 v1519 = 1#1), 8 ∣ (k0_mult26 v1845).toNat) ∧
  (∀ (k0_h14 : k0_cond14 v1519 = 1#1), ∀ a, (k0_off26 v1845) a + S1x256x512.size a ≤ S8x512x512.size a)
theorem k0_mult26_dvd : ∀ (v1519 : BitVec 32) (v1845 : BitVec 32) (k0_hw26 : k0_chk26 v1519 v1845), ∀ (k0_h14 : k0_cond14 v1519 = 1#1), 8 ∣ (k0_mult26 v1845).toNat := fun v1519 v1845 k0_hw26 k0_h14 => k0_hw26.1 k0_h14
theorem k0_off26_inb : ∀ (v1519 : BitVec 32) (v1845 : BitVec 32) (k0_hw26 : k0_chk26 v1519 v1845), ∀ (k0_h14 : k0_cond14 v1519 = 1#1), ∀ a, (k0_off26 v1845) a + S1x256x512.size a ≤ S8x512x512.size a := fun v1519 v1845 k0_hw26 k0_h14 => k0_hw26.2 k0_h14

def k0_mult27 (v1868 : BitVec 32) : BitVec 32 :=
  v1868

def k0_off27 (v1868 : BitVec 32) : Fin 3 → Nat :=
  let c6_535 : Index := 6#32
  let v1869 : BitVec 32 := v1868
  let v1883 : Index := Scalar.indexCast v1869
  let c0_536 : Index := 0#32
  ![6, v1883.toNat, 0]

def k0_chk27 (v1519 : BitVec 32) (v1868 : BitVec 32) : Prop :=
  (∀ (k0_h14 : k0_cond14 v1519 = 1#1), 8 ∣ (k0_mult27 v1868).toNat) ∧
  (∀ (k0_h14 : k0_cond14 v1519 = 1#1), ∀ a, (k0_off27 v1868) a + S1x256x512.size a ≤ S8x512x512.size a)
theorem k0_mult27_dvd : ∀ (v1519 : BitVec 32) (v1868 : BitVec 32) (k0_hw27 : k0_chk27 v1519 v1868), ∀ (k0_h14 : k0_cond14 v1519 = 1#1), 8 ∣ (k0_mult27 v1868).toNat := fun v1519 v1868 k0_hw27 k0_h14 => k0_hw27.1 k0_h14
theorem k0_off27_inb : ∀ (v1519 : BitVec 32) (v1868 : BitVec 32) (k0_hw27 : k0_chk27 v1519 v1868), ∀ (k0_h14 : k0_cond14 v1519 = 1#1), ∀ a, (k0_off27 v1868) a + S1x256x512.size a ≤ S8x512x512.size a := fun v1519 v1868 k0_hw27 k0_h14 => k0_hw27.2 k0_h14

def k0_mult28 (v1891 : BitVec 32) : BitVec 32 :=
  v1891

def k0_off28 (v1891 : BitVec 32) : Fin 3 → Nat :=
  let c6_541 : Index := 6#32
  let v1892 : BitVec 32 := v1891
  let v1906 : Index := Scalar.indexCast v1892
  let c0_542 : Index := 0#32
  ![6, v1906.toNat, 0]

def k0_chk28 (v1519 : BitVec 32) (v1891 : BitVec 32) : Prop :=
  (∀ (k0_h14 : k0_cond14 v1519 = 1#1), 8 ∣ (k0_mult28 v1891).toNat) ∧
  (∀ (k0_h14 : k0_cond14 v1519 = 1#1), ∀ a, (k0_off28 v1891) a + S1x256x512.size a ≤ S8x512x512.size a)
theorem k0_mult28_dvd : ∀ (v1519 : BitVec 32) (v1891 : BitVec 32) (k0_hw28 : k0_chk28 v1519 v1891), ∀ (k0_h14 : k0_cond14 v1519 = 1#1), 8 ∣ (k0_mult28 v1891).toNat := fun v1519 v1891 k0_hw28 k0_h14 => k0_hw28.1 k0_h14
theorem k0_off28_inb : ∀ (v1519 : BitVec 32) (v1891 : BitVec 32) (k0_hw28 : k0_chk28 v1519 v1891), ∀ (k0_h14 : k0_cond14 v1519 = 1#1), ∀ a, (k0_off28 v1891) a + S1x256x512.size a ≤ S8x512x512.size a := fun v1519 v1891 k0_hw28 k0_h14 => k0_hw28.2 k0_h14

def k0_mult29 (v1822 : BitVec 32) : BitVec 32 :=
  v1822
def k0_cond16 (v1737 : BitVec 32) : BitVec 1 :=
  let c0_i32_503 : BitVec 32 := 0#32
  let v1741 : BitVec 1 := Scalar.cmpi .eq v1737 c0_i32_503
  let v1742 : BitVec 32 := Scalar.extui v1741
  let c0_i32_504 : BitVec 32 := 0#32
  let v1743 : BitVec 1 := Scalar.cmpi .ne v1742 c0_i32_504
  v1743

def k0_off29 (v1822 : BitVec 32) : Fin 3 → Nat :=
  let c7_522 : Index := 7#32
  let v1823 : BitVec 32 := v1822
  let v1837 : Index := Scalar.indexCast v1823
  let c0_523 : Index := 0#32
  ![7, v1837.toNat, 0]

def k0_chk29 (v1737 : BitVec 32) (v1822 : BitVec 32) : Prop :=
  (∀ (k0_h16 : k0_cond16 v1737 = 1#1), 8 ∣ (k0_mult29 v1822).toNat) ∧
  (∀ (k0_h16 : k0_cond16 v1737 = 1#1), ∀ a, (k0_off29 v1822) a + S1x256x512.size a ≤ S8x512x512.size a)
theorem k0_mult29_dvd : ∀ (v1737 : BitVec 32) (v1822 : BitVec 32) (k0_hw29 : k0_chk29 v1737 v1822), ∀ (k0_h16 : k0_cond16 v1737 = 1#1), 8 ∣ (k0_mult29 v1822).toNat := fun v1737 v1822 k0_hw29 k0_h16 => k0_hw29.1 k0_h16
theorem k0_off29_inb : ∀ (v1737 : BitVec 32) (v1822 : BitVec 32) (k0_hw29 : k0_chk29 v1737 v1822), ∀ (k0_h16 : k0_cond16 v1737 = 1#1), ∀ a, (k0_off29 v1822) a + S1x256x512.size a ≤ S8x512x512.size a := fun v1737 v1822 k0_hw29 k0_h16 => k0_hw29.2 k0_h16

def k0_mult30 (v1845 : BitVec 32) : BitVec 32 :=
  v1845

def k0_off30 (v1845 : BitVec 32) : Fin 3 → Nat :=
  let c7_529 : Index := 7#32
  let v1846 : BitVec 32 := v1845
  let v1860 : Index := Scalar.indexCast v1846
  let c0_530 : Index := 0#32
  ![7, v1860.toNat, 0]

def k0_chk30 (v1737 : BitVec 32) (v1845 : BitVec 32) : Prop :=
  (∀ (k0_h16 : k0_cond16 v1737 = 1#1), 8 ∣ (k0_mult30 v1845).toNat) ∧
  (∀ (k0_h16 : k0_cond16 v1737 = 1#1), ∀ a, (k0_off30 v1845) a + S1x256x512.size a ≤ S8x512x512.size a)
theorem k0_mult30_dvd : ∀ (v1737 : BitVec 32) (v1845 : BitVec 32) (k0_hw30 : k0_chk30 v1737 v1845), ∀ (k0_h16 : k0_cond16 v1737 = 1#1), 8 ∣ (k0_mult30 v1845).toNat := fun v1737 v1845 k0_hw30 k0_h16 => k0_hw30.1 k0_h16
theorem k0_off30_inb : ∀ (v1737 : BitVec 32) (v1845 : BitVec 32) (k0_hw30 : k0_chk30 v1737 v1845), ∀ (k0_h16 : k0_cond16 v1737 = 1#1), ∀ a, (k0_off30 v1845) a + S1x256x512.size a ≤ S8x512x512.size a := fun v1737 v1845 k0_hw30 k0_h16 => k0_hw30.2 k0_h16

def k0_mult31 (v1868 : BitVec 32) : BitVec 32 :=
  v1868

def k0_off31 (v1868 : BitVec 32) : Fin 3 → Nat :=
  let c7_535 : Index := 7#32
  let v1869 : BitVec 32 := v1868
  let v1883 : Index := Scalar.indexCast v1869
  let c0_536 : Index := 0#32
  ![7, v1883.toNat, 0]

def k0_chk31 (v1737 : BitVec 32) (v1868 : BitVec 32) : Prop :=
  (∀ (k0_h16 : k0_cond16 v1737 = 1#1), 8 ∣ (k0_mult31 v1868).toNat) ∧
  (∀ (k0_h16 : k0_cond16 v1737 = 1#1), ∀ a, (k0_off31 v1868) a + S1x256x512.size a ≤ S8x512x512.size a)
theorem k0_mult31_dvd : ∀ (v1737 : BitVec 32) (v1868 : BitVec 32) (k0_hw31 : k0_chk31 v1737 v1868), ∀ (k0_h16 : k0_cond16 v1737 = 1#1), 8 ∣ (k0_mult31 v1868).toNat := fun v1737 v1868 k0_hw31 k0_h16 => k0_hw31.1 k0_h16
theorem k0_off31_inb : ∀ (v1737 : BitVec 32) (v1868 : BitVec 32) (k0_hw31 : k0_chk31 v1737 v1868), ∀ (k0_h16 : k0_cond16 v1737 = 1#1), ∀ a, (k0_off31 v1868) a + S1x256x512.size a ≤ S8x512x512.size a := fun v1737 v1868 k0_hw31 k0_h16 => k0_hw31.2 k0_h16

def k0_mult32 (v1891 : BitVec 32) : BitVec 32 :=
  v1891

def k0_off32 (v1891 : BitVec 32) : Fin 3 → Nat :=
  let c7_541 : Index := 7#32
  let v1892 : BitVec 32 := v1891
  let v1906 : Index := Scalar.indexCast v1892
  let c0_542 : Index := 0#32
  ![7, v1906.toNat, 0]

def k0_chk32 (v1737 : BitVec 32) (v1891 : BitVec 32) : Prop :=
  (∀ (k0_h16 : k0_cond16 v1737 = 1#1), 8 ∣ (k0_mult32 v1891).toNat) ∧
  (∀ (k0_h16 : k0_cond16 v1737 = 1#1), ∀ a, (k0_off32 v1891) a + S1x256x512.size a ≤ S8x512x512.size a)
theorem k0_mult32_dvd : ∀ (v1737 : BitVec 32) (v1891 : BitVec 32) (k0_hw32 : k0_chk32 v1737 v1891), ∀ (k0_h16 : k0_cond16 v1737 = 1#1), 8 ∣ (k0_mult32 v1891).toNat := fun v1737 v1891 k0_hw32 k0_h16 => k0_hw32.1 k0_h16
theorem k0_off32_inb : ∀ (v1737 : BitVec 32) (v1891 : BitVec 32) (k0_hw32 : k0_chk32 v1737 v1891), ∀ (k0_h16 : k0_cond16 v1737 = 1#1), ∀ a, (k0_off32 v1891) a + S1x256x512.size a ≤ S8x512x512.size a := fun v1737 v1891 k0_hw32 k0_h16 => k0_hw32.2 k0_h16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x512x512x32 : Shape := ⟨4, ![4, 512, 512, 32]⟩
abbrev S_ : Shape := ⟨0, ![]⟩
abbrev S4x512x32 : Shape := ⟨3, ![4, 512, 32]⟩
abbrev S512 : Shape := ⟨1, ![512]⟩
abbrev S1x512x1 : Shape := ⟨3, ![1, 512, 1]⟩
abbrev S4x32 : Shape := ⟨2, ![4, 32]⟩
abbrev S4x32x512x512 : Shape := ⟨4, ![4, 32, 512, 512]⟩
abbrev S128x512x512 : Shape := ⟨3, ![128, 512, 512]⟩
abbrev S128 : Shape := ⟨1, ![128]⟩
abbrev S512x1 : Shape := ⟨2, ![512, 1]⟩
abbrev S1x512 : Shape := ⟨2, ![1, 512]⟩
abbrev S128x1x1 : Shape := ⟨3, ![128, 1, 1]⟩
abbrev S128x512x1 : Shape := ⟨3, ![128, 512, 1]⟩
abbrev S1x1x512 : Shape := ⟨3, ![1, 1, 512]⟩
abbrev S128x1x512 : Shape := ⟨3, ![128, 1, 512]⟩
abbrev S128x512x512x1 : Shape := ⟨4, ![128, 512, 512, 1]⟩
abbrev S128x512x512x2 : Shape := ⟨4, ![128, 512, 512, 2]⟩
abbrev S512x512 : Shape := ⟨2, ![512, 512]⟩

abbrev nBuf : Space → Nat
  | .hbm => 467
  | .vmem => 0
  | .smem => 0
  | _ => 0

abbrev hbmTy0_0 (i : Nat) : BufTy := match i % 128 with
  | 0 => ⟨S4x512x512x32, .f32⟩
  | 1 => ⟨S_, .f32⟩
  | 2 => ⟨S4x512x32, .f32⟩
  | 3 => ⟨S4x512x32, .f32⟩
  | 4 => ⟨S4x512x32, .f32⟩
  | 5 => ⟨S_, .f32⟩
  | 6 => ⟨S4x512x32, .f32⟩
  | 7 => ⟨S4x512x32, .f32⟩
  | 8 => ⟨S_, .f32⟩
  | 9 => ⟨S4x512x32, .f32⟩
  | 10 => ⟨S4x512x32, .f32⟩
  | 11 => ⟨S_, .f32⟩
  | 12 => ⟨S4x512x32, .f32⟩
  | 13 => ⟨S4x512x32, .f32⟩
  | 14 => ⟨S4x512x32, .f32⟩
  | 15 => ⟨S4x512x32, .i32⟩
  | 16 => ⟨S_, .f32⟩
  | 17 => ⟨S4x512x32, .f32⟩
  | 18 => ⟨S4x512x32, .f32⟩
  | 19 => ⟨S4x512x32, .f32⟩
  | 20 => ⟨S_, .f32⟩
  | 21 => ⟨S4x512x32, .f32⟩
  | 22 => ⟨S4x512x32, .f32⟩
  | 23 => ⟨S_, .f32⟩
  | 24 => ⟨S4x512x32, .f32⟩
  | 25 => ⟨S4x512x32, .f32⟩
  | 26 => ⟨S_, .f32⟩
  | 27 => ⟨S4x512x32, .f32⟩
  | 28 => ⟨S4x512x32, .f32⟩
  | 29 => ⟨S4x512x32, .f32⟩
  | 30 => ⟨S4x512x32, .i32⟩
  | 31 => ⟨S512, .i32⟩
  | 32 => ⟨S512, .i32⟩
  | 33 => ⟨S512, .i32⟩
  | 34 => ⟨S1x512x1, .i32⟩
  | 35 => ⟨S4x512x32, .i32⟩
  | 36 => ⟨S4x512x32, .i32⟩
  | 37 => ⟨S4x512x32, .i32⟩
  | 38 => ⟨S_, .i32⟩
  | 39 => ⟨S_, .i32⟩
  | 40 => ⟨S4x32, .i32⟩
  | 41 => ⟨S4x32, .i32⟩
  | 42 => ⟨S1x512x1, .i32⟩
  | 43 => ⟨S4x512x32, .i32⟩
  | 44 => ⟨S4x512x32, .i32⟩
  | 45 => ⟨S4x512x32, .i32⟩
  | 46 => ⟨S_, .i32⟩
  | 47 => ⟨S_, .i32⟩
  | 48 => ⟨S4x32, .i32⟩
  | 49 => ⟨S4x32, .i32⟩
  | 50 => ⟨S512, .i32⟩
  | 51 => ⟨S1x512x1, .i32⟩
  | 52 => ⟨S4x512x32, .i32⟩
  | 53 => ⟨S4x512x32, .i32⟩
  | 54 => ⟨S4x512x32, .i32⟩
  | 55 => ⟨S_, .i32⟩
  | 56 => ⟨S_, .i32⟩
  | 57 => ⟨S4x32, .i32⟩
  | 58 => ⟨S4x32, .i32⟩
  | 59 => ⟨S1x512x1, .i32⟩
  | 60 => ⟨S4x512x32, .i32⟩
  | 61 => ⟨S4x512x32, .i32⟩
  | 62 => ⟨S4x512x32, .i32⟩
  | 63 => ⟨S_, .i32⟩
  | 64 => ⟨S_, .i32⟩
  | 65 => ⟨S4x32, .i32⟩
  | 66 => ⟨S4x32, .i32⟩
  | 67 => ⟨S4x32x512x512, .f32⟩
  | 68 => ⟨S128x512x512, .f32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S128, .i32⟩
  | 78 => ⟨S_, .i32⟩
  | 79 => ⟨S128, .i32⟩
  | 80 => ⟨S128, .i32⟩
  | 81 => ⟨S_, .i32⟩
  | 82 => ⟨S128, .i32⟩
  | 83 => ⟨S128, .i32⟩
  | 84 => ⟨S_, .i32⟩
  | 85 => ⟨S128, .i32⟩
  | 86 => ⟨S128, .i32⟩
  | 87 => ⟨S128, .f32⟩
  | 88 => ⟨S128, .f32⟩
  | 89 => ⟨S128, .f32⟩
  | 90 => ⟨S128, .f32⟩
  | 91 => ⟨S128, .f32⟩
  | 92 => ⟨S128, .f32⟩
  | 93 => ⟨S128, .f32⟩
  | 94 => ⟨S128, .f32⟩
  | 95 => ⟨S128, .f32⟩
  | 96 => ⟨S128, .f32⟩
  | 97 => ⟨S128, .i32⟩
  | 98 => ⟨S128, .f32⟩
  | 99 => ⟨S128, .f32⟩
  | 100 => ⟨S128, .f32⟩
  | 101 => ⟨S128, .i32⟩
  | 102 => ⟨S512, .i32⟩
  | 103 => ⟨S512x1, .i32⟩
  | 104 => ⟨S512, .i32⟩
  | 105 => ⟨S1x512, .i32⟩
  | 106 => ⟨S_, .i32⟩
  | 107 => ⟨S128, .i32⟩
  | 108 => ⟨S128, .i32⟩
  | 109 => ⟨S_, .i32⟩
  | 110 => ⟨S_, .i32⟩
  | 111 => ⟨S128, .i32⟩
  | 112 => ⟨S128, .i32⟩
  | 113 => ⟨S128, .i32⟩
  | 114 => ⟨S_, .i32⟩
  | 115 => ⟨S128, .i32⟩
  | 116 => ⟨S128, .i1⟩
  | 117 => ⟨S128, .i32⟩
  | 118 => ⟨S128, .i32⟩
  | 119 => ⟨S_, .i32⟩
  | 120 => ⟨S128, .i32⟩
  | 121 => ⟨S128, .i1⟩
  | 122 => ⟨S128, .i1⟩
  | 123 => ⟨S_, .i32⟩
  | 124 => ⟨S128, .i32⟩
  | 125 => ⟨S128, .i32⟩
  | 126 => ⟨S128, .i32⟩
  | 127 => ⟨S_, .i32⟩
  | _ => ⟨S4x512x512x32, .f32⟩

abbrev hbmTy0_1 (i : Nat) : BufTy := match i % 128 with
  | 0 => ⟨S128, .i32⟩
  | 1 => ⟨S128, .i32⟩
  | 2 => ⟨S1x512x1, .i32⟩
  | 3 => ⟨S128x1x1, .i32⟩
  | 4 => ⟨S128x512x1, .i32⟩
  | 5 => ⟨S128x512x1, .i32⟩
  | 6 => ⟨S128x512x1, .i32⟩
  | 7 => ⟨S_, .i32⟩
  | 8 => ⟨S128, .i32⟩
  | 9 => ⟨S128, .i32⟩
  | 10 => ⟨S_, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i1⟩
  | 18 => ⟨S128, .i32⟩
  | 19 => ⟨S128, .i32⟩
  | 20 => ⟨S_, .i32⟩
  | 21 => ⟨S128, .i32⟩
  | 22 => ⟨S128, .i1⟩
  | 23 => ⟨S128, .i1⟩
  | 24 => ⟨S_, .i32⟩
  | 25 => ⟨S128, .i32⟩
  | 26 => ⟨S128, .i32⟩
  | 27 => ⟨S128, .i32⟩
  | 28 => ⟨S_, .i32⟩
  | 29 => ⟨S128, .i32⟩
  | 30 => ⟨S128, .i32⟩
  | 31 => ⟨S128x1x1, .i32⟩
  | 32 => ⟨S128x512x1, .i32⟩
  | 33 => ⟨S128x512x1, .i32⟩
  | 34 => ⟨S_, .i32⟩
  | 35 => ⟨S128, .i32⟩
  | 36 => ⟨S128, .i32⟩
  | 37 => ⟨S_, .i32⟩
  | 38 => ⟨S_, .i32⟩
  | 39 => ⟨S128, .i32⟩
  | 40 => ⟨S128, .i32⟩
  | 41 => ⟨S128, .i32⟩
  | 42 => ⟨S_, .i32⟩
  | 43 => ⟨S128, .i32⟩
  | 44 => ⟨S128, .i1⟩
  | 45 => ⟨S128, .i32⟩
  | 46 => ⟨S128, .i32⟩
  | 47 => ⟨S_, .i32⟩
  | 48 => ⟨S128, .i32⟩
  | 49 => ⟨S128, .i1⟩
  | 50 => ⟨S128, .i1⟩
  | 51 => ⟨S_, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S1x1x512, .i32⟩
  | 59 => ⟨S128x1x1, .i32⟩
  | 60 => ⟨S128x1x512, .i32⟩
  | 61 => ⟨S128x1x512, .i32⟩
  | 62 => ⟨S128x1x512, .i32⟩
  | 63 => ⟨S_, .i32⟩
  | 64 => ⟨S128, .i32⟩
  | 65 => ⟨S128, .i32⟩
  | 66 => ⟨S_, .i32⟩
  | 67 => ⟨S_, .i32⟩
  | 68 => ⟨S128, .i32⟩
  | 69 => ⟨S128, .i32⟩
  | 70 => ⟨S128, .i32⟩
  | 71 => ⟨S_, .i32⟩
  | 72 => ⟨S128, .i32⟩
  | 73 => ⟨S128, .i1⟩
  | 74 => ⟨S128, .i32⟩
  | 75 => ⟨S128, .i32⟩
  | 76 => ⟨S_, .i32⟩
  | 77 => ⟨S128, .i32⟩
  | 78 => ⟨S128, .i1⟩
  | 79 => ⟨S128, .i1⟩
  | 80 => ⟨S_, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S128x1x1, .i32⟩
  | 88 => ⟨S128x1x512, .i32⟩
  | 89 => ⟨S128x1x512, .i32⟩
  | 90 => ⟨S_, .i32⟩
  | 91 => ⟨S128x512x1, .i32⟩
  | 92 => ⟨S128x512x1, .i1⟩
  | 93 => ⟨S128x1x1, .i32⟩
  | 94 => ⟨S128x512x1, .i32⟩
  | 95 => ⟨S128x512x1, .i1⟩
  | 96 => ⟨S128x512x1, .i1⟩
  | 97 => ⟨S_, .i32⟩
  | 98 => ⟨S128x1x512, .i32⟩
  | 99 => ⟨S128x1x512, .i1⟩
  | 100 => ⟨S128x512x512, .i1⟩
  | 101 => ⟨S128x512x512, .i1⟩
  | 102 => ⟨S128x512x512, .i1⟩
  | 103 => ⟨S128x1x1, .i32⟩
  | 104 => ⟨S128x1x512, .i32⟩
  | 105 => ⟨S128x1x512, .i1⟩
  | 106 => ⟨S128x512x512, .i1⟩
  | 107 => ⟨S128x512x512, .i1⟩
  | 108 => ⟨S128x512x1, .f32⟩
  | 109 => ⟨S128, .f32⟩
  | 110 => ⟨S128, .f32⟩
  | 111 => ⟨S128, .f32⟩
  | 112 => ⟨S128x1x1, .f32⟩
  | 113 => ⟨S128x512x1, .f32⟩
  | 114 => ⟨S128x512x1, .f32⟩
  | 115 => ⟨S128x1x512, .f32⟩
  | 116 => ⟨S128, .f32⟩
  | 117 => ⟨S128, .f32⟩
  | 118 => ⟨S128, .f32⟩
  | 119 => ⟨S128x1x1, .f32⟩
  | 120 => ⟨S128x1x512, .f32⟩
  | 121 => ⟨S128x1x512, .f32⟩
  | 122 => ⟨S128x512x1, .f32⟩
  | 123 => ⟨S128x512x1, .i32⟩
  | 124 => ⟨S_, .i32⟩
  | 125 => ⟨S128, .i32⟩
  | 126 => ⟨S128, .i32⟩
  | 127 => ⟨S_, .i32⟩
  | _ => ⟨S4x512x512x32, .f32⟩

abbrev hbmTy0_2 (i : Nat) : BufTy := match i % 128 with
  | 0 => ⟨S_, .i32⟩
  | 1 => ⟨S128x512x1, .i32⟩
  | 2 => ⟨S128x512x1, .i32⟩
  | 3 => ⟨S128x1x1, .i32⟩
  | 4 => ⟨S128x512x1, .i32⟩
  | 5 => ⟨S128x512x1, .i32⟩
  | 6 => ⟨S128x1x512, .f32⟩
  | 7 => ⟨S128x1x512, .i32⟩
  | 8 => ⟨S_, .i32⟩
  | 9 => ⟨S128, .i32⟩
  | 10 => ⟨S128, .i32⟩
  | 11 => ⟨S_, .i32⟩
  | 12 => ⟨S_, .i32⟩
  | 13 => ⟨S128x1x512, .i32⟩
  | 14 => ⟨S128x1x512, .i32⟩
  | 15 => ⟨S128x1x1, .i32⟩
  | 16 => ⟨S128x1x512, .i32⟩
  | 17 => ⟨S128x1x512, .i32⟩
  | 18 => ⟨S_, .i32⟩
  | 19 => ⟨S128x512x1, .i32⟩
  | 20 => ⟨S128x512x1, .i32⟩
  | 21 => ⟨S_, .i32⟩
  | 22 => ⟨S128, .i32⟩
  | 23 => ⟨S128, .i32⟩
  | 24 => ⟨S128x1x1, .i32⟩
  | 25 => ⟨S128x512x1, .i32⟩
  | 26 => ⟨S128x512x1, .i32⟩
  | 27 => ⟨S_, .i32⟩
  | 28 => ⟨S128x1x512, .i32⟩
  | 29 => ⟨S128x1x512, .i32⟩
  | 30 => ⟨S_, .i32⟩
  | 31 => ⟨S128, .i32⟩
  | 32 => ⟨S128, .i32⟩
  | 33 => ⟨S128x1x1, .i32⟩
  | 34 => ⟨S128x1x512, .i32⟩
  | 35 => ⟨S128x1x512, .i32⟩
  | 36 => ⟨S128x512x1, .f32⟩
  | 37 => ⟨S128x512x1, .f32⟩
  | 38 => ⟨S_, .f32⟩
  | 39 => ⟨S_, .f32⟩
  | 40 => ⟨S_, .f32⟩
  | 41 => ⟨S128x512x1, .f32⟩
  | 42 => ⟨S128x512x1, .f32⟩
  | 43 => ⟨S_, .f32⟩
  | 44 => ⟨S128x512x1, .f32⟩
  | 45 => ⟨S128x512x1, .f32⟩
  | 46 => ⟨S128x1x512, .f32⟩
  | 47 => ⟨S128x1x512, .f32⟩
  | 48 => ⟨S_, .f32⟩
  | 49 => ⟨S_, .f32⟩
  | 50 => ⟨S_, .f32⟩
  | 51 => ⟨S128x1x512, .f32⟩
  | 52 => ⟨S128x1x512, .f32⟩
  | 53 => ⟨S_, .f32⟩
  | 54 => ⟨S128x1x512, .f32⟩
  | 55 => ⟨S128x1x512, .f32⟩
  | 56 => ⟨S128x1x1, .i32⟩
  | 57 => ⟨S128x512x1, .i32⟩
  | 58 => ⟨S128x512x1, .i32⟩
  | 59 => ⟨S_, .i32⟩
  | 60 => ⟨S_, .i32⟩
  | 61 => ⟨S_, .i32⟩
  | 62 => ⟨S128x512x1, .i32⟩
  | 63 => ⟨S128x512x1, .i32⟩
  | 64 => ⟨S_, .i32⟩
  | 65 => ⟨S128x512x1, .i32⟩
  | 66 => ⟨S128x512x1, .i32⟩
  | 67 => ⟨S128x1x1, .i32⟩
  | 68 => ⟨S128x512x1, .i32⟩
  | 69 => ⟨S128x512x1, .i32⟩
  | 70 => ⟨S_, .i32⟩
  | 71 => ⟨S_, .i32⟩
  | 72 => ⟨S_, .i32⟩
  | 73 => ⟨S128x512x1, .i32⟩
  | 74 => ⟨S128x512x1, .i32⟩
  | 75 => ⟨S_, .i32⟩
  | 76 => ⟨S128x512x1, .i32⟩
  | 77 => ⟨S128x512x1, .i32⟩
  | 78 => ⟨S128x1x1, .i32⟩
  | 79 => ⟨S128x1x512, .i32⟩
  | 80 => ⟨S128x1x512, .i32⟩
  | 81 => ⟨S_, .i32⟩
  | 82 => ⟨S_, .i32⟩
  | 83 => ⟨S_, .i32⟩
  | 84 => ⟨S128x1x512, .i32⟩
  | 85 => ⟨S128x1x512, .i32⟩
  | 86 => ⟨S_, .i32⟩
  | 87 => ⟨S128x1x512, .i32⟩
  | 88 => ⟨S128x1x512, .i32⟩
  | 89 => ⟨S128x1x1, .i32⟩
  | 90 => ⟨S128x1x512, .i32⟩
  | 91 => ⟨S128x1x512, .i32⟩
  | 92 => ⟨S_, .i32⟩
  | 93 => ⟨S_, .i32⟩
  | 94 => ⟨S_, .i32⟩
  | 95 => ⟨S128x1x512, .i32⟩
  | 96 => ⟨S128x1x512, .i32⟩
  | 97 => ⟨S_, .i32⟩
  | 98 => ⟨S128x1x512, .i32⟩
  | 99 => ⟨S128x1x512, .i32⟩
  | 100 => ⟨S_, .i32⟩
  | 101 => ⟨S128x512x1, .i32⟩
  | 102 => ⟨S128x512x1, .i1⟩
  | 103 => ⟨S_, .i32⟩
  | 104 => ⟨S128x512x1, .i32⟩
  | 105 => ⟨S128x512x1, .i32⟩
  | 106 => ⟨S128x512x1, .i32⟩
  | 107 => ⟨S_, .i32⟩
  | 108 => ⟨S128x1x512, .i32⟩
  | 109 => ⟨S128x1x512, .i1⟩
  | 110 => ⟨S_, .i32⟩
  | 111 => ⟨S128x1x512, .i32⟩
  | 112 => ⟨S128x1x512, .i32⟩
  | 113 => ⟨S128x1x512, .i32⟩
  | 114 => ⟨S128x512x512, .i32⟩
  | 115 => ⟨S128x512x512, .i32⟩
  | 116 => ⟨S128x512x512x1, .i32⟩
  | 117 => ⟨S128x512x512x1, .i32⟩
  | 118 => ⟨S128x512x512x2, .i32⟩
  | 119 => ⟨S128x512x512, .f32⟩
  | 120 => ⟨S_, .i32⟩
  | 121 => ⟨S128x512x1, .i32⟩
  | 122 => ⟨S128x512x1, .i1⟩
  | 123 => ⟨S_, .i32⟩
  | 124 => ⟨S128x512x1, .i32⟩
  | 125 => ⟨S128x512x1, .i32⟩
  | 126 => ⟨S128x512x1, .i32⟩
  | 127 => ⟨S_, .i32⟩
  | _ => ⟨S4x512x512x32, .f32⟩

abbrev hbmTy0_3 (i : Nat) : BufTy := match i % 128 with
  | 0 => ⟨S128x1x512, .i32⟩
  | 1 => ⟨S128x1x512, .i1⟩
  | 2 => ⟨S_, .i32⟩
  | 3 => ⟨S128x1x512, .i32⟩
  | 4 => ⟨S128x1x512, .i32⟩
  | 5 => ⟨S128x1x512, .i32⟩
  | 6 => ⟨S128x512x512, .i32⟩
  | 7 => ⟨S128x512x512, .i32⟩
  | 8 => ⟨S128x512x512x1, .i32⟩
  | 9 => ⟨S128x512x512x1, .i32⟩
  | 10 => ⟨S128x512x512x2, .i32⟩
  | 11 => ⟨S128x512x512, .f32⟩
  | 12 => ⟨S_, .i32⟩
  | 13 => ⟨S128x512x1, .i32⟩
  | 14 => ⟨S128x512x1, .i1⟩
  | 15 => ⟨S_, .i32⟩
  | 16 => ⟨S128x512x1, .i32⟩
  | 17 => ⟨S128x512x1, .i32⟩
  | 18 => ⟨S128x512x1, .i32⟩
  | 19 => ⟨S_, .i32⟩
  | 20 => ⟨S128x1x512, .i32⟩
  | 21 => ⟨S128x1x512, .i1⟩
  | 22 => ⟨S_, .i32⟩
  | 23 => ⟨S128x1x512, .i32⟩
  | 24 => ⟨S128x1x512, .i32⟩
  | 25 => ⟨S128x1x512, .i32⟩
  | 26 => ⟨S128x512x512, .i32⟩
  | 27 => ⟨S128x512x512, .i32⟩
  | 28 => ⟨S128x512x512x1, .i32⟩
  | 29 => ⟨S128x512x512x1, .i32⟩
  | 30 => ⟨S128x512x512x2, .i32⟩
  | 31 => ⟨S128x512x512, .f32⟩
  | 32 => ⟨S_, .i32⟩
  | 33 => ⟨S128x512x1, .i32⟩
  | 34 => ⟨S128x512x1, .i1⟩
  | 35 => ⟨S_, .i32⟩
  | 36 => ⟨S128x512x1, .i32⟩
  | 37 => ⟨S128x512x1, .i32⟩
  | 38 => ⟨S128x512x1, .i32⟩
  | 39 => ⟨S_, .i32⟩
  | 40 => ⟨S128x1x512, .i32⟩
  | 41 => ⟨S128x1x512, .i1⟩
  | 42 => ⟨S_, .i32⟩
  | 43 => ⟨S128x1x512, .i32⟩
  | 44 => ⟨S128x1x512, .i32⟩
  | 45 => ⟨S128x1x512, .i32⟩
  | 46 => ⟨S128x512x512, .i32⟩
  | 47 => ⟨S128x512x512, .i32⟩
  | 48 => ⟨S128x512x512x1, .i32⟩
  | 49 => ⟨S128x512x512x1, .i32⟩
  | 50 => ⟨S128x512x512x2, .i32⟩
  | 51 => ⟨S128x512x512, .f32⟩
  | 52 => ⟨S_, .f32⟩
  | 53 => ⟨S128x1x512, .f32⟩
  | 54 => ⟨S128x1x512, .f32⟩
  | 55 => ⟨S128x512x512, .f32⟩
  | 56 => ⟨S128x512x512, .f32⟩
  | 57 => ⟨S128x512x512, .f32⟩
  | 58 => ⟨S128x512x512, .f32⟩
  | 59 => ⟨S128x512x512, .f32⟩
  | 60 => ⟨S_, .f32⟩
  | 61 => ⟨S128x1x512, .f32⟩
  | 62 => ⟨S128x1x512, .f32⟩
  | 63 => ⟨S128x512x512, .f32⟩
  | 64 => ⟨S128x512x512, .f32⟩
  | 65 => ⟨S128x512x512, .f32⟩
  | 66 => ⟨S128x512x512, .f32⟩
  | 67 => ⟨S128x512x512, .f32⟩
  | 68 => ⟨S_, .f32⟩
  | 69 => ⟨S128x512x1, .f32⟩
  | 70 => ⟨S128x512x1, .f32⟩
  | 71 => ⟨S128x512x512, .f32⟩
  | 72 => ⟨S128x512x512, .f32⟩
  | 73 => ⟨S128x512x512, .f32⟩
  | 74 => ⟨S128x512x512, .f32⟩
  | 75 => ⟨S128x512x512, .f32⟩
  | 76 => ⟨S_, .f32⟩
  | 77 => ⟨S_, .f32⟩
  | 78 => ⟨S512x512, .f32⟩
  | 79 => ⟨S128x512x512, .f32⟩
  | 80 => ⟨S128x512x512, .f32⟩
  | 81 => ⟨S4x32x512x512, .f32⟩
  | 82 => ⟨S4x512x512x32, .f32⟩
  | _ => ⟨S4x512x512x32, .f32⟩

abbrev hbmTy (i : Nat) : BufTy := match i / 128 with
  | 0 => hbmTy0_0 i
  | 1 => hbmTy0_1 i
  | 2 => hbmTy0_2 i
  | 3 => hbmTy0_3 i
  | _ => ⟨S4x512x512x32, .f32⟩

abbrev bufTy : (tb : Table) → Fin (tcTables nBuf tb) → BufTy
  | .hbm, ⟨i, _⟩ => hbmTy i
  | _, _ => ⟨S4x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call2_v0 : Ref sig .tc := ⟨.hbm, 37, rfl⟩
abbrev main_call2_c : Ref sig .tc := ⟨.hbm, 38, rfl⟩
abbrev main_call2_c_0 : Ref sig .tc := ⟨.hbm, 39, rfl⟩
abbrev main_call2_v1_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call3_v0 : Ref sig .tc := ⟨.hbm, 45, rfl⟩
abbrev main_call3_c : Ref sig .tc := ⟨.hbm, 46, rfl⟩
abbrev main_call3_c_0 : Ref sig .tc := ⟨.hbm, 47, rfl⟩
abbrev main_call3_v1_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call4_v0 : Ref sig .tc := ⟨.hbm, 54, rfl⟩
abbrev main_call4_c : Ref sig .tc := ⟨.hbm, 55, rfl⟩
abbrev main_call4_c_0 : Ref sig .tc := ⟨.hbm, 56, rfl⟩
abbrev main_call4_v1_0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call5_v0 : Ref sig .tc := ⟨.hbm, 62, rfl⟩
abbrev main_call5_c : Ref sig .tc := ⟨.hbm, 63, rfl⟩
abbrev main_call5_c_0 : Ref sig .tc := ⟨.hbm, 64, rfl⟩
abbrev main_call5_v1_0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_7 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_10 : Ref sig .tc := ⟨.hbm, 106, rfl⟩
abbrev main_v77 : Ref sig .tc := ⟨.hbm, 107, rfl⟩
abbrev main_v78 : Ref sig .tc := ⟨.hbm, 108, rfl⟩
abbrev main_c_11 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_call8_v5 : Ref sig .tc := ⟨.hbm, 115, rfl⟩
abbrev main_call8_v6 : Ref sig .tc := ⟨.hbm, 116, rfl⟩
abbrev main_call8_v7 : Ref sig .tc := ⟨.hbm, 117, rfl⟩
abbrev main_call8_v8 : Ref sig .tc := ⟨.hbm, 118, rfl⟩
abbrev main_call8_c : Ref sig .tc := ⟨.hbm, 119, rfl⟩
abbrev main_call8_v9 : Ref sig .tc := ⟨.hbm, 120, rfl⟩
abbrev main_call8_v10 : Ref sig .tc := ⟨.hbm, 121, rfl⟩
abbrev main_call8_v11 : Ref sig .tc := ⟨.hbm, 122, rfl⟩
abbrev main_call8_c_0 : Ref sig .tc := ⟨.hbm, 123, rfl⟩
abbrev main_call8_v12 : Ref sig .tc := ⟨.hbm, 124, rfl⟩
abbrev main_call8_v13 : Ref sig .tc := ⟨.hbm, 125, rfl⟩
abbrev main_v79 : Ref sig .tc := ⟨.hbm, 126, rfl⟩
abbrev main_c_12 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_c_13 : Ref sig .tc := ⟨.hbm, 135, rfl⟩
abbrev main_v87 : Ref sig .tc := ⟨.hbm, 136, rfl⟩
abbrev main_v88 : Ref sig .tc := ⟨.hbm, 137, rfl⟩
abbrev main_c_14 : Ref sig .tc := ⟨.hbm, 138, rfl⟩
abbrev main_call9_v0 : Ref sig .tc := ⟨.hbm, 139, rfl⟩
abbrev main_call9_v1 : Ref sig .tc := ⟨.hbm, 140, rfl⟩
abbrev main_call9_v2 : Ref sig .tc := ⟨.hbm, 141, rfl⟩
abbrev main_call9_v3 : Ref sig .tc := ⟨.hbm, 142, rfl⟩
abbrev main_call9_v4 : Ref sig .tc := ⟨.hbm, 143, rfl⟩
abbrev main_call9_v5 : Ref sig .tc := ⟨.hbm, 144, rfl⟩
abbrev main_call9_v6 : Ref sig .tc := ⟨.hbm, 145, rfl⟩
abbrev main_call9_v7 : Ref sig .tc := ⟨.hbm, 146, rfl⟩
abbrev main_call9_v8 : Ref sig .tc := ⟨.hbm, 147, rfl⟩
abbrev main_call9_c : Ref sig .tc := ⟨.hbm, 148, rfl⟩
abbrev main_call9_v9 : Ref sig .tc := ⟨.hbm, 149, rfl⟩
abbrev main_call9_v10 : Ref sig .tc := ⟨.hbm, 150, rfl⟩
abbrev main_call9_v11 : Ref sig .tc := ⟨.hbm, 151, rfl⟩
abbrev main_call9_c_0 : Ref sig .tc := ⟨.hbm, 152, rfl⟩
abbrev main_call9_v12 : Ref sig .tc := ⟨.hbm, 153, rfl⟩
abbrev main_call9_v13 : Ref sig .tc := ⟨.hbm, 154, rfl⟩
abbrev main_v89 : Ref sig .tc := ⟨.hbm, 155, rfl⟩
abbrev main_c_15 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_c_16 : Ref sig .tc := ⟨.hbm, 162, rfl⟩
abbrev main_v95 : Ref sig .tc := ⟨.hbm, 163, rfl⟩
abbrev main_v96 : Ref sig .tc := ⟨.hbm, 164, rfl⟩
abbrev main_c_17 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_call10_v3 : Ref sig .tc := ⟨.hbm, 169, rfl⟩
abbrev main_call10_v4 : Ref sig .tc := ⟨.hbm, 170, rfl⟩
abbrev main_call10_v5 : Ref sig .tc := ⟨.hbm, 171, rfl⟩
abbrev main_call10_v6 : Ref sig .tc := ⟨.hbm, 172, rfl⟩
abbrev main_call10_v7 : Ref sig .tc := ⟨.hbm, 173, rfl⟩
abbrev main_call10_v8 : Ref sig .tc := ⟨.hbm, 174, rfl⟩
abbrev main_call10_c : Ref sig .tc := ⟨.hbm, 175, rfl⟩
abbrev main_call10_v9 : Ref sig .tc := ⟨.hbm, 176, rfl⟩
abbrev main_call10_v10 : Ref sig .tc := ⟨.hbm, 177, rfl⟩
abbrev main_call10_v11 : Ref sig .tc := ⟨.hbm, 178, rfl⟩
abbrev main_call10_c_0 : Ref sig .tc := ⟨.hbm, 179, rfl⟩
abbrev main_call10_v12 : Ref sig .tc := ⟨.hbm, 180, rfl⟩
abbrev main_call10_v13 : Ref sig .tc := ⟨.hbm, 181, rfl⟩
abbrev main_v97 : Ref sig .tc := ⟨.hbm, 182, rfl⟩
abbrev main_c_18 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_c_19 : Ref sig .tc := ⟨.hbm, 191, rfl⟩
abbrev main_v105 : Ref sig .tc := ⟨.hbm, 192, rfl⟩
abbrev main_v106 : Ref sig .tc := ⟨.hbm, 193, rfl⟩
abbrev main_c_20 : Ref sig .tc := ⟨.hbm, 194, rfl⟩
abbrev main_call11_v0 : Ref sig .tc := ⟨.hbm, 195, rfl⟩
abbrev main_call11_v1 : Ref sig .tc := ⟨.hbm, 196, rfl⟩
abbrev main_call11_v2 : Ref sig .tc := ⟨.hbm, 197, rfl⟩
abbrev main_call11_v3 : Ref sig .tc := ⟨.hbm, 198, rfl⟩
abbrev main_call11_v4 : Ref sig .tc := ⟨.hbm, 199, rfl⟩
abbrev main_call11_v5 : Ref sig .tc := ⟨.hbm, 200, rfl⟩
abbrev main_call11_v6 : Ref sig .tc := ⟨.hbm, 201, rfl⟩
abbrev main_call11_v7 : Ref sig .tc := ⟨.hbm, 202, rfl⟩
abbrev main_call11_v8 : Ref sig .tc := ⟨.hbm, 203, rfl⟩
abbrev main_call11_c : Ref sig .tc := ⟨.hbm, 204, rfl⟩
abbrev main_call11_v9 : Ref sig .tc := ⟨.hbm, 205, rfl⟩
abbrev main_call11_v10 : Ref sig .tc := ⟨.hbm, 206, rfl⟩
abbrev main_call11_v11 : Ref sig .tc := ⟨.hbm, 207, rfl⟩
abbrev main_call11_c_0 : Ref sig .tc := ⟨.hbm, 208, rfl⟩
abbrev main_call11_v12 : Ref sig .tc := ⟨.hbm, 209, rfl⟩
abbrev main_call11_v13 : Ref sig .tc := ⟨.hbm, 210, rfl⟩
abbrev main_v107 : Ref sig .tc := ⟨.hbm, 211, rfl⟩
abbrev main_c_21 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_c_22 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_c_23 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_c_24 : Ref sig .tc := ⟨.hbm, 252, rfl⟩
abbrev main_v145 : Ref sig .tc := ⟨.hbm, 253, rfl⟩
abbrev main_v146 : Ref sig .tc := ⟨.hbm, 254, rfl⟩
abbrev main_c_25 : Ref sig .tc := ⟨.hbm, 255, rfl⟩
abbrev main_call12_v0 : Ref sig .tc := ⟨.hbm, 256, rfl⟩
abbrev main_call12_v1 : Ref sig .tc := ⟨.hbm, 257, rfl⟩
abbrev main_call12_v2 : Ref sig .tc := ⟨.hbm, 258, rfl⟩
abbrev main_call12_v3 : Ref sig .tc := ⟨.hbm, 259, rfl⟩
abbrev main_call12_v4 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_c_26 : Ref sig .tc := ⟨.hbm, 264, rfl⟩
abbrev main_v150 : Ref sig .tc := ⟨.hbm, 265, rfl⟩
abbrev main_v151 : Ref sig .tc := ⟨.hbm, 266, rfl⟩
abbrev main_c_27 : Ref sig .tc := ⟨.hbm, 267, rfl⟩
abbrev main_call13_v0 : Ref sig .tc := ⟨.hbm, 268, rfl⟩
abbrev main_call13_v1 : Ref sig .tc := ⟨.hbm, 269, rfl⟩
abbrev main_call13_v2 : Ref sig .tc := ⟨.hbm, 270, rfl⟩
abbrev main_call13_v3 : Ref sig .tc := ⟨.hbm, 271, rfl⟩
abbrev main_call13_v4 : Ref sig .tc := ⟨.hbm, 272, rfl⟩
abbrev main_v152 : Ref sig .tc := ⟨.hbm, 273, rfl⟩
abbrev main_c_28 : Ref sig .tc := ⟨.hbm, 274, rfl⟩
abbrev main_v153 : Ref sig .tc := ⟨.hbm, 275, rfl⟩
abbrev main_v154 : Ref sig .tc := ⟨.hbm, 276, rfl⟩
abbrev main_c_29 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_c_30 : Ref sig .tc := ⟨.hbm, 283, rfl⟩
abbrev main_v160 : Ref sig .tc := ⟨.hbm, 284, rfl⟩
abbrev main_v161 : Ref sig .tc := ⟨.hbm, 285, rfl⟩
abbrev main_c_31 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_cst_32 : Ref sig .tc := ⟨.hbm, 294, rfl⟩
abbrev main_cst_33 : Ref sig .tc := ⟨.hbm, 295, rfl⟩
abbrev main_call14_v0 : Ref sig .tc := ⟨.hbm, 296, rfl⟩
abbrev main_call14_v1 : Ref sig .tc := ⟨.hbm, 297, rfl⟩
abbrev main_call14_v2 : Ref sig .tc := ⟨.hbm, 298, rfl⟩
abbrev main_call14_v3 : Ref sig .tc := ⟨.hbm, 299, rfl⟩
abbrev main_call14_v4 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_cst_34 : Ref sig .tc := ⟨.hbm, 304, rfl⟩
abbrev main_cst_35 : Ref sig .tc := ⟨.hbm, 305, rfl⟩
abbrev main_call15_v0 : Ref sig .tc := ⟨.hbm, 306, rfl⟩
abbrev main_call15_v1 : Ref sig .tc := ⟨.hbm, 307, rfl⟩
abbrev main_call15_v2 : Ref sig .tc := ⟨.hbm, 308, rfl⟩
abbrev main_call15_v3 : Ref sig .tc := ⟨.hbm, 309, rfl⟩
abbrev main_call15_v4 : Ref sig .tc := ⟨.hbm, 310, rfl⟩
abbrev main_v172 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_c_36 : Ref sig .tc := ⟨.hbm, 315, rfl⟩
abbrev main_c_37 : Ref sig .tc := ⟨.hbm, 316, rfl⟩
abbrev main_call16_v0 : Ref sig .tc := ⟨.hbm, 317, rfl⟩
abbrev main_call16_v1 : Ref sig .tc := ⟨.hbm, 318, rfl⟩
abbrev main_call16_v2 : Ref sig .tc := ⟨.hbm, 319, rfl⟩
abbrev main_call16_v3 : Ref sig .tc := ⟨.hbm, 320, rfl⟩
abbrev main_call16_v4 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_c_38 : Ref sig .tc := ⟨.hbm, 326, rfl⟩
abbrev main_c_39 : Ref sig .tc := ⟨.hbm, 327, rfl⟩
abbrev main_call17_v0 : Ref sig .tc := ⟨.hbm, 328, rfl⟩
abbrev main_call17_v1 : Ref sig .tc := ⟨.hbm, 329, rfl⟩
abbrev main_call17_v2 : Ref sig .tc := ⟨.hbm, 330, rfl⟩
abbrev main_call17_v3 : Ref sig .tc := ⟨.hbm, 331, rfl⟩
abbrev main_call17_v4 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_c_40 : Ref sig .tc := ⟨.hbm, 337, rfl⟩
abbrev main_c_41 : Ref sig .tc := ⟨.hbm, 338, rfl⟩
abbrev main_call18_v0 : Ref sig .tc := ⟨.hbm, 339, rfl⟩
abbrev main_call18_v1 : Ref sig .tc := ⟨.hbm, 340, rfl⟩
abbrev main_call18_v2 : Ref sig .tc := ⟨.hbm, 341, rfl⟩
abbrev main_call18_v3 : Ref sig .tc := ⟨.hbm, 342, rfl⟩
abbrev main_call18_v4 : Ref sig .tc := ⟨.hbm, 343, rfl⟩
abbrev main_v184 : Ref sig .tc := ⟨.hbm, 344, rfl⟩
abbrev main_v185 : Ref sig .tc := ⟨.hbm, 345, rfl⟩
abbrev main_v186 : Ref sig .tc := ⟨.hbm, 346, rfl⟩
abbrev main_v187 : Ref sig .tc := ⟨.hbm, 347, rfl⟩
abbrev main_c_42 : Ref sig .tc := ⟨.hbm, 348, rfl⟩
abbrev main_c_43 : Ref sig .tc := ⟨.hbm, 349, rfl⟩
abbrev main_call19_v0 : Ref sig .tc := ⟨.hbm, 350, rfl⟩
abbrev main_call19_v1 : Ref sig .tc := ⟨.hbm, 351, rfl⟩
abbrev main_call19_v2 : Ref sig .tc := ⟨.hbm, 352, rfl⟩
abbrev main_call19_v3 : Ref sig .tc := ⟨.hbm, 353, rfl⟩
abbrev main_call19_v4 : Ref sig .tc := ⟨.hbm, 354, rfl⟩
abbrev main_v188 : Ref sig .tc := ⟨.hbm, 355, rfl⟩
abbrev main_c_44 : Ref sig .tc := ⟨.hbm, 356, rfl⟩
abbrev main_v189 : Ref sig .tc := ⟨.hbm, 357, rfl⟩
abbrev main_v190 : Ref sig .tc := ⟨.hbm, 358, rfl⟩
abbrev main_c_45 : Ref sig .tc := ⟨.hbm, 359, rfl⟩
abbrev main_v191 : Ref sig .tc := ⟨.hbm, 360, rfl⟩
abbrev main_v192 : Ref sig .tc := ⟨.hbm, 361, rfl⟩
abbrev main_v193 : Ref sig .tc := ⟨.hbm, 362, rfl⟩
abbrev main_c_46 : Ref sig .tc := ⟨.hbm, 363, rfl⟩
abbrev main_v194 : Ref sig .tc := ⟨.hbm, 364, rfl⟩
abbrev main_v195 : Ref sig .tc := ⟨.hbm, 365, rfl⟩
abbrev main_c_47 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_v201 : Ref sig .tc := ⟨.hbm, 372, rfl⟩
abbrev main_v202 : Ref sig .tc := ⟨.hbm, 373, rfl⟩
abbrev main_v203 : Ref sig .tc := ⟨.hbm, 374, rfl⟩
abbrev main_v204 : Ref sig .tc := ⟨.hbm, 375, rfl⟩
abbrev main_c_48 : Ref sig .tc := ⟨.hbm, 376, rfl⟩
abbrev main_v205 : Ref sig .tc := ⟨.hbm, 377, rfl⟩
abbrev main_v206 : Ref sig .tc := ⟨.hbm, 378, rfl⟩
abbrev main_c_49 : Ref sig .tc := ⟨.hbm, 379, rfl⟩
abbrev main_v207 : Ref sig .tc := ⟨.hbm, 380, rfl⟩
abbrev main_v208 : Ref sig .tc := ⟨.hbm, 381, rfl⟩
abbrev main_v209 : Ref sig .tc := ⟨.hbm, 382, rfl⟩
abbrev main_c_50 : Ref sig .tc := ⟨.hbm, 383, rfl⟩
abbrev main_v210 : Ref sig .tc := ⟨.hbm, 384, rfl⟩
abbrev main_v211 : Ref sig .tc := ⟨.hbm, 385, rfl⟩
abbrev main_c_51 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_v217 : Ref sig .tc := ⟨.hbm, 392, rfl⟩
abbrev main_v218 : Ref sig .tc := ⟨.hbm, 393, rfl⟩
abbrev main_v219 : Ref sig .tc := ⟨.hbm, 394, rfl⟩
abbrev main_v220 : Ref sig .tc := ⟨.hbm, 395, rfl⟩
abbrev main_c_52 : Ref sig .tc := ⟨.hbm, 396, rfl⟩
abbrev main_v221 : Ref sig .tc := ⟨.hbm, 397, rfl⟩
abbrev main_v222 : Ref sig .tc := ⟨.hbm, 398, rfl⟩
abbrev main_c_53 : Ref sig .tc := ⟨.hbm, 399, rfl⟩
abbrev main_v223 : Ref sig .tc := ⟨.hbm, 400, rfl⟩
abbrev main_v224 : Ref sig .tc := ⟨.hbm, 401, rfl⟩
abbrev main_v225 : Ref sig .tc := ⟨.hbm, 402, rfl⟩
abbrev main_c_54 : Ref sig .tc := ⟨.hbm, 403, rfl⟩
abbrev main_v226 : Ref sig .tc := ⟨.hbm, 404, rfl⟩
abbrev main_v227 : Ref sig .tc := ⟨.hbm, 405, rfl⟩
abbrev main_c_55 : Ref sig .tc := ⟨.hbm, 406, rfl⟩
abbrev main_v228 : Ref sig .tc := ⟨.hbm, 407, rfl⟩
abbrev main_v229 : Ref sig .tc := ⟨.hbm, 408, rfl⟩
abbrev main_v230 : Ref sig .tc := ⟨.hbm, 409, rfl⟩
abbrev main_v231 : Ref sig .tc := ⟨.hbm, 410, rfl⟩
abbrev main_v232 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_v236 : Ref sig .tc := ⟨.hbm, 415, rfl⟩
abbrev main_c_56 : Ref sig .tc := ⟨.hbm, 416, rfl⟩
abbrev main_v237 : Ref sig .tc := ⟨.hbm, 417, rfl⟩
abbrev main_v238 : Ref sig .tc := ⟨.hbm, 418, rfl⟩
abbrev main_c_57 : Ref sig .tc := ⟨.hbm, 419, rfl⟩
abbrev main_v239 : Ref sig .tc := ⟨.hbm, 420, rfl⟩
abbrev main_v240 : Ref sig .tc := ⟨.hbm, 421, rfl⟩
abbrev main_v241 : Ref sig .tc := ⟨.hbm, 422, rfl⟩
abbrev main_c_58 : Ref sig .tc := ⟨.hbm, 423, rfl⟩
abbrev main_v242 : Ref sig .tc := ⟨.hbm, 424, rfl⟩
abbrev main_v243 : Ref sig .tc := ⟨.hbm, 425, rfl⟩
abbrev main_c_59 : Ref sig .tc := ⟨.hbm, 426, rfl⟩
abbrev main_v244 : Ref sig .tc := ⟨.hbm, 427, rfl⟩
abbrev main_v245 : Ref sig .tc := ⟨.hbm, 428, rfl⟩
abbrev main_v246 : Ref sig .tc := ⟨.hbm, 429, rfl⟩
abbrev main_v247 : Ref sig .tc := ⟨.hbm, 430, rfl⟩
abbrev main_v248 : Ref sig .tc := ⟨.hbm, 431, rfl⟩
abbrev main_v249 : Ref sig .tc := ⟨.hbm, 432, rfl⟩
abbrev main_v250 : Ref sig .tc := ⟨.hbm, 433, rfl⟩
abbrev main_v251 : Ref sig .tc := ⟨.hbm, 434, rfl⟩
abbrev main_v252 : Ref sig .tc := ⟨.hbm, 435, rfl⟩
abbrev main_cst_60 : Ref sig .tc := ⟨.hbm, 436, rfl⟩
abbrev main_v253 : Ref sig .tc := ⟨.hbm, 437, rfl⟩
abbrev main_v254 : Ref sig .tc := ⟨.hbm, 438, rfl⟩
abbrev main_v255 : Ref sig .tc := ⟨.hbm, 439, rfl⟩
abbrev main_v256 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_cst_61 : Ref sig .tc := ⟨.hbm, 444, rfl⟩
abbrev main_v260 : Ref sig .tc := ⟨.hbm, 445, rfl⟩
abbrev main_v261 : Ref sig .tc := ⟨.hbm, 446, rfl⟩
abbrev main_v262 : Ref sig .tc := ⟨.hbm, 447, rfl⟩
abbrev main_v263 : Ref sig .tc := ⟨.hbm, 448, rfl⟩
abbrev main_v264 : Ref sig .tc := ⟨.hbm, 449, rfl⟩
abbrev main_v265 : Ref sig .tc := ⟨.hbm, 450, rfl⟩
abbrev main_v266 : Ref sig .tc := ⟨.hbm, 451, rfl⟩
abbrev main_cst_62 : Ref sig .tc := ⟨.hbm, 452, rfl⟩
abbrev main_v267 : Ref sig .tc := ⟨.hbm, 453, rfl⟩
abbrev main_v268 : Ref sig .tc := ⟨.hbm, 454, rfl⟩
abbrev main_v269 : Ref sig .tc := ⟨.hbm, 455, rfl⟩
abbrev main_v270 : Ref sig .tc := ⟨.hbm, 456, rfl⟩
abbrev main_v271 : Ref sig .tc := ⟨.hbm, 457, rfl⟩
abbrev main_v272 : Ref sig .tc := ⟨.hbm, 458, rfl⟩
abbrev main_v273 : Ref sig .tc := ⟨.hbm, 459, rfl⟩
abbrev main_cst_63 : Ref sig .tc := ⟨.hbm, 460, rfl⟩
abbrev main_call20_v0 : Ref sig .tc := ⟨.hbm, 461, rfl⟩
abbrev main_call20_v1 : Ref sig .tc := ⟨.hbm, 462, rfl⟩
abbrev main_call20_v2 : Ref sig .tc := ⟨.hbm, 463, rfl⟩
abbrev main_v274 : Ref sig .tc := ⟨.hbm, 464, rfl⟩
abbrev main_v275 : Ref sig .tc := ⟨.hbm, 465, rfl⟩
abbrev main_v276 : Ref sig .tc := ⟨.hbm, 466, rfl⟩

abbrev nD : Nat := 1
abbrev τ : Topo := Topo.v7x

variable {F : FTy → Type} [FloatOps F]
-- ==== Proof.Focus.Words.lean ====
/- The one word of each tile that the kernel uses as a row number: the first row of the 256-row window it reads.
   It is a row number clipped into 0..256 and rounded down to a multiple of eight, so it is itself a multiple of eight,
   at most 256, and the window lies inside the image. -/
module

public import proofs.«01_k».proof.Proof.Gen.KernelIdeal.Skeleton
public import Idealize.ShloMosaic.Lib.Tactic

@[expose] public section

set_option maxRecDepth 16384

noncomputable section

namespace Cert.Focus

open Idealize.ShloMosaic Cert.KernelIdeal Cert.KernelIdeal.Gen

/-- Division rounding down, as the kernel spells it: truncated division, less one where the signs of the two words
    differ and a remainder is left. -/
def floorDiv (u : ArithUnit) (x d : BitVec 32) : BitVec 32 :=
  Scalar.select
    (IntOp.andi
      (IntOp.cmpi .ne (IntOp.subi ((IntOp.cmpi .sgt x 0#32).setWidth 32) ((IntOp.cmpi .slt x 0#32).setWidth 32))
        (IntOp.subi ((IntOp.cmpi .sgt d 0#32).setWidth 32) ((IntOp.cmpi .slt d 0#32).setWidth 32)))
      (IntOp.cmpi .ne (IntOp.remsi u x d) 0#32))
    (IntOp.subi (IntOp.divsi u x d) 1#32) (IntOp.divsi u x d)

/-- Rounding one word down to a multiple of eight. -/
def round8 (b : BitVec 32) : BitVec 32 := IntOp.muli (floorDiv .vector b 8#32) 8#32

/-- On the words 0 to 256 it is the largest multiple of eight not above the word. -/
theorem round8_nat : ∀ b : Fin 257, round8 (BitVec.ofNat 32 b.val) = BitVec.ofNat 32 (b.val / 8 * 8) := by
  decide +kernel

/-- Clipping a word into 0..256, the two comparisons signed. -/
def clip256 (z : BitVec 32) : BitVec 32 := IntOp.minsi 256#32 (IntOp.maxsi 0#32 z)

/-- The clipped word is its signed value clipped. -/
theorem clip256_toNat (z : BitVec 32) : (clip256 z).toNat = (min 256 (max 0 z.toInt)).toNat := by
  unfold clip256 IntOp.minsi IntOp.maxsi
  have h0 : (0#32).toInt = 0 := by decide
  have h256 : (256#32).toInt = 256 := by decide
  have hz := BitVec.toInt_eq_toNat_cond z
  have hlt := z.isLt
  simp only [BitVec.slt, h0, h256, decide_eq_true_eq]
  split_ifs <;> simp_all <;> omega

/-- The clipped word is at most 256. -/
theorem clip256_le (z : BitVec 32) : (clip256 z).toNat ≤ 256 := by
  rw [clip256_toNat]
  exact Int.toNat_le.mpr (min_le_left _ _)

/-- Rounding down, for any word up to 256. -/
theorem round8_of_le (b : BitVec 32) (hb : b.toNat ≤ 256) : round8 b = BitVec.ofNat 32 (b.toNat / 8 * 8) :=
  (congrArg round8 (BitVec.eq_of_toNat_eq (by rw [BitVec.toNat_ofNat, Nat.mod_eq_of_lt b.isLt]))).trans
    (round8_nat ⟨b.toNat, Nat.lt_succ_of_le hb⟩)

/-- So the rounded word is this number. -/
theorem round8_toNat (b : BitVec 32) (hb : b.toNat ≤ 256) : (round8 b).toNat = b.toNat / 8 * 8 := by
  have hlt : b.toNat / 8 * 8 < 2 ^ 32 := lt_of_le_of_lt (Nat.div_mul_le_self _ _) b.isLt
  exact (congrArg BitVec.toNat (round8_of_le b hb)).trans ((BitVec.toNat_ofNat _ _).trans (Nat.mod_eq_of_lt hlt))

/-- The four window words of an image, from its four clipped rows. -/
theorem base_read (v : IVec S4x1 32) (p : S4x1.Idx) : k0_pay6 v 8#32 k0_pay5 p = round8 (v p) := by
  unfold k0_pay6 k0_pay5; rfl

/-- A window word is a multiple of eight and at most 256. -/
theorem word_bounds (z : BitVec 32) : 8 ∣ (round8 (clip256 z)).toNat ∧ (round8 (clip256 z)).toNat ≤ 256 := by
  have hb := clip256_le z
  rw [round8_toNat _ hb]
  generalize (clip256 z).toNat = n at hb
  exact ⟨⟨n / 8, Nat.mul_comm _ _⟩, by omega⟩

/-- The word the kernel extracts for a tile. -/
theorem word_ok (z : IVec S4x1 32) (o : Fin 2 → ℕ) (h : S4x1.Slices o S1x1) (h' : ∀ a, (![0, 0] : Fin 2 → ℕ) a < S1x1.size a) :
    8 ∣ (extractAt ![0, 0] (extractStridedSlice S1x1 o
      (k0_pay6 (minsi (broadcast S4x1 256#32) (maxsi (broadcast S4x1 0#32) z)) 8#32 k0_pay5) h) h').toNat
    ∧ (extractAt ![0, 0] (extractStridedSlice S1x1 o
      (k0_pay6 (minsi (broadcast S4x1 256#32) (maxsi (broadcast S4x1 0#32) z)) 8#32 k0_pay5) h) h').toNat ≤ 256 := by
  unfold extractAt extractStridedSlice
  rw [base_read]
  exact word_bounds _

/-- A window of one image by 256 rows by all columns lies inside a block of eight images: its image is one of the
    eight, its first row at most 256, its first column 0. -/
theorem window_inside (off : Fin 3 → ℕ) (h0 : Nat.ble (off 0 + 1) 8 = true) (h1 : off 1 ≤ 256) (h2 : off 2 = 0) :
    ∀ a, off a + S1x256x512.size a ≤ S8x512x512.size a := by
  intro a
  fin_cases a
  · exact Nat.le_of_ble_eq_true h0
  · show off 1 + 256 ≤ 512; omega
  · show off 2 + 512 ≤ 512; omega

end Cert.Focus
end
-- ==== Proof.Focus.Image.lean ====
/- What the kernel computes from ONE of the eight images of a block, stage by stage, for any floats: where the bounding
   box of the large entries starts and ends, how far it is magnified, where each output row and column reads the image,
   and the two ways the output is made (a masked copy, or the two blends by matrix products). `out` is the whole. -/
module

public import proofs.«01_k».proof.Proof.Focus.Words
public import Idealize.ShloMosaic.Lib.Pointwise

@[expose] public section

set_option maxRecDepth 16384

noncomputable section

namespace Cert.Focus

open Idealize.ShloMosaic Idealize.ShloMosaic.Tactic Cert.KernelIdeal Cert.KernelIdeal.Gen

variable {F : FTy → Type} [FloatOps F]

/-! ## The bounding box -/

/-- First column of the box, as one word. -/
def xLo (x : Vec F S1x512x512 .f32) : IVec S1x1 32 := k0_pay157 x
/-- Last column of the box. -/
def xHi (x : Vec F S1x512x512 .f32) : IVec S1x1 32 := k0_pay158 x
/-- First row of the box. -/
def yLo (x : Vec F S1x512x512 .f32) : IVec S1x1 32 := k0_pay159 x
/-- Last row of the box. -/
def yHi (x : Vec F S1x512x512 .f32) : IVec S1x1 32 := k0_pay160 x
/-- Height of the box, at least one. -/
def hCrop (x : Vec F S1x512x512 .f32) : IVec S1x1 32 := k0_pay161 (yLo x) (yHi x)
/-- Width of the box, at least one. -/
def wCrop (x : Vec F S1x512x512 .f32) : IVec S1x1 32 := k0_pay162 (xLo x) (xHi x)
/-- The height as a float. -/
def hFloat (x : Vec F S1x512x512 .f32) : FVec F S1x1 .f32 := k0_pay163 (yLo x) (yHi x)
/-- The width as a float. -/
def wFloat (x : Vec F S1x512x512 .f32) : FVec F S1x1 .f32 := k0_pay164 (xLo x) (xHi x)
/-- Height of the magnified box. -/
def rH (x : Vec F S1x512x512 .f32) : IVec S1x1 32 := k0_pay166 (F := F) (xLo x) (xHi x) (yLo x) (yHi x)
/-- Width of the magnified box. -/
def rW (x : Vec F S1x512x512 .f32) : IVec S1x1 32 := k0_pay167 (F := F) (xLo x) (xHi x) (yLo x) (yHi x)

/-! ## Where an output row or column reads -/

/-- Zeros put before the magnified box where it is smaller than the image. -/
def padBefore (r : IVec S1x1 32) : IVec S1x1 32 :=
  k0_pay177 (k0_pay174 r) 2#32 (k0_pay175 r) (k0_pay176 r) 1#32 0#32
/-- What is cut off before the image where the magnified box is larger. -/
def cropBefore (r : IVec S1x1 32) : IVec S1x1 32 := k0_pay173 r
/-- The row of the magnified box that each output row shows. -/
def rowSrc (x : Vec F S1x512x512 .f32) : IVec S512x1 32 := k0_pay179 (padBefore (rH x)) (cropBefore (rH x))
/-- Whether that row exists. -/
def rowOk (x : Vec F S1x512x512 .f32) : IVec S512x1 1 := k0_pay180 (rH x) (rowSrc x)
/-- The column of the magnified box that each output column shows. -/
def colSrc (x : Vec F S1x512x512 .f32) : IVec S1x512 32 := k0_pay181 (padBefore (rW x)) (cropBefore (rW x))
/-- Whether that column exists. -/
def colOk (x : Vec F S1x512x512 .f32) : IVec S1x512 1 := k0_pay182 (rW x) (padBefore (rW x)) (cropBefore (rW x))
/-- One where the magnification is the identity, zero elsewhere. -/
def same (x : Vec F S1x512x512 .f32) : BitVec 32 :=
  extractAt ![0, 0] (k0_pay183 (xLo x) (yLo x) (hCrop x) (wCrop x) (rH x) (rW x) (padBefore (rH x)) (cropBefore (rH x))
    (padBefore (rW x)) (cropBefore (rW x))) inpos_S1x1_p0_0

/-! ## The masked copy -/

/-- The image with the rows and columns that show nothing set to zero. -/
def direct (x : Vec F S1x512x512 .f32) : FVec F S1x512x512 .f32 :=
  k0_pay184 (k0_pay154 x) (rH x) (rW x) (padBefore (rW x)) (cropBefore (rW x)) (rowSrc x)

/-! ## The two blends -/

/-- The (fractional) image row that each output row shows; far outside the image where it shows nothing. -/
def sRow (x : Vec F S1x512x512 .f32) : FVec F S512x1 .f32 := k0_pay3 (yLo x) (hFloat x) (rH x) (rowSrc x) (rowOk x)
/-- The (fractional) image column that each output column shows. -/
def sCol (x : Vec F S1x512x512 .f32) : FVec F S1x512 .f32 := k0_pay20 (xLo x) (wFloat x) (rW x) (colSrc x) (colOk x)
/-- For each tile of 128 output rows, the image row its first row reads, clipped into 0..256. -/
def tops (x : Vec F S1x512x512 .f32) : IVec S4x1 32 :=
  k0_pay4 (yLo x) (hCrop x) (hFloat x) (rH x) (padBefore (rH x)) (cropBefore (rH x))
/-- The same rounded down to a multiple of eight: the first row of each tile's window. -/
def bases (x : Vec F S1x512x512 .f32) : IVec S4x1 32 := k0_pay6 (tops x) 8#32 k0_pay5
/-- The windows' first rows as floats. -/
def basesF (x : Vec F S1x512x512 .f32) : FVec F S4x1 .f32 := k0_pay7 (tops x) 8#32 k0_pay5

/-- The weights of a tile: output row `o + i` against window row `j`. -/
def tileWeights (o t : ℕ) (ho : S512x1.Slices ![o, 0] S128x1) (ht : S4x1.Slices ![t, 0] S1x1) (s : FVec F S512x1 .f32)
    (b : FVec F S4x1 .f32) : FVec F S128x256 .f32 :=
  maximumf
    (subf (broadcast S128x256 (Scalar.ofBits .f32 0x3F800000#32))
      (absf (subf
        (broadcastTo S128x256
          (subf (extractStridedSlice S128x1 ![o, 0] s ho)
            (broadcast S128x1 (extractAt ![0, 0] (extractStridedSlice S1x1 ![t, 0] b ht) inpos_S1x1_p0_0)))
          broadcasts_S128x1_S128x256)
        (broadcastTo S128x256 (k0_pay8 (F := F)) broadcasts_S1x256_S128x256))))
    (broadcast S128x256 (Scalar.ofBits .f32 0x00000000#32))

/-- One tile of the blend over rows: the weights times the tile's window of 256 image rows. -/
def tile (o t : ℕ) (ho : S512x1.Slices ![o, 0] S128x1) (ht : S4x1.Slices ![t, 0] S1x1) (s : FVec F S512x1 .f32)
    (b : FVec F S4x1 .f32) (w : Vec F S1x256x512 .f32) : FVec F S128x512 .f32 :=
  shapeCast S128x512
    (matmul dot_S128x256_S256x512_S128x512_1_0_0_1_n_n none (tileWeights o t ho ht s b)
      (shapeCast S256x512 w shapeCasts_S1x256x512_S256x512) (constant S128x512 .f32 0x00000000#32))
    shapeCasts_S128x512_S128x512

/-- The image rows `r`, `r + 1`, … that a window starting at row `r` holds. -/
def window (x : Vec F S1x512x512 .f32) (r : ℕ) : Vec F S1x256x512 .f32 :=
  fun j => x (ix3 (0 : Fin 1) (⟨(r + (j 1).val) % 512, Nat.mod_lt _ (by decide)⟩ : Fin 512) (j 2))

/-- The first row of the window of tile `t`, as the kernel extracts it. -/
def baseRow (x : Vec F S1x512x512 .f32) (t : ℕ) (ht : S4x1.Slices ![t, 0] S1x1) : ℕ :=
  (extractAt ![0, 0] (extractStridedSlice S1x1 ![t, 0] (bases x) ht) inpos_S1x1_p0_0).toNat

/-- The four tiles of 128 rows one below the other. -/
def stack (a b c d : FVec F S128x512 .f32) : Vec F S512x512 .f32 := fun j =>
  (if (j 0).val < 128 then a else if (j 0).val < 256 then b else if (j 0).val < 384 then c else d)
    (ix2 (⟨(j 0).val % 128, Nat.mod_lt _ (by decide)⟩ : Fin 128) (j 1))

/-- The blend over rows, from the four windows. -/
def rowsFrom4 (x : Vec F S1x512x512 .f32) (w0 w1 w2 w3 : Vec F S1x256x512 .f32) : Vec F S512x512 .f32 :=
  stack (tile 0 0 slices_S512x1_o0_0_S128x1 slices_S4x1_o0_0_S1x1 (sRow x) (basesF x) w0)
    (tile 128 1 slices_S512x1_o128_0_S128x1 slices_S4x1_o1_0_S1x1 (sRow x) (basesF x) w1)
    (tile 256 2 slices_S512x1_o256_0_S128x1 slices_S4x1_o2_0_S1x1 (sRow x) (basesF x) w2)
    (tile 384 3 slices_S512x1_o384_0_S128x1 slices_S4x1_o3_0_S1x1 (sRow x) (basesF x) w3)

/-- The blend over rows. -/
def rows (x : Vec F S1x512x512 .f32) : Vec F S512x512 .f32 :=
  rowsFrom4 x (window x (baseRow x 0 slices_S4x1_o0_0_S1x1)) (window x (baseRow x 1 slices_S4x1_o1_0_S1x1))
    (window x (baseRow x 2 slices_S4x1_o2_0_S1x1)) (window x (baseRow x 3 slices_S4x1_o3_0_S1x1))

/-- The blend over columns of what the blend over rows left. -/
def cols (x : Vec F S1x512x512 .f32) (y : Vec F S512x512 .f32) : FVec F S1x512x512 .f32 :=
  k0_pay185 (sCol x) (iota .tc S512x1 32 [0] iota_S512x1_d0_w32) y

/-- The result for one image. -/
def out (x : Vec F S1x512x512 .f32) : FVec F S1x512x512 .f32 :=
  if same x = 1#32 then direct x else cols x (rows x)

/-! ## A block of eight images -/

/-- Image `n` of a block. -/
def image (b : Vec F S8x512x512 .f32) (n : Fin 8) : Vec F S1x512x512 .f32 := fun j => b (ix3 n (j 1) (j 2))

/-- The result for a block: each image's own. -/
def blockOut (b : Vec F S8x512x512 .f32) : Vec F S8x512x512 .f32 :=
  fun i => out (image b (i 0)) (ix3 (0 : Fin 1) (i 1) (i 2))

end Cert.Focus
end
-- ==== Proof.Focus.Store.lean ====
/- What the kernel's loads and stores read and leave, in terms of one image's stages: a load of image `n` of the block
   reads that image, a load of a window reads 256 of its rows, the scratch buffer read back after its four stores holds
   the four tiles one below the other, and the store of image `n` extends the part of the block that is done by one. -/
module

public import proofs.«01_k».proof.Proof.Focus.Image
public import Idealize.ShloMosaic.Lib.WholeRead
public import Idealize.ShloMosaic.Lib.WritesUnit

@[expose] public section

set_option maxRecDepth 16384

noncomputable section

namespace Cert.Focus

open Idealize.ShloMosaic Idealize.ShloMosaic.Tactic Cert.KernelIdeal Cert.KernelIdeal.Gen

variable {F : FTy → Type} [FloatOps F]

/-- A load of one image of the block reads that image. -/
theorem image_read (m : Memref sig .tc .vmem S8x512x512 .f32) (hm : m.IsWhole) (b : Vec F S8x512x512 .f32) (n : Fin 8)
    (off : Fin 3 → ℕ) (ho : off = ![n.val, 0, 0]) (inb : ∀ a, off a + S1x512x512.size a ≤ S8x512x512.size a) :
    View.readAt (Elt F) m.view (Rect.unit (s := S8x512x512) off S1x512x512.size inb).toLoadRect (hm.unread b) = image b n := by
  subst ho
  funext j
  rw [hm.readAt_unread]
  refine congrArg b (funext fun a => Fin.ext ?_)
  have h0 : (j 0).val = 0 := Nat.lt_one_iff.mp (j 0).isLt
  fin_cases a
  · show n.val + 1 * (j 0).val = n.val; omega
  · show 0 + 1 * (j 1).val = (j 1).val; omega
  · show 0 + 1 * (j 2).val = (j 2).val; omega

/-- A load of 256 rows of one image, from row `r ≤ 256` on, reads the window of that image. -/
theorem window_read (m : Memref sig .tc .vmem S8x512x512 .f32) (hm : m.IsWhole) (b : Vec F S8x512x512 .f32) (n : Fin 8)
    (r : ℕ) (hr : r ≤ 256) (off : Fin 3 → ℕ) (ho : off = ![n.val, r, 0])
    (inb : ∀ a, off a + S1x256x512.size a ≤ S8x512x512.size a) :
    View.readAt (Elt F) m.view (Rect.unit (s := S8x512x512) off S1x256x512.size inb).toLoadRect (hm.unread b)
      = window (image b n) r := by
  subst ho
  funext j
  rw [hm.readAt_unread]
  refine congrArg b (funext fun a => Fin.ext ?_)
  have h0 : (j 0).val = 0 := Nat.lt_one_iff.mp (j 0).isLt
  have h1 : (j 1).val < 256 := (j 1).isLt
  fin_cases a
  · show n.val + 1 * (j 0).val = n.val; omega
  · show r + 1 * (j 1).val = (r + (j 1).val) % 512
    rw [Nat.mod_eq_of_lt (by omega)]; omega
  · show 0 + 1 * (j 2).val = (j 2).val; omega

/-- The row a window starts at is at most 256. -/
theorem baseRow_le (x : Vec F S1x512x512 .f32) (t : ℕ) (ht : S4x1.Slices ![t, 0] S1x1) : baseRow x t ht ≤ 256 :=
  (word_ok _ ![t, 0] ht inpos_S1x1_p0_0).2

/-- The scratch buffer read back after the stores of its four tiles. -/
theorem stack_read (v : View sig .tc .vmem S512x512 .f32) (a b c d : FVec F S128x512 .f32) :
    v.readCov (Val := Elt F) [⟨Rect.unit (s := S512x512) ![384, 0] S128x512.size inb_S512x512_S128x512_384_0, d⟩,
        ⟨Rect.unit (s := S512x512) ![256, 0] S128x512.size inb_S512x512_S128x512_256_0, c⟩,
        ⟨Rect.unit (s := S512x512) ![128, 0] S128x512.size inb_S512x512_S128x512_128_0, b⟩,
        ⟨Rect.unit (s := S512x512) ![0, 0] S128x512.size inb_S512x512_S128x512_0_0, a⟩]
      (Rect.unit (s := S512x512) ![0, 0] S512x512.size inb_S512x512_S512x512_0_0).toLoadRect = stack a b c d := by
  funext j
  have hj : (j 0).val < 512 := (j 0).isLt
  have he : (Rect.unit (s := S512x512) ![0, 0] S512x512.size inb_S512x512_S512x512_0_0).toLoadRect.idx j = j :=
    funext fun a => Fin.ext (by
      fin_cases a
      · show 0 + 1 * (j 0).val = (j 0).val; omega
      · show 0 + 1 * (j 1).val = (j 1).val; omega)
  show v.read (Elt F) (v.writes (Elt F) v.junk _) (LoadRect.idx _ j) = _
  rw [he]
  have hit : ∀ (o : ℕ) (w : FVec F S128x512 .f32) (f : v.ty.Contents (Elt F)) (L : List (View.Piece (Elt F) S512x512 .f32))
      (inb : ∀ a, (![o, 0] : Fin 2 → ℕ) a + S128x512.size a ≤ S512x512.size a) (h : o ≤ (j 0).val) (h' : (j 0).val < o + 128)
      (hm : (j 0).val % 128 = (j 0).val - o),
      v.read (Elt F) (v.writes (Elt F) f (⟨Rect.unit (s := S512x512) ![o, 0] S128x512.size inb, w⟩ :: L)) j
        = w (ix2 (⟨(j 0).val % 128, Nat.mod_lt _ (by decide)⟩ : Fin 128) (j 1)) := fun o w f L inb h h' hm =>
    View.read_writes_cons_rows_of_mem v f inb w L j _ rfl (by show (j 0).val = o + (j 0).val % 128; omega) rfl
  have miss : ∀ (o : ℕ) (w : FVec F S128x512 .f32) (f : v.ty.Contents (Elt F)) (L : List (View.Piece (Elt F) S512x512 .f32))
      (inb : ∀ a, (![o, 0] : Fin 2 → ℕ) a + S128x512.size a ≤ S512x512.size a) (h : (j 0).val < o),
      v.read (Elt F) (v.writes (Elt F) f (⟨Rect.unit (s := S512x512) ![o, 0] S128x512.size inb, w⟩ :: L)) j
        = v.read (Elt F) (v.writes (Elt F) f L) j := fun o w f L inb h =>
    View.read_writes_cons_rows_of_not_mem v f inb w L j rfl (W := 128) rfl (.inl h)
  unfold stack
  by_cases h1 : (j 0).val < 128
  · rw [if_pos h1, miss 384 _ _ _ _ (by omega), miss 256 _ _ _ _ (by omega), miss 128 _ _ _ _ (by omega),
      hit 0 _ _ _ _ (by omega) (by omega) (by omega)]
  by_cases h2 : (j 0).val < 256
  · rw [if_neg h1, if_pos h2, miss 384 _ _ _ _ (by omega), miss 256 _ _ _ _ (by omega),
      hit 128 _ _ _ _ (by omega) (by omega) (by omega)]
  by_cases h3 : (j 0).val < 384
  · rw [if_neg h1, if_neg h2, if_pos h3, miss 384 _ _ _ _ (by omega), hit 256 _ _ _ _ (by omega) (by omega) (by omega)]
  · rw [if_neg h1, if_neg h2, if_neg h3, hit 384 _ _ _ _ (by omega) (by omega) (by omega)]

/-- The blend of image `n`, as the kernel's loads and stores make it. -/
theorem blend_read (m : Memref sig .tc .vmem S8x512x512 .f32) (hm : m.IsWhole) (v : View sig .tc .vmem S512x512 .f32)
    (b : Vec F S8x512x512 .f32) (n : Fin 8) (x : Vec F S1x512x512 .f32) (hx : x = image b n)
    (o0 o1 o2 o3 : Fin 3 → ℕ) (h0 : o0 = ![n.val, baseRow x 0 slices_S4x1_o0_0_S1x1, 0])
    (h1 : o1 = ![n.val, baseRow x 1 slices_S4x1_o1_0_S1x1, 0]) (h2 : o2 = ![n.val, baseRow x 2 slices_S4x1_o2_0_S1x1, 0])
    (h3 : o3 = ![n.val, baseRow x 3 slices_S4x1_o3_0_S1x1, 0])
    (i0 : ∀ a, o0 a + S1x256x512.size a ≤ S8x512x512.size a) (i1 : ∀ a, o1 a + S1x256x512.size a ≤ S8x512x512.size a)
    (i2 : ∀ a, o2 a + S1x256x512.size a ≤ S8x512x512.size a) (i3 : ∀ a, o3 a + S1x256x512.size a ≤ S8x512x512.size a) :
    cols x (v.readCov (Val := Elt F)
      [⟨Rect.unit (s := S512x512) ![384, 0] S128x512.size inb_S512x512_S128x512_384_0,
          tile 384 3 slices_S512x1_o384_0_S128x1 slices_S4x1_o3_0_S1x1 (sRow x) (basesF x)
            (View.readAt (Elt F) m.view (Rect.unit (s := S8x512x512) o3 S1x256x512.size i3).toLoadRect (hm.unread b))⟩,
        ⟨Rect.unit (s := S512x512) ![256, 0] S128x512.size inb_S512x512_S128x512_256_0,
          tile 256 2 slices_S512x1_o256_0_S128x1 slices_S4x1_o2_0_S1x1 (sRow x) (basesF x)
            (View.readAt (Elt F) m.view (Rect.unit (s := S8x512x512) o2 S1x256x512.size i2).toLoadRect (hm.unread b))⟩,
        ⟨Rect.unit (s := S512x512) ![128, 0] S128x512.size inb_S512x512_S128x512_128_0,
          tile 128 1 slices_S512x1_o128_0_S128x1 slices_S4x1_o1_0_S1x1 (sRow x) (basesF x)
            (View.readAt (Elt F) m.view (Rect.unit (s := S8x512x512) o1 S1x256x512.size i1).toLoadRect (hm.unread b))⟩,
        ⟨Rect.unit (s := S512x512) ![0, 0] S128x512.size inb_S512x512_S128x512_0_0,
          tile 0 0 slices_S512x1_o0_0_S128x1 slices_S4x1_o0_0_S1x1 (sRow x) (basesF x)
            (View.readAt (Elt F) m.view (Rect.unit (s := S8x512x512) o0 S1x256x512.size i0).toLoadRect (hm.unread b))⟩]
      (Rect.unit (s := S512x512) ![0, 0] S512x512.size inb_S512x512_S512x512_0_0).toLoadRect)
    = cols x (rows x) := by
  rw [stack_read, window_read m hm b n _ (baseRow_le x 0 _) o0 h0, window_read m hm b n _ (baseRow_le x 1 _) o1 h1,
    window_read m hm b n _ (baseRow_le x 2 _) o2 h2, window_read m hm b n _ (baseRow_le x 3 _) o3 h3, ← hx]
  rfl

/-- The first guard of an image's two stores holds where its word is one. -/
theorem direct_guard (w : BitVec 32) : Scalar.cmpi .ne (Scalar.extui (Scalar.cmpi .eq w 1#32)) 0#32 = 1#1 ↔ w = 1#32 := by
  by_cases h : w = 1#32
  · subst h; decide
  · have hc : Scalar.cmpi .eq w 1#32 = 0#1 := by
      show BitVec.ofBool (w == 1#32) = 0#1
      rw [beq_eq_false_iff_ne.mpr h]; rfl
    rw [hc]
    exact ⟨fun hh => absurd hh (by decide), fun hh => absurd hh h⟩

/-- The second guard holds where its word is zero. -/
theorem blend_guard (w : BitVec 32) : Scalar.cmpi .ne (Scalar.extui (Scalar.cmpi .eq w 0#32)) 0#32 = 1#1 ↔ w = 0#32 := by
  by_cases h : w = 0#32
  · subst h; decide
  · have hc : Scalar.cmpi .eq w 0#32 = 0#1 := by
      show BitVec.ofBool (w == 0#32) = 0#1
      rw [beq_eq_false_iff_ne.mpr h]; rfl
    rw [hc]
    exact ⟨fun hh => absurd hh (by decide), fun hh => absurd hh h⟩

/-- The word that says whether the magnification is the identity is zero or one. -/
theorem same_cases (x : Vec F S1x512x512 .f32) : same x = 1#32 ∨ same x = 0#32 := by
  have key : ∀ c : BitVec 1, c.setWidth 32 = 1#32 ∨ c.setWidth 32 = 0#32 := by decide
  exact key _

/-- One image's guarded stores extend the part of the block that holds its result from `n` images to `n + 1`: the first
    store (under `A`) puts the masked copy, the second (under `B`) the blend, and exactly the right one of them is made. -/
theorem image_step (v : View sig .tc .vmem S8x512x512 .f32) (b : Vec F S8x512x512 .f32) (n : Fin 8)
    (f : v.ty.Contents (Elt F)) (A B : Prop) [Decidable A] [Decidable B] (off : Fin 3 → ℕ) (ho : off = ![n.val, 0, 0])
    (inb : ∀ a, off a + S1x512x512.size a ≤ S8x512x512.size a) (x : Vec F S1x512x512 .f32) (hx : x = image b n)
    (D : FVec F S1x512x512 .f32) (P : B → FVec F S1x512x512 .f32)
    (hA : A ↔ same x = 1#32) (hB : B ↔ same x = 0#32) (hD : D = direct x) (hP : ∀ hc, P hc = cols x (rows x))
    (hf : ∀ y : S8x512x512.Idx, (y 0).val < n.val → v.read (Elt F) f y = blockOut b y) :
    ∀ y : S8x512x512.Idx, (y 0).val < n.val + 1 →
      v.read (Elt F) (if hc : B then v.writes (Elt F)
          (if hc : A then v.writes (Elt F) f [⟨Rect.unit (s := S8x512x512) off S1x512x512.size inb, D⟩] else f)
          [⟨Rect.unit (s := S8x512x512) off S1x512x512.size inb, P hc⟩]
        else (if hc : A then v.writes (Elt F) f [⟨Rect.unit (s := S8x512x512) off S1x512x512.size inb, D⟩] else f)) y
        = blockOut b y := by
  intro y hy
  subst hx
  have hit : ∀ (g : v.ty.Contents (Elt F)) (w : FVec F S1x512x512 .f32), w = out (image b n) → (y 0).val = n.val →
      v.read (Elt F) (v.writes (Elt F) g [⟨Rect.unit (s := S8x512x512) off S1x512x512.size inb, w⟩]) y = blockOut b y := by
    intro g w hw h
    have hn : y 0 = n := Fin.ext h
    rw [View.read_writes_cons_unit_of_mem v g inb w [] y (ix3 (0 : Fin 1) (y 1) (y 2)) ho fun a => by
      fin_cases a
      · show (y 0).val = n.val + 0; omega
      · show (y 1).val = 0 + (y 1).val; omega
      · show (y 2).val = 0 + (y 2).val; omega]
    rw [hw]; unfold blockOut; rw [hn]
  have miss : ∀ (g : v.ty.Contents (Elt F)) (w : FVec F S1x512x512 .f32), (y 0).val < n.val →
      v.read (Elt F) (v.writes (Elt F) g [⟨Rect.unit (s := S8x512x512) off S1x512x512.size inb, w⟩]) y = v.read (Elt F) g y := by
    intro g w h
    exact View.read_writes_cons_unit_of_not_mem v g inb w [] y ho 0 (.inl h)
  by_cases hs : same (image b n) = 1#32
  · have hb : ¬B := fun h => absurd ((hB.mp h).symm.trans hs) (by decide)
    rw [dif_neg hb, dif_pos (hA.mpr hs)]
    rcases Nat.lt_succ_iff_lt_or_eq.mp hy with h | h
    · rw [miss _ _ h]; exact hf y h
    · exact hit _ _ (by rw [hD]; unfold out; rw [if_pos hs]) h
  · have hb : B := hB.mpr ((same_cases _).resolve_left hs)
    rw [dif_pos hb, dif_neg (fun h => hs (hA.mp h))]
    rcases Nat.lt_succ_iff_lt_or_eq.mp hy with h | h
    · rw [miss _ _ h]; exact hf y h
    · exact hit _ _ (by rw [hP]; unfold out; rw [if_neg hs]) h

/-- The same, the image and the four windows being what the kernel's loads read. -/
theorem image_done (m : Memref sig .tc .vmem S8x512x512 .f32) (hm : m.IsWhole) (v : View sig .tc .vmem S8x512x512 .f32)
    (vs : View sig .tc .vmem S512x512 .f32) (b : Vec F S8x512x512 .f32) (n : Fin 8)
    (f : v.ty.Contents (Elt F)) (A B : Prop) [Decidable A] [Decidable B]
    (inb : ∀ a, (![n.val, 0, 0] : Fin 3 → ℕ) a + S1x512x512.size a ≤ S8x512x512.size a)
    (x : Vec F S1x512x512 .f32)
    (hx : x = View.readAt (Elt F) m.view (Rect.unit (s := S8x512x512) ![n.val, 0, 0] S1x512x512.size inb).toLoadRect (hm.unread b))
    (D : FVec F S1x512x512 .f32) (P : B → FVec F S1x512x512 .f32)
    (hA : A ↔ same x = 1#32) (hB : B ↔ same x = 0#32) (hD : D = direct x)
    (hP : ∀ hc, x = image b n → P hc = cols x (rows x))
    (hf : ∀ y : S8x512x512.Idx, (y 0).val < n.val → v.read (Elt F) f y = blockOut b y) :
    ∀ y : S8x512x512.Idx, (y 0).val < n.val + 1 →
      v.read (Elt F) (if hc : B then v.writes (Elt F)
          (if hc : A then v.writes (Elt F) f [⟨Rect.unit (s := S8x512x512) ![n.val, 0, 0] S1x512x512.size inb, D⟩] else f)
          [⟨Rect.unit (s := S8x512x512) ![n.val, 0, 0] S1x512x512.size inb, P hc⟩]
        else (if hc : A then v.writes (Elt F) f [⟨Rect.unit (s := S8x512x512) ![n.val, 0, 0] S1x512x512.size inb, D⟩] else f)) y
        = blockOut b y :=
  have e : x = image b n := hx.trans (image_read m hm b n _ rfl inb)
  image_step v b n f A B _ rfl inb x e D P hA hB hD (fun hc => hP hc e) hf

end Cert.Focus
end
-- ==== Proof.Focus.Body.lean ====
/- The kernel's body on one block of eight images: run once, symbolically, from its input held at any contents, it leaves
   its output at `blockOut` of them. The eight images are eight uses of one lemma. -/
module

public import proofs.«01_k».proof.Proof.Gen.KernelIdeal.Frame
public import proofs.«01_k».proof.Proof.Focus.Store
public import Idealize.ShloMosaic.Lib.Guarded
public import Idealize.ShloMosaic.Lib.Selection

@[expose] public section

set_option maxRecDepth 16384

noncomputable section

namespace Cert.Focus

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option maxHeartbeats 8000000 in
set_option sl_exec.dischHeartbeats 100000 in
/-- The body, from any contents of its input, its output and its scratch buffer: it changes no input, and its output
    then holds each image's own result. Every row number it computes from the image passes its checks. -/
theorem body_run (c : Dev nD) (i : grid0.Coords) (arg1 : Memref sig .tc .vmem S8x512x512 .f32) (harg1 : arg1.IsWhole)
    (arg2 : Memref sig .tc .vmem S8x512x512 .f32) (harg2 : arg2.IsWhole) (arg3 : Memref sig .tc .vmem S512x512 .f32)
    (harg3 : arg3.IsWhole) (x0 : Vec F S8x512x512 .f32) (E : Set ℕ) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (blockOut x0)
            ∗ (∃ f, arg3.view.loc (c : Thread nD τ) ↦[arg3.view.set]{fullShare} f)) -∗ K ⟨⟩))
      ⊢ wp frame (wpE (defs₀ (F := F)) Variants.none c none) E (cc0_focus2d i arg1 harg1 arg2 harg2 arg3 harg3) K := by
  sl_unfold [cc0_focus2d]
  unfold owns
  iintro ⟨⟨%f0, %hf0, H0⟩, ⟨%d1, %f1, -, H1⟩, ⟨%ds0, %fs0, -, HS0⟩, Hk⟩
  obtain rfl := harg1.eq_unread hf0
  sl_exec (disch := exact ⟨fun _ => by exact (word_ok _ _ (by decide) (by decide)).1,
    fun _ => window_inside _ rfl (by exact (word_ok _ _ (by decide) (by decide)).2) rfl⟩)
  sl_step
  iapply Hk
  isplitl [H0]
  · iexists _
    isplitr
    · ipureintro; exact harg1.read_unread _
    · iexact H0
  isplitl [H1]
  · iexists _
    isplitr
    rotate_left
    · iexact H1
    · ipureintro
      refine funext fun y => (?_ : ∀ y : S8x512x512.Idx, (y 0).val < 8 → _ = blockOut x0 y) y (y 0).isLt
      refine image_done arg1 harg1 arg2.view arg3.view x0 7 _ _ _ inb_S8x512x512_S1x512x512_7_0_0 _ rfl _ _
        (direct_guard _) (blend_guard _) rfl (fun hc hx => blend_read arg1 harg1 arg3.view x0 7 _ hx _ _ _ _ rfl rfl rfl rfl _ _ _ _) ?_
      refine image_done arg1 harg1 arg2.view arg3.view x0 6 _ _ _ inb_S8x512x512_S1x512x512_6_0_0 _ rfl _ _
        (direct_guard _) (blend_guard _) rfl (fun hc hx => blend_read arg1 harg1 arg3.view x0 6 _ hx _ _ _ _ rfl rfl rfl rfl _ _ _ _) ?_
      refine image_done arg1 harg1 arg2.view arg3.view x0 5 _ _ _ inb_S8x512x512_S1x512x512_5_0_0 _ rfl _ _
        (direct_guard _) (blend_guard _) rfl (fun hc hx => blend_read arg1 harg1 arg3.view x0 5 _ hx _ _ _ _ rfl rfl rfl rfl _ _ _ _) ?_
      refine image_done arg1 harg1 arg2.view arg3.view x0 4 _ _ _ inb_S8x512x512_S1x512x512_4_0_0 _ rfl _ _
        (direct_guard _) (blend_guard _) rfl (fun hc hx => blend_read arg1 harg1 arg3.view x0 4 _ hx _ _ _ _ rfl rfl rfl rfl _ _ _ _) ?_
      refine image_done arg1 harg1 arg2.view arg3.view x0 3 _ _ _ inb_S8x512x512_S1x512x512_3_0_0 _ rfl _ _
        (direct_guard _) (blend_guard _) rfl (fun hc hx => blend_read arg1 harg1 arg3.view x0 3 _ hx _ _ _ _ rfl rfl rfl rfl _ _ _ _) ?_
      refine image_done arg1 harg1 arg2.view arg3.view x0 2 _ _ _ inb_S8x512x512_S1x512x512_2_0_0 _ rfl _ _
        (direct_guard _) (blend_guard _) rfl (fun hc hx => blend_read arg1 harg1 arg3.view x0 2 _ hx _ _ _ _ rfl rfl rfl rfl _ _ _ _) ?_
      refine image_done arg1 harg1 arg2.view arg3.view x0 1 _ _ _ inb_S8x512x512_S1x512x512_1_0_0 _ rfl _ _
        (direct_guard _) (blend_guard _) rfl (fun hc hx => blend_read arg1 harg1 arg3.view x0 1 _ hx _ _ _ _ rfl rfl rfl rfl _ _ _ _) ?_
      refine image_done arg1 harg1 arg2.view arg3.view x0 0 _ _ _ inb_S8x512x512_S1x512x512_0_0_0 _ rfl _ _
        (direct_guard _) (blend_guard _) rfl (fun hc hx => blend_read arg1 harg1 arg3.view x0 0 _ hx _ _ _ _ rfl rfl rfl rfl _ _ _ _) ?_
      exact fun y hy => absurd hy (Nat.not_lt_zero _)
  · iexists _
    iexact HS0

end Cert.Focus
end
-- ==== Proof.Focus.Launch.lean ====
/- The launch of the kernel: the body at every point of the grid, then the whole program, with every counter back at zero. -/
module

public import proofs.«01_k».proof.Proof.Gen.KernelIdeal.Frame
public import proofs.«01_k».proof.Proof.Focus.Body
public import Idealize.ShloMosaic.Lib.Claim

@[expose] public section

set_option maxRecDepth 16384

noncomputable section

namespace Cert.Focus

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The launch's proof data -/

variable (m : (ℓ : Loc nD τ sig) → Buf (Elt F) ℓ) (ρ : Dev nD → PrngReg)

/-- Each window's staging buffer at point `t`, and that it is a whole buffer; the scratch buffer. -/
abbrev inAt (t : Fin cfg0.N) : Memref sig .tc .vmem S8x512x512 .f32 := win0_0.stage (cfg0.slots t 0)
/-- The step's input buffer is a whole buffer. -/
abbrev inAt_whole (t : Fin cfg0.N) : (inAt t).IsWhole := hstage0_0 ((cfg0.slots t 0).cast nbuf0_0)
/-- The step's output buffer. -/
abbrev outAt (t : Fin cfg0.N) : Memref sig .tc .vmem S8x512x512 .f32 := win0_1.stage (cfg0.slots t 1)
/-- The step's output buffer is a whole buffer. -/
abbrev outAt_whole (t : Fin cfg0.N) : (outAt t).IsWhole := hstage0_1 ((cfg0.slots t 1).cast nbuf0_1)
/-- The scratch buffer. -/
abbrev tmpAt : Memref sig .tc .vmem S512x512 .f32 := Memref.whole cc0_scratch0

/-- What the kernel's invariant owns: the scratch buffer at some contents, and the generator's register. -/
theorem rest_eq (c : Dev nD) :
    (Pipeline.ΦA spec0 c : sProp 𝕄)
      = iprop(iprop((∃ d, owns (c : Thread nD τ) tmpAt fullShare d)) ∗ (∃ r, prngReg c r)) := by
  unfold Pipeline.ΦA; rw [scopedRest0_eq]; simp only [tmpAt, owns_whole]; try rfl

/-- The proof data: after the body at point `t` the input's buffer holds its block, the output's buffer `blockOut` of it. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (F := F) (iblk m c 0 t)
  Φ _ := Pipeline.ΦA spec0 c
  q _ := fullShare
  owed _ := 0

/-- The arrays are those that the host code left. -/
theorem data_A (c : Dev nD) (w : Fin cfg0.W) : (data m 0 c).A w = V m c (Pipeline.arrRef spec0 w) := by
  dsimp only [data]
/-- A step leaves its input block as it was. -/
theorem data_in (c : Dev nD) (t : Fin cfg0.N) : (data m 0 c).after 0 t = iblk m c 0 t := by dsimp only [data]
/-- A step leaves the eight results in its output block. -/
theorem data_out (c : Dev nD) (t : Fin cfg0.N) : (data m 0 c).after 1 t = blockOut (F := F) (iblk m c 0 t) := by
  dsimp only [data]
/-- Before a step its input buffer holds the step's block. -/
theorem data_before (c : Dev nD) (t : Fin cfg0.N) (d) : (data m 0 c).before 0 t d = iblk m c 0 t :=
  before0_0_of m (data m 0 c) (data_A m c 0) (data_in m c) t d

/-- What the body is called with at point `t`, -/
def pre (c : Dev nD) (t : Fin cfg0.N) : sProp 𝕄 :=
  iprop((data m 0 c).Φ t.castSucc ∗ (data m 0 c).owesAt () t.castSucc
    ∗ (∃ d, owns (c : Thread nD τ) (inAt t) fullShare ((data m 0 c).before 0 t d))
    ∗ (∃ d, owns (c : Thread nD τ) (outAt t) fullShare ((data m 0 c).before 1 t d)))
/-- and what it returns. -/
def post (c : Dev nD) (t : Fin cfg0.N) : sProp 𝕄 :=
  iprop((data m 0 c).Φ t.succ ∗ (data m 0 c).owesAt () t.succ
    ∗ owns (c : Thread nD τ) (inAt t) fullShare ((data m 0 c).after 0 t)
    ∗ owns (c : Thread nD τ) (outAt t) fullShare ((data m 0 c).after 1 t))

/-- The body at any point: its staged block goes in, `blockOut` of the block comes out. -/
theorem point_run (c : Dev nD) (t : Fin cfg0.N) :
    pre m c t ⊢ wp frame (wpE (defs₀ (F := F)) Variants.none c none) Set.univ (bodyAt0 t) (fun _ => post m c t) := by
  unfold pre post bodyAt0
  simp only [data_before]
  rw [show (data m 0 c).Φ t.succ = (data m 0 c).Φ t.castSucc from rfl,
    show (data m 0 c).owesAt () t.succ = (data m 0 c).owesAt () t.castSucc from rfl, data_in, data_out]
  rw [show (data m 0 c).Φ t.castSucc = Pipeline.ΦA spec0 c from rfl, rest_eq]
  iintro ⟨⟨HS, Hg⟩, Ho, ⟨%d0, H0⟩, ⟨%d1, H1⟩⟩
  iapply (body_run c (grid0.coords t) (inAt t) (inAt_whole t) (outAt t) (outAt_whole t) tmpAt (Memref.isWhole_whole _)
    (iblk m c 0 t) Set.univ _)
  isplitl [H0]; · iexact H0
  isplitl [H1]; · iexists _; iexact H1
  isplitl [HS]; · iexact HS
  iintro ⟨H0, H1, ⟨%f, HS⟩⟩
  isplitl [HS Hg]
  · isplitl [HS]
    · iexists _; unfold owns; iexists _; isplitr
      swap; · iexact HS
      ipureintro; rfl
    · iexact Hg
  isplitl [Ho]; · iexact Ho
  isplitl [H0]; · iexact H0
  iexact H1

/-- The body table's row at point `t` is the body at that point's buffers. -/
theorem row_eq (t : Fin cfg0.N) :
    defs₀ (F := F) .tc cfg0.body (cfg0.bodyArgs t (cfg0.slots t)) = bodyAt0 t := by
  unfold defs₀; rw [Defs.onTc_tc]

/-- The body's obligation to the pipeline, at every point. -/
theorem obligation (c : Dev nD) : BodyObligation (data (F := F) m 0 c) (defs₀ (F := F)) Variants.none () Set.univ := fun t => by
  rw [bigSep_W0, bigSep_W0, row_eq]
  exact triple_restated (point_run m c t) rfl .rfl fun _ => .rfl

set_option backward.isDefEq.respectTransparency.types false in
set_option maxHeartbeats 800000 in
/-- The launch: every weakly fair execution ends, with each array as the proof data says and every counter at zero. -/
theorem launch_run : θ_run defs (onTc (τ := τ) (main (F := F))) (s₀ m ρ) (fun r =>
    (Pipeline.FramePost cfgs (data m) 0 (Pipeline.afterTail₀ cfgs (data m) 0 (V0 m) [hostOps1])) r ∧ r.2.sem = fun _ => 0) :=
  Pipeline.θ_run_frame_around (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := data_A m) (hΦ := fun _ _ => rfl)

/-- The frame: the program ends, its argument is unchanged, and every counter is back at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (data m) (data_A m) ((θ_run defs _ _).mono (fun _ h => h.1) (launch_run m ρ)))
    ((θ_run defs _ _).mono (fun _ h => h.2) (launch_run m ρ))

end Cert.Focus

end
-- ==== Proof.Focus.Frames.lean ====
/- The frames: each of the three programs ends, with its argument unchanged and every counter back at zero. -/
module

public import proofs.«01_k».proof.Defs
public import proofs.«01_k».proof.Proof.Gen.Kernel
public import proofs.«01_k».proof.Proof.Gen.KernelIdeal
public import proofs.«01_k».proof.Proof.Focus.Launch

@[expose] public section

set_option maxRecDepth 16384

noncomputable section

namespace Cert.Focus

open Idealize.ShloMosaic Idealize.SL.Sem

variable {F : FTy → Type} [FloatOps F]

set_option maxHeartbeats 4000000 in
/-- The kernel and its idealization have the same body. -/
theorem body_same : Cert.Kernel.cc0_focus2d (F := F) = Cert.KernelIdeal.cc0_focus2d (F := F) := rfl

set_option maxHeartbeats 1000000 in
/-- So they have the same table of bodies, at every label. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    exact congrFun (congrFun (congrFun (congrFun (congrFun (congrFun (congrFun body_same _) _) _) _) _) _) _
  | ⟨_ + 1, h⟩, _ => exact absurd h (Nat.not_lt.2 (Nat.le_add_left _ _))

/-- The kernel's definitions are the same text under both names. -/
theorem defs_same : Cert.Kernel.defs (F := F) = Cert.KernelIdeal.defs (F := F) :=
  congrArg (Pipeline.defs Cert.KernelIdeal.pcfgs) bodies_same

set_option maxHeartbeats 4000000 in
/-- The kernel and its idealization are one program text, so the frame shown at any float values is the kernel's too. -/
theorem frame_kernel : Cert.quiescent_Kernel := fun m g _ => by
  rw [defs_same]
  exact frame_run (F := Bits) m g

/-- The kernel over the extended reals runs to its end, with its argument and its semaphores as they were. -/
theorem frame_ideal : Cert.quiescent_KernelIdeal := fun m g _ => frame_run (F := Ideal) m g

end Cert.Focus

end
-- ==== Proof.Focus.RefLine.lean ====
/- The reference as one straight line of operations, cut where its mathematics changes, and what every buffer holds after it. -/
module

public import proofs.«01_k».proof.Proof.Gen.ReferenceIdeal
public import Idealize.ShloMosaic.Lib.StableHlo.RunHlo
public import Idealize.ShloMosaic.Lib.StableHlo.ReadAt
public import Idealize.ShloMosaic.Lib.Claim

@[expose] public section

set_option maxRecDepth 16384

noncomputable section

namespace Cert.Focus.Ref

open Idealize.ShloMosaic Idealize.SL.Sem Cert.ReferenceIdeal Cert.ReferenceIdeal.Facts₀

variable {F : FTy → Type} [FloatOps F]

/-- Row numbers and column numbers put side by side, as the reference's look-ups take them. -/
def pairs (a b : (⟨S128x512x512x1, .i32⟩ : BufTy).Contents (Elt F)) : (⟨S128x512x512x2, .i32⟩ : BufTy).Contents (Elt F) :=
  concatenate S128x512x512x2 3 [⟨S128x512x512x1, a⟩, ⟨S128x512x512x1, b⟩] concatenates_S128x512x512x1_S128x512x512x1_S128x512x512x2_d3

/-- One look-up: for each output, the entry of the image at a row and a column. -/
def cells (x : (⟨S128x512x512, .f32⟩ : BufTy).Contents (Elt F)) (i : (⟨S128x512x512x2, .i32⟩ : BufTy).Contents (Elt F)) :
    (⟨S128x512x512, .f32⟩ : BufTy).Contents (Elt F) :=
  Host.gather gather_S128x512x512_S128x512x512x2_S128x512x512_n_12_0_0_12_3_111 x i

/-- The operations of the reference's function `round`. -/
abbrev ops_round (arg0 : StableHlo.TRef sig ⟨S4x512x32, .f32⟩) (φ : fn_round.Bufs) : List (HloOp τ sig (Elt F)) :=
    [ StableHlo.TRef.unary arg0 φ.v0 Host.roundeven ]

/-- The operations of the reference's function `argmax`. -/
abbrev ops_argmax (arg0 : StableHlo.TRef sig ⟨S4x512x32, .i32⟩) (φ : fn_argmax.Bufs) : List (HloOp τ sig (Elt F)) :=
    [ StableHlo.TRef.nullary φ.v0 (iotaInDim S4x512x32 32 1),
      StableHlo.TRef.nullary φ.c (constantI S_ 32 2147483648#32),
      StableHlo.TRef.nullary φ.c_0 (constantI S_ 32 0#32),
      StableHlo.TRef.quaternary arg0 φ.v0 φ.c φ.c_0 φ.v1_0 (fun x y u v j => (Host.reduce2 reducer_argmax_i32_i32 x y u v reducesTo_S4x512x32_S4x32_d1 h_S_ j).1),
      StableHlo.TRef.quaternary arg0 φ.v0 φ.c φ.c_0 φ.v1_1 (fun x y u v j => (Host.reduce2 reducer_argmax_i32_i32 x y u v reducesTo_S4x512x32_S4x32_d1 h_S_ j).2) ]

/-- The operations of the reference's function `round_0`. -/
abbrev ops_round_0 (arg0 : StableHlo.TRef sig ⟨S128, .f32⟩) (φ : fn_round_0.Bufs) : List (HloOp τ sig (Elt F)) :=
    [ StableHlo.TRef.unary arg0 φ.v0 Host.roundeven ]

/-- The operations of the reference's function `where`. -/
abbrev ops_where (arg0 : StableHlo.TRef sig ⟨S128, .i1⟩) (arg1 : StableHlo.TRef sig ⟨S128, .i32⟩) (arg2 : StableHlo.TRef sig ⟨S128, .i32⟩) (φ : fn_where.Bufs) : List (HloOp τ sig (Elt F)) :=
    [ StableHlo.TRef.ternary arg0 arg1 arg2 φ.v0 select ]

/-- The operations of the reference's function `floor_divide`. -/
abbrev ops_floor_divide (arg0 : StableHlo.TRef sig ⟨S128, .i32⟩) (arg1 : StableHlo.TRef sig ⟨S_, .i32⟩) (φ : fn_floor_divide.Bufs) : List (HloOp τ sig (Elt F)) :=
    [ StableHlo.TRef.unary arg1 φ.v0 id,
      StableHlo.TRef.unary φ.v0 φ.v1 (broadcastInDim S128 ![] bcast_S_S128),
      StableHlo.TRef.binary arg0 φ.v1 φ.v2 Host.divsi,
      StableHlo.TRef.unary arg0 φ.v3 signi,
      StableHlo.TRef.unary φ.v0 φ.v4 signi,
      StableHlo.TRef.unary φ.v4 φ.v5 (broadcastInDim S128 ![] bcast_S_S128),
      StableHlo.TRef.binary φ.v3 φ.v5 φ.v6 (cmpi .ne),
      StableHlo.TRef.unary φ.v0 φ.v7 (broadcastInDim S128 ![] bcast_S_S128),
      StableHlo.TRef.binary arg0 φ.v7 φ.v8 Host.remsi,
      StableHlo.TRef.nullary φ.c (constantI S_ 32 0#32),
      StableHlo.TRef.unary φ.c φ.v9 (broadcastInDim S128 ![] bcast_S_S128),
      StableHlo.TRef.binary φ.v8 φ.v9 φ.v10 (cmpi .ne),
      StableHlo.TRef.binary φ.v6 φ.v10 φ.v11 andi,
      StableHlo.TRef.nullary φ.c_0 (constantI S_ 32 1#32),
      StableHlo.TRef.unary φ.c_0 φ.v12 (broadcastInDim S128 ![] bcast_S_S128),
      StableHlo.TRef.binary φ.v2 φ.v12 φ.v13 subi ]
    ++ ops_where φ.v11 φ.v13 φ.v2 φ.call0

/-- The operations of the reference's function `clip`. -/
abbrev ops_clip (arg0 : StableHlo.TRef sig ⟨S128x512x1, .i32⟩) (arg1 : StableHlo.TRef sig ⟨S_, .i32⟩) (arg2 : StableHlo.TRef sig ⟨S128, .i32⟩) (φ : fn_clip.Bufs) : List (HloOp τ sig (Elt F)) :=
    [ StableHlo.TRef.unary arg1 φ.v0 id,
      StableHlo.TRef.unary φ.v0 φ.v1 (broadcastInDim S128x512x1 ![] bcast_S_S128x512x1),
      StableHlo.TRef.binary φ.v1 arg0 φ.v2 maxsi,
      StableHlo.TRef.unary arg2 φ.v3 (broadcastInDim S128x1x1 ![0] bcast_S128_S128x1x1_0),
      StableHlo.TRef.unary φ.v3 φ.v4 (broadcastInDim S128x512x1 ![0, 1, 2] bcast_S128x1x1_S128x512x1_0_1_2),
      StableHlo.TRef.binary φ.v4 φ.v2 φ.v5 minsi ]

/-- The operations of the reference's function `clip_1`. -/
abbrev ops_clip_1 (arg0 : StableHlo.TRef sig ⟨S128x1x512, .i32⟩) (arg1 : StableHlo.TRef sig ⟨S_, .i32⟩) (arg2 : StableHlo.TRef sig ⟨S128, .i32⟩) (φ : fn_clip_1.Bufs) : List (HloOp τ sig (Elt F)) :=
    [ StableHlo.TRef.unary arg1 φ.v0 id,
      StableHlo.TRef.unary φ.v0 φ.v1 (broadcastInDim S128x1x512 ![] bcast_S_S128x1x512),
      StableHlo.TRef.binary φ.v1 arg0 φ.v2 maxsi,
      StableHlo.TRef.unary arg2 φ.v3 (broadcastInDim S128x1x1 ![0] bcast_S128_S128x1x1_0),
      StableHlo.TRef.unary φ.v3 φ.v4 (broadcastInDim S128x1x512 ![0, 1, 2] bcast_S128x1x1_S128x1x512_0_1_2),
      StableHlo.TRef.binary φ.v4 φ.v2 φ.v5 minsi ]

/-- The operations of the reference's function `clip_2`. -/
abbrev ops_clip_2 (arg0 : StableHlo.TRef sig ⟨S128x512x1, .f32⟩) (arg1 : StableHlo.TRef sig ⟨S_, .f32⟩) (arg2 : StableHlo.TRef sig ⟨S_, .f32⟩) (φ : fn_clip_2.Bufs) : List (HloOp τ sig (Elt F)) :=
    [ StableHlo.TRef.unary arg1 φ.v0 id,
      StableHlo.TRef.unary φ.v0 φ.v1 (broadcastInDim S128x512x1 ![] bcast_S_S128x512x1),
      StableHlo.TRef.binary φ.v1 arg0 φ.v2 maximumf,
      StableHlo.TRef.unary arg2 φ.v3 id,
      StableHlo.TRef.unary φ.v3 φ.v4 (broadcastInDim S128x512x1 ![] bcast_S_S128x512x1),
      StableHlo.TRef.binary φ.v4 φ.v2 φ.v5 minimumf ]

/-- The operations of the reference's function `clip_3`. -/
abbrev ops_clip_3 (arg0 : StableHlo.TRef sig ⟨S128x1x512, .f32⟩) (arg1 : StableHlo.TRef sig ⟨S_, .f32⟩) (arg2 : StableHlo.TRef sig ⟨S_, .f32⟩) (φ : fn_clip_3.Bufs) : List (HloOp τ sig (Elt F)) :=
    [ StableHlo.TRef.unary arg1 φ.v0 id,
      StableHlo.TRef.unary φ.v0 φ.v1 (broadcastInDim S128x1x512 ![] bcast_S_S128x1x512),
      StableHlo.TRef.binary φ.v1 arg0 φ.v2 maximumf,
      StableHlo.TRef.unary arg2 φ.v3 id,
      StableHlo.TRef.unary φ.v3 φ.v4 (broadcastInDim S128x1x512 ![] bcast_S_S128x1x512),
      StableHlo.TRef.binary φ.v4 φ.v2 φ.v5 minimumf ]

/-- The operations of the reference's function `clip_4`. -/
abbrev ops_clip_4 (arg0 : StableHlo.TRef sig ⟨S128x512x1, .i32⟩) (arg1 : StableHlo.TRef sig ⟨S_, .i32⟩) (arg2 : StableHlo.TRef sig ⟨S_, .i32⟩) (φ : fn_clip_4.Bufs) : List (HloOp τ sig (Elt F)) :=
    [ StableHlo.TRef.unary arg1 φ.v0 id,
      StableHlo.TRef.unary φ.v0 φ.v1 (broadcastInDim S128x512x1 ![] bcast_S_S128x512x1),
      StableHlo.TRef.binary φ.v1 arg0 φ.v2 maxsi,
      StableHlo.TRef.unary arg2 φ.v3 id,
      StableHlo.TRef.unary φ.v3 φ.v4 (broadcastInDim S128x512x1 ![] bcast_S_S128x512x1),
      StableHlo.TRef.binary φ.v4 φ.v2 φ.v5 minsi ]

/-- The operations of the reference's function `clip_5`. -/
abbrev ops_clip_5 (arg0 : StableHlo.TRef sig ⟨S128x1x512, .i32⟩) (arg1 : StableHlo.TRef sig ⟨S_, .i32⟩) (arg2 : StableHlo.TRef sig ⟨S_, .i32⟩) (φ : fn_clip_5.Bufs) : List (HloOp τ sig (Elt F)) :=
    [ StableHlo.TRef.unary arg1 φ.v0 id,
      StableHlo.TRef.unary φ.v0 φ.v1 (broadcastInDim S128x1x512 ![] bcast_S_S128x1x512),
      StableHlo.TRef.binary φ.v1 arg0 φ.v2 maxsi,
      StableHlo.TRef.unary arg2 φ.v3 id,
      StableHlo.TRef.unary φ.v3 φ.v4 (broadcastInDim S128x1x512 ![] bcast_S_S128x1x512),
      StableHlo.TRef.binary φ.v4 φ.v2 φ.v5 minsi ]

/-- The operations of the reference's function `where_6`. -/
abbrev ops_where_6 (arg0 : StableHlo.TRef sig ⟨S128x512x512, .i1⟩) (arg1 : StableHlo.TRef sig ⟨S128x512x512, .f32⟩) (arg2 : StableHlo.TRef sig ⟨S_, .f32⟩) (φ : fn_where_6.Bufs) : List (HloOp τ sig (Elt F)) :=
    [ StableHlo.TRef.unary arg2 φ.v0 id,
      StableHlo.TRef.unary φ.v0 φ.v1 (broadcastInDim S512x512 ![] bcast_S_S512x512),
      StableHlo.TRef.unary φ.v1 φ.v2 (broadcastInDim S128x512x512 ![1, 2] bcast_S512x512_S128x512x512_1_2),
      StableHlo.TRef.ternary arg0 arg1 φ.v2 φ.v3 select ]

/-- Stretch `Scan`: the row and column maxima, squashed and rounded. -/
def lineScan : List (HloOp τ sig (Elt F)) :=
    [ StableHlo.nullary main_cst (constant S_ .f32 0xFF800000#32),
      StableHlo.binary main_arg0 main_cst main_v0 ((fun x v => Host.reduce FloatOps.maximumf x v reducesTo_S4x512x512x32_S4x512x32_d1 h_S_) : (⟨S4x512x512x32, .f32⟩ : BufTy).Contents (Elt F) → (⟨S_, .f32⟩ : BufTy).Contents (Elt F) → (⟨S4x512x32, .f32⟩ : BufTy).Contents (Elt F)),
      StableHlo.unary main_v0 main_v1 (Host.negf : (⟨S4x512x32, .f32⟩ : BufTy).Contents (Elt F) → (⟨S4x512x32, .f32⟩ : BufTy).Contents (Elt F)),
      StableHlo.unary main_v1 main_v2 (Host.exp : (⟨S4x512x32, .f32⟩ : BufTy).Contents (Elt F) → (⟨S4x512x32, .f32⟩ : BufTy).Contents (Elt F)),
      StableHlo.nullary main_cst_0 (constant S_ .f32 0x3F800000#32),
      StableHlo.unary main_cst_0 main_v3 (broadcastInDim S4x512x32 ![] bcast_S_S4x512x32 : (⟨S_, .f32⟩ : BufTy).Contents (Elt F) → (⟨S4x512x32, .f32⟩ : BufTy).Contents (Elt F)),
      StableHlo.binary main_v3 main_v2 main_v4 (addf : (⟨S4x512x32, .f32⟩ : BufTy).Contents (Elt F) → (⟨S4x512x32, .f32⟩ : BufTy).Contents (Elt F) → (⟨S4x512x32, .f32⟩ : BufTy).Contents (Elt F)),
      StableHlo.nullary main_cst_1 (constant S_ .f32 0x3F800000#32),
      StableHlo.unary main_cst_1 main_v5 (broadcastInDim S4x512x32 ![] bcast_S_S4x512x32 : (⟨S_, .f32⟩ : BufTy).Contents (Elt F) → (⟨S4x512x32, .f32⟩ : BufTy).Contents (Elt F)),
      StableHlo.binary main_v5 main_v4 main_v6 (Host.divf : (⟨S4x512x32, .f32⟩ : BufTy).Contents (Elt F) → (⟨S4x512x32, .f32⟩ : BufTy).Contents (Elt F) → (⟨S4x512x32, .f32⟩ : BufTy).Contents (Elt F)),
      StableHlo.nullary main_cst_2 (constant S_ .f32 0x00000000#32),
      StableHlo.unary main_cst_2 main_v7 (broadcastInDim S4x512x32 ![] bcast_S_S4x512x32 : (⟨S_, .f32⟩ : BufTy).Contents (Elt F) → (⟨S4x512x32, .f32⟩ : BufTy).Contents (Elt F)),
      StableHlo.binary main_v6 main_v7 main_v8 (addf : (⟨S4x512x32, .f32⟩ : BufTy).Contents (Elt F) → (⟨S4x512x32, .f32⟩ : BufTy).Contents (Elt F) → (⟨S4x512x32, .f32⟩ : BufTy).Contents (Elt F)) ]
    ++ ops_round (.of main_v8) main_call0
    ++ [ StableHlo.unary main_v9 main_v10 (fptosi 32 : (⟨S4x512x32, .f32⟩ : BufTy).Contents (Elt F) → (⟨S4x512x32, .i32⟩ : BufTy).Contents (Elt F)),
      StableHlo.nullary main_cst_3 (constant S_ .f32 0xFF800000#32),
      StableHlo.binary main_arg0 main_cst_3 main_v11 ((fun x v => Host.reduce FloatOps.maximumf x v reducesTo_S4x512x512x32_S4x512x32_d2 h_S_) : (⟨S4x512x512x32, .f32⟩ : BufTy).Contents (Elt F) → (⟨S_, .f32⟩ : BufTy).Contents (Elt F) → (⟨S4x512x32, .f32⟩ : BufTy).Contents (Elt F)),
      StableHlo.unary main_v11 main_v12 (Host.negf : (⟨S4x512x32, .f32⟩ : BufTy).Contents (Elt F) → (⟨S4x512x32, .f32⟩ : BufTy).Contents (Elt F)),
      StableHlo.unary main_v12 main_v13 (Host.exp : (⟨S4x512x32, .f32⟩ : BufTy).Contents (Elt F) → (⟨S4x512x32, .f32⟩ : BufTy).Contents (Elt F)),
      StableHlo.nullary main_cst_4 (constant S_ .f32 0x3F800000#32),
      StableHlo.unary main_cst_4 main_v14 (broadcastInDim S4x512x32 ![] bcast_S_S4x512x32 : (⟨S_, .f32⟩ : BufTy).Contents (Elt F) → (⟨S4x512x32, .f32⟩ : BufTy).Contents (Elt F)),
      StableHlo.binary main_v14 main_v13 main_v15 (addf : (⟨S4x512x32, .f32⟩ : BufTy).Contents (Elt F) → (⟨S4x512x32, .f32⟩ : BufTy).Contents (Elt F) → (⟨S4x512x32, .f32⟩ : BufTy).Contents (Elt F)),
      StableHlo.nullary main_cst_5 (constant S_ .f32 0x3F800000#32),
      StableHlo.unary main_cst_5 main_v16 (broadcastInDim S4x512x32 ![] bcast_S_S4x512x32 : (⟨S_, .f32⟩ : BufTy).Contents (Elt F) → (⟨S4x512x32, .f32⟩ : BufTy).Contents (Elt F)),
      StableHlo.binary main_v16 main_v15 main_v17 (Host.divf : (⟨S4x512x32, .f32⟩ : BufTy).Contents (Elt F) → (⟨S4x512x32, .f32⟩ : BufTy).Contents (Elt F) → (⟨S4x512x32, .f32⟩ : BufTy).Contents (Elt F)),
      StableHlo.nullary main_cst_6 (constant S_ .f32 0x00000000#32),
      StableHlo.unary main_cst_6 main_v18 (broadcastInDim S4x512x32 ![] bcast_S_S4x512x32 : (⟨S_, .f32⟩ : BufTy).Contents (Elt F) → (⟨S4x512x32, .f32⟩ : BufTy).Contents (Elt F)),
      StableHlo.binary main_v17 main_v18 main_v19 (addf : (⟨S4x512x32, .f32⟩ : BufTy).Contents (Elt F) → (⟨S4x512x32, .f32⟩ : BufTy).Contents (Elt F) → (⟨S4x512x32, .f32⟩ : BufTy).Contents (Elt F)) ]
    ++ ops_round (.of main_v19) main_call1
    ++ [ StableHlo.unary main_v20 main_v21 (fptosi 32 : (⟨S4x512x32, .f32⟩ : BufTy).Contents (Elt F) → (⟨S4x512x32, .i32⟩ : BufTy).Contents (Elt F)) ]

/-- Stretch `Edge`: the first and last live columns and rows, the images one after another. -/
def lineEdge : List (HloOp τ sig (Elt F)) :=
    [ StableHlo.nullary main_v22 (iotaInDim S512 32 0),
      StableHlo.nullary main_v23 (iotaInDim S512 32 0),
      StableHlo.unary main_v22 main_v24 (Host.reverse [0] : (⟨S512, .i32⟩ : BufTy).Contents (Elt F) → (⟨S512, .i32⟩ : BufTy).Contents (Elt F)),
      StableHlo.unary main_v24 main_v25 (broadcastInDim S1x512x1 ![1] bcast_S512_S1x512x1_1 : (⟨S512, .i32⟩ : BufTy).Contents (Elt F) → (⟨S1x512x1, .i32⟩ : BufTy).Contents (Elt F)),
      StableHlo.unary main_v25 main_v26 (broadcastInDim S4x512x32 ![0, 1, 2] bcast_S1x512x1_S4x512x32_0_1_2 : (⟨S1x512x1, .i32⟩ : BufTy).Contents (Elt F) → (⟨S4x512x32, .i32⟩ : BufTy).Contents (Elt F)),
      StableHlo.binary main_v10 main_v26 main_v27 (muli : (⟨S4x512x32, .i32⟩ : BufTy).Contents (Elt F) → (⟨S4x512x32, .i32⟩ : BufTy).Contents (Elt F) → (⟨S4x512x32, .i32⟩ : BufTy).Contents (Elt F)) ]
    ++ ops_argmax (.of main_v27) main_call2
    ++ [ StableHlo.unary main_v22 main_v29 (broadcastInDim S1x512x1 ![1] bcast_S512_S1x512x1_1 : (⟨S512, .i32⟩ : BufTy).Contents (Elt F) → (⟨S1x512x1, .i32⟩ : BufTy).Contents (Elt F)),
      StableHlo.unary main_v29 main_v30 (broadcastInDim S4x512x32 ![0, 1, 2] bcast_S1x512x1_S4x512x32_0_1_2 : (⟨S1x512x1, .i32⟩ : BufTy).Contents (Elt F) → (⟨S4x512x32, .i32⟩ : BufTy).Contents (Elt F)),
      StableHlo.binary main_v10 main_v30 main_v31 (muli : (⟨S4x512x32, .i32⟩ : BufTy).Contents (Elt F) → (⟨S4x512x32, .i32⟩ : BufTy).Contents (Elt F) → (⟨S4x512x32, .i32⟩ : BufTy).Contents (Elt F)) ]
    ++ ops_argmax (.of main_v31) main_call3
    ++ [ StableHlo.unary main_v23 main_v33 (Host.reverse [0] : (⟨S512, .i32⟩ : BufTy).Contents (Elt F) → (⟨S512, .i32⟩ : BufTy).Contents (Elt F)),
      StableHlo.unary main_v33 main_v34 (broadcastInDim S1x512x1 ![1] bcast_S512_S1x512x1_1 : (⟨S512, .i32⟩ : BufTy).Contents (Elt F) → (⟨S1x512x1, .i32⟩ : BufTy).Contents (Elt F)),
      StableHlo.unary main_v34 main_v35 (broadcastInDim S4x512x32 ![0, 1, 2] bcast_S1x512x1_S4x512x32_0_1_2 : (⟨S1x512x1, .i32⟩ : BufTy).Contents (Elt F) → (⟨S4x512x32, .i32⟩ : BufTy).Contents (Elt F)),
      StableHlo.binary main_v21 main_v35 main_v36 (muli : (⟨S4x512x32, .i32⟩ : BufTy).Contents (Elt F) → (⟨S4x512x32, .i32⟩ : BufTy).Contents (Elt F) → (⟨S4x512x32, .i32⟩ : BufTy).Contents (Elt F)) ]
    ++ ops_argmax (.of main_v36) main_call4
    ++ [ StableHlo.unary main_v23 main_v38 (broadcastInDim S1x512x1 ![1] bcast_S512_S1x512x1_1 : (⟨S512, .i32⟩ : BufTy).Contents (Elt F) → (⟨S1x512x1, .i32⟩ : BufTy).Contents (Elt F)),
      StableHlo.unary main_v38 main_v39 (broadcastInDim S4x512x32 ![0, 1, 2] bcast_S1x512x1_S4x512x32_0_1_2 : (⟨S1x512x1, .i32⟩ : BufTy).Contents (Elt F) → (⟨S4x512x32, .i32⟩ : BufTy).Contents (Elt F)),
      StableHlo.binary main_v21 main_v39 main_v40 (muli : (⟨S4x512x32, .i32⟩ : BufTy).Contents (Elt F) → (⟨S4x512x32, .i32⟩ : BufTy).Contents (Elt F) → (⟨S4x512x32, .i32⟩ : BufTy).Contents (Elt F)) ]
    ++ ops_argmax (.of main_v40) main_call5
    ++ [ StableHlo.unary main_arg0 main_v42 ((transpose S4x32x512x512 [0, 3, 1, 2] · transposes_S4x512x512x32_S4x32x512x512_0_3_1_2) : (⟨S4x512x512x32, .f32⟩ : BufTy).Contents (Elt F) → (⟨S4x32x512x512, .f32⟩ : BufTy).Contents (Elt F)),
      StableHlo.reshape main_v42 main_v43 (rfl : (.f32 : EltTy) = .f32) shapeCasts_S4x32x512x512_S128x512x512,
      StableHlo.reshape main_v28 main_v44 (rfl : (.i32 : EltTy) = .i32) shapeCasts_S4x32_S128,
      StableHlo.reshape main_v37 main_v45 (rfl : (.i32 : EltTy) = .i32) shapeCasts_S4x32_S128,
      StableHlo.reshape main_v32 main_v46 (rfl : (.i32 : EltTy) = .i32) shapeCasts_S4x32_S128,
      StableHlo.reshape main_v41 main_v47 (rfl : (.i32 : EltTy) = .i32) shapeCasts_S4x32_S128 ]

/-- Stretch `Size`, its first part. -/
def lineSize₁ : List (HloOp τ sig (Elt F)) :=
    [ StableHlo.binary main_v47 main_v45 main_v48 (subi : (⟨S128, .i32⟩ : BufTy).Contents (Elt F) → (⟨S128, .i32⟩ : BufTy).Contents (Elt F) → (⟨S128, .i32⟩ : BufTy).Contents (Elt F)),
      StableHlo.nullary main_c (constantI S_ 32 1#32),
      StableHlo.unary main_c main_v49 (broadcastInDim S128 ![] bcast_S_S128 : (⟨S_, .i32⟩ : BufTy).Contents (Elt F) → (⟨S128, .i32⟩ : BufTy).Contents (Elt F)),
      StableHlo.binary main_v48 main_v49 main_v50 (maxsi : (⟨S128, .i32⟩ : BufTy).Contents (Elt F) → (⟨S128, .i32⟩ : BufTy).Contents (Elt F) → (⟨S128, .i32⟩ : BufTy).Contents (Elt F)) ]

/-- Its second part. -/
def lineSize₂ : List (HloOp τ sig (Elt F)) :=
    [ StableHlo.binary main_v46 main_v44 main_v51 (subi : (⟨S128, .i32⟩ : BufTy).Contents (Elt F) → (⟨S128, .i32⟩ : BufTy).Contents (Elt F) → (⟨S128, .i32⟩ : BufTy).Contents (Elt F)),
      StableHlo.nullary main_c_7 (constantI S_ 32 1#32),
      StableHlo.unary main_c_7 main_v52 (broadcastInDim S128 ![] bcast_S_S128 : (⟨S_, .i32⟩ : BufTy).Contents (Elt F) → (⟨S128, .i32⟩ : BufTy).Contents (Elt F)),
      StableHlo.binary main_v51 main_v52 main_v53 (maxsi : (⟨S128, .i32⟩ : BufTy).Contents (Elt F) → (⟨S128, .i32⟩ : BufTy).Contents (Elt F) → (⟨S128, .i32⟩ : BufTy).Contents (Elt F)) ]

/-- Stretch `Size`: the box sizes. -/
def lineSize : List (HloOp τ sig (Elt F)) := lineSize₁ ++ lineSize₂

/-- Stretch `Grow`: the enlarged sizes. -/
def lineGrow : List (HloOp τ sig (Elt F)) :=
    [ StableHlo.nullary main_c_8 (constantI S_ 32 506#32),
      StableHlo.unary main_c_8 main_v54 (broadcastInDim S128 ![] bcast_S_S128 : (⟨S_, .i32⟩ : BufTy).Contents (Elt F) → (⟨S128, .i32⟩ : BufTy).Contents (Elt F)),
      StableHlo.binary main_v54 main_v50 main_v55 (maxsi : (⟨S128, .i32⟩ : BufTy).Contents (Elt F) → (⟨S128, .i32⟩ : BufTy).Contents (Elt F) → (⟨S128, .i32⟩ : BufTy).Contents (Elt F)),
      StableHlo.nullary main_c_9 (constantI S_ 32 506#32),
      StableHlo.unary main_c_9 main_v56 (broadcastInDim S128 ![] bcast_S_S128 : (⟨S_, .i32⟩ : BufTy).Contents (Elt F) → (⟨S128, .i32⟩ : BufTy).Contents (Elt F)),
      StableHlo.binary main_v56 main_v53 main_v57 (maxsi : (⟨S128, .i32⟩ : BufTy).Contents (Elt F) → (⟨S128, .i32⟩ : BufTy).Contents (Elt F) → (⟨S128, .i32⟩ : BufTy).Contents (Elt F)),
      StableHlo.unary main_v55 main_v58 (sitofp .f32 : (⟨S128, .i32⟩ : BufTy).Contents (Elt F) → (⟨S128, .f32⟩ : BufTy).Contents (Elt F)),
      StableHlo.unary main_v50 main_v59 (sitofp .f32 : (⟨S128, .i32⟩ : BufTy).Contents (Elt F) → (⟨S128, .f32⟩ : BufTy).Contents (Elt F)),
      StableHlo.binary main_v58 main_v59 main_v60 (Host.divf : (⟨S128, .f32⟩ : BufTy).Contents (Elt F) → (⟨S128, .f32⟩ : BufTy).Contents (Elt F) → (⟨S128, .f32⟩ : BufTy).Contents (Elt F)),
      StableHlo.unary main_v57 main_v61 (sitofp .f32 : (⟨S128, .i32⟩ : BufTy).Contents (Elt F) → (⟨S128, .f32⟩ : BufTy).Contents (Elt F)),
      StableHlo.unary main_v53 main_v62 (sitofp .f32 : (⟨S128, .i32⟩ : BufTy).Contents (Elt F) → (⟨S128, .f32⟩ : BufTy).Contents (Elt F)),
      StableHlo.binary main_v61 main_v62 main_v63 (Host.divf : (⟨S128, .f32⟩ : BufTy).Contents (Elt F) → (⟨S128, .f32⟩ : BufTy).Contents (Elt F) → (⟨S128, .f32⟩ : BufTy).Contents (Elt F)),
      StableHlo.binary main_v60 main_v63 main_v64 (minimumf : (⟨S128, .f32⟩ : BufTy).Contents (Elt F) → (⟨S128, .f32⟩ : BufTy).Contents (Elt F) → (⟨S128, .f32⟩ : BufTy).Contents (Elt F)),
      StableHlo.unary main_v50 main_v65 (sitofp .f32 : (⟨S128, .i32⟩ : BufTy).Contents (Elt F) → (⟨S128, .f32⟩ : BufTy).Contents (Elt F)),
      StableHlo.binary main_v64 main_v65 main_v66 (mulf : (⟨S128, .f32⟩ : BufTy).Contents (Elt F) → (⟨S128, .f32⟩ : BufTy).Contents (Elt F) → (⟨S128, .f32⟩ : BufTy).Contents (Elt F)) ]
    ++ ops_round_0 (.of main_v66) main_call6
    ++ [ StableHlo.unary main_v67 main_v68 (fptosi 32 : (⟨S128, .f32⟩ : BufTy).Contents (Elt F) → (⟨S128, .i32⟩ : BufTy).Contents (Elt F)),
      StableHlo.unary main_v53 main_v69 (sitofp .f32 : (⟨S128, .i32⟩ : BufTy).Contents (Elt F) → (⟨S128, .f32⟩ : BufTy).Contents (Elt F)),
      StableHlo.binary main_v64 main_v69 main_v70 (mulf : (⟨S128, .f32⟩ : BufTy).Contents (Elt F) → (⟨S128, .f32⟩ : BufTy).Contents (Elt F) → (⟨S128, .f32⟩ : BufTy).Contents (Elt F)) ]
    ++ ops_round_0 (.of main_v70) main_call7
    ++ [ StableHlo.unary main_v71 main_v72 (fptosi 32 : (⟨S128, .f32⟩ : BufTy).Contents (Elt F) → (⟨S128, .i32⟩ : BufTy).Contents (Elt F)) ]

/-- Stretch `Row`: the enlarged row that each output row shows. -/
def lineRow : List (HloOp τ sig (Elt F)) :=
    [ StableHlo.nullary main_v73 (iotaInDim S512 32 0),
      StableHlo.unary main_v73 main_v74 (broadcastInDim S512x1 ![0] bcast_S512_S512x1_0 : (⟨S512, .i32⟩ : BufTy).Contents (Elt F) → (⟨S512x1, .i32⟩ : BufTy).Contents (Elt F)),
      StableHlo.nullary main_v75 (iotaInDim S512 32 0),
      StableHlo.unary main_v75 main_v76 (broadcastInDim S1x512 ![1] bcast_S512_S1x512_1 : (⟨S512, .i32⟩ : BufTy).Contents (Elt F) → (⟨S1x512, .i32⟩ : BufTy).Contents (Elt F)),
      StableHlo.nullary main_c_10 (constantI S_ 32 512#32),
      StableHlo.unary main_c_10 main_v77 (broadcastInDim S128 ![] bcast_S_S128 : (⟨S_, .i32⟩ : BufTy).Contents (Elt F) → (⟨S128, .i32⟩ : BufTy).Contents (Elt F)),
      StableHlo.binary main_v77 main_v68 main_v78 (subi : (⟨S128, .i32⟩ : BufTy).Contents (Elt F) → (⟨S128, .i32⟩ : BufTy).Contents (Elt F) → (⟨S128, .i32⟩ : BufTy).Contents (Elt F)),
      StableHlo.nullary main_c_11 (constantI S_ 32 2#32) ]
    ++ ops_floor_divide (.of main_v78) (.of main_c_11) main_call8
    ++ [ StableHlo.nullary main_c_12 (constantI S_ 32 0#32),
      StableHlo.unary main_c_12 main_v80 (broadcastInDim S128 ![] bcast_S_S128 : (⟨S_, .i32⟩ : BufTy).Contents (Elt F) → (⟨S128, .i32⟩ : BufTy).Contents (Elt F)),
      StableHlo.binary main_v80 main_v79 main_v81 (maxsi : (⟨S128, .i32⟩ : BufTy).Contents (Elt F) → (⟨S128, .i32⟩ : BufTy).Contents (Elt F) → (⟨S128, .i32⟩ : BufTy).Contents (Elt F)),
      StableHlo.unary main_v74 main_v82 (broadcastInDim S1x512x1 ![1, 2] bcast_S512x1_S1x512x1_1_2 : (⟨S512x1, .i32⟩ : BufTy).Contents (Elt F) → (⟨S1x512x1, .i32⟩ : BufTy).Contents (Elt F)),
      StableHlo.unary main_v81 main_v83 (broadcastInDim S128x1x1 ![0] bcast_S128_S128x1x1_0 : (⟨S128, .i32⟩ : BufTy).Contents (Elt F) → (⟨S128x1x1, .i32⟩ : BufTy).Contents (Elt F)),
      StableHlo.unary main_v82 main_v84 (broadcastInDim S128x512x1 ![0, 1, 2] bcast_S1x512x1_S128x512x1_0_1_2 : (⟨S1x512x1, .i32⟩ : BufTy).Contents (Elt F) → (⟨S128x512x1, .i32⟩ : BufTy).Contents (Elt F)),
      StableHlo.unary main_v83 main_v85 (broadcastInDim S128x512x1 ![0, 1, 2] bcast_S128x1x1_S128x512x1_0_1_2 : (⟨S128x1x1, .i32⟩ : BufTy).Contents (Elt F) → (⟨S128x512x1, .i32⟩ : BufTy).Contents (Elt F)),
      StableHlo.binary main_v84 main_v85 main_v86 (subi : (⟨S128x512x1, .i32⟩ : BufTy).Contents (Elt F) → (⟨S128x512x1, .i32⟩ : BufTy).Contents (Elt F) → (⟨S128x512x1, .i32⟩ : BufTy).Contents (Elt F)),
      StableHlo.nullary main_c_13 (constantI S_ 32 512#32),
      StableHlo.unary main_c_13 main_v87 (broadcastInDim S128 ![] bcast_S_S128 : (⟨S_, .i32⟩ : BufTy).Contents (Elt F) → (⟨S128, .i32⟩ : BufTy).Contents (Elt F)),
      StableHlo.binary main_v68 main_v87 main_v88 (subi : (⟨S128, .i32⟩ : BufTy).Contents (Elt F) → (⟨S128, .i32⟩ : BufTy).Contents (Elt F) → (⟨S128, .i32⟩ : BufTy).Contents (Elt F)),
      StableHlo.nullary main_c_14 (constantI S_ 32 2#32) ]
    ++ ops_floor_divide (.of main_v88) (.of main_c_14) main_call9
    ++ [ StableHlo.nullary main_c_15 (constantI S_ 32 0#32),
      StableHlo.unary main_c_15 main_v90 (broadcastInDim S128 ![] bcast_S_S128 : (⟨S_, .i32⟩ : BufTy).Contents (Elt F) → (⟨S128, .i32⟩ : BufTy).Contents (Elt F)),
      StableHlo.binary main_v90 main_v89 main_v91 (maxsi : (⟨S128, .i32⟩ : BufTy).Contents (Elt F) → (⟨S128, .i32⟩ : BufTy).Contents (Elt F) → (⟨S128, .i32⟩ : BufTy).Contents (Elt F)),
      StableHlo.unary main_v91 main_v92 (broadcastInDim S128x1x1 ![0] bcast_S128_S128x1x1_0 : (⟨S128, .i32⟩ : BufTy).Contents (Elt F) → (⟨S128x1x1, .i32⟩ : BufTy).Contents (Elt F)),
      StableHlo.unary main_v92 main_v93 (broadcastInDim S128x512x1 ![0, 1, 2] bcast_S128x1x1_S128x512x1_0_1_2 : (⟨S128x1x1, .i32⟩ : BufTy).Contents (Elt F) → (⟨S128x512x1, .i32⟩ : BufTy).Contents (Elt F)),
      StableHlo.binary main_v86 main_v93 main_v94 (addi : (⟨S128x512x1, .i32⟩ : BufTy).Contents (Elt F) → (⟨S128x512x1, .i32⟩ : BufTy).Contents (Elt F) → (⟨S128x512x1, .i32⟩ : BufTy).Contents (Elt F)) ]

/-- Stretch `Col`, its first part. -/
def lineCol₁ : List (HloOp τ sig (Elt F)) :=
    [ StableHlo.nullary main_c_16 (constantI S_ 32 512#32),
      StableHlo.unary main_c_16 main_v95 (broadcastInDim S128 ![] bcast_S_S128 : (⟨S_, .i32⟩ : BufTy).Contents (Elt F) → (⟨S128, .i32⟩ : BufTy).Contents (Elt F)),
      StableHlo.binary main_v95 main_v72 main_v96 (subi : (⟨S128, .i32⟩ : BufTy).Contents (Elt F) → (⟨S128, .i32⟩ : BufTy).Contents (Elt F) → (⟨S128, .i32⟩ : BufTy).Contents (Elt F)),
      StableHlo.nullary main_c_17 (constantI S_ 32 2#32) ]
    ++ ops_floor_divide (.of main_v96) (.of main_c_17) main_call10
    ++ [ StableHlo.nullary main_c_18 (constantI S_ 32 0#32),
      StableHlo.unary main_c_18 main_v98 (broadcastInDim S128 ![] bcast_S_S128 : (⟨S_, .i32⟩ : BufTy).Contents (Elt F) → (⟨S128, .i32⟩ : BufTy).Contents (Elt F)) ]

/-- Its second part. -/
def lineCol₂ : List (HloOp τ sig (Elt F)) :=
    [ StableHlo.binary main_v98 main_v97 main_v99 (maxsi : (⟨S128, .i32⟩ : BufTy).Contents (Elt F) → (⟨S128, .i32⟩ : BufTy).Contents (Elt F) → (⟨S128, .i32⟩ : BufTy).Contents (Elt F)),
      StableHlo.unary main_v76 main_v100 (broadcastInDim S1x1x512 ![1, 2] bcast_S1x512_S1x1x512_1_2 : (⟨S1x512, .i32⟩ : BufTy).Contents (Elt F) → (⟨S1x1x512, .i32⟩ : BufTy).Contents (Elt F)),
      StableHlo.unary main_v99 main_v101 (broadcastInDim S128x1x1 ![0] bcast_S128_S128x1x1_0 : (⟨S128, .i32⟩ : BufTy).Contents (Elt F) → (⟨S128x1x1, .i32⟩ : BufTy).Contents (Elt F)),
      StableHlo.unary main_v100 main_v102 (broadcastInDim S128x1x512 ![0, 1, 2] bcast_S1x1x512_S128x1x512_0_1_2 : (⟨S1x1x512, .i32⟩ : BufTy).Contents (Elt F) → (⟨S128x1x512, .i32⟩ : BufTy).Contents (Elt F)),
      StableHlo.unary main_v101 main_v103 (broadcastInDim S128x1x512 ![0, 1, 2] bcast_S128x1x1_S128x1x512_0_1_2 : (⟨S128x1x1, .i32⟩ : BufTy).Contents (Elt F) → (⟨S128x1x512, .i32⟩ : BufTy).Contents (Elt F)),
      StableHlo.binary main_v102 main_v103 main_v104 (subi : (⟨S128x1x512, .i32⟩ : BufTy).Contents (Elt F) → (⟨S128x1x512, .i32⟩ : BufTy).Contents (Elt F) → (⟨S128x1x512, .i32⟩ : BufTy).Contents (Elt F)),
      StableHlo.nullary main_c_19 (constantI S_ 32 512#32),
      StableHlo.unary main_c_19 main_v105 (broadcastInDim S128 ![] bcast_S_S128 : (⟨S_, .i32⟩ : BufTy).Contents (Elt F) → (⟨S128, .i32⟩ : BufTy).Contents (Elt F)),
      StableHlo.binary main_v72 main_v105 main_v106 (subi : (⟨S128, .i32⟩ : BufTy).Contents (Elt F) → (⟨S128, .i32⟩ : BufTy).Contents (Elt F) → (⟨S128, .i32⟩ : BufTy).Contents (Elt F)),
      StableHlo.nullary main_c_20 (constantI S_ 32 2#32) ]
    ++ ops_floor_divide (.of main_v106) (.of main_c_20) main_call11
    ++ [ StableHlo.nullary main_c_21 (constantI S_ 32 0#32),
      StableHlo.unary main_c_21 main_v108 (broadcastInDim S128 ![] bcast_S_S128 : (⟨S_, .i32⟩ : BufTy).Contents (Elt F) → (⟨S128, .i32⟩ : BufTy).Contents (Elt F)),
      StableHlo.binary main_v108 main_v107 main_v109 (maxsi : (⟨S128, .i32⟩ : BufTy).Contents (Elt F) → (⟨S128, .i32⟩ : BufTy).Contents (Elt F) → (⟨S128, .i32⟩ : BufTy).Contents (Elt F)),
      StableHlo.unary main_v109 main_v110 (broadcastInDim S128x1x1 ![0] bcast_S128_S128x1x1_0 : (⟨S128, .i32⟩ : BufTy).Contents (Elt F) → (⟨S128x1x1, .i32⟩ : BufTy).Contents (Elt F)),
      StableHlo.unary main_v110 main_v111 (broadcastInDim S128x1x512 ![0, 1, 2] bcast_S128x1x1_S128x1x512_0_1_2 : (⟨S128x1x1, .i32⟩ : BufTy).Contents (Elt F) → (⟨S128x1x512, .i32⟩ : BufTy).Contents (Elt F)),
      StableHlo.binary main_v104 main_v111 main_v112 (addi : (⟨S128x1x512, .i32⟩ : BufTy).Contents (Elt F) → (⟨S128x1x512, .i32⟩ : BufTy).Contents (Elt F) → (⟨S128x1x512, .i32⟩ : BufTy).Contents (Elt F)) ]

/-- Stretch `Col`: the enlarged column that each output column shows. -/
def lineCol : List (HloOp τ sig (Elt F)) := lineCol₁ ++ lineCol₂

/-- Stretch `Inside`: which outputs show the enlarged box. -/
def lineInside : List (HloOp τ sig (Elt F)) :=
    [ StableHlo.nullary main_c_22 (constantI S_ 32 0#32),
      StableHlo.unary main_c_22 main_v113 (broadcastInDim S128x512x1 ![] bcast_S_S128x512x1 : (⟨S_, .i32⟩ : BufTy).Contents (Elt F) → (⟨S128x512x1, .i32⟩ : BufTy).Contents (Elt F)),
      StableHlo.binary main_v94 main_v113 main_v114 (cmpi .sge : (⟨S128x512x1, .i32⟩ : BufTy).Contents (Elt F) → (⟨S128x512x1, .i32⟩ : BufTy).Contents (Elt F) → (⟨S128x512x1, .i1⟩ : BufTy).Contents (Elt F)),
      StableHlo.unary main_v68 main_v115 (broadcastInDim S128x1x1 ![0] bcast_S128_S128x1x1_0 : (⟨S128, .i32⟩ : BufTy).Contents (Elt F) → (⟨S128x1x1, .i32⟩ : BufTy).Contents (Elt F)),
      StableHlo.unary main_v115 main_v116 (broadcastInDim S128x512x1 ![0, 1, 2] bcast_S128x1x1_S128x512x1_0_1_2 : (⟨S128x1x1, .i32⟩ : BufTy).Contents (Elt F) → (⟨S128x512x1, .i32⟩ : BufTy).Contents (Elt F)),
      StableHlo.binary main_v94 main_v116 main_v117 (cmpi .slt : (⟨S128x512x1, .i32⟩ : BufTy).Contents (Elt F) → (⟨S128x512x1, .i32⟩ : BufTy).Contents (Elt F) → (⟨S128x512x1, .i1⟩ : BufTy).Contents (Elt F)),
      StableHlo.binary main_v114 main_v117 main_v118 (andi : (⟨S128x512x1, .i1⟩ : BufTy).Contents (Elt F) → (⟨S128x512x1, .i1⟩ : BufTy).Contents (Elt F) → (⟨S128x512x1, .i1⟩ : BufTy).Contents (Elt F)),
      StableHlo.nullary main_c_23 (constantI S_ 32 0#32),
      StableHlo.unary main_c_23 main_v119 (broadcastInDim S128x1x512 ![] bcast_S_S128x1x512 : (⟨S_, .i32⟩ : BufTy).Contents (Elt F) → (⟨S128x1x512, .i32⟩ : BufTy).Contents (Elt F)),
      StableHlo.binary main_v112 main_v119 main_v120 (cmpi .sge : (⟨S128x1x512, .i32⟩ : BufTy).Contents (Elt F) → (⟨S128x1x512, .i32⟩ : BufTy).Contents (Elt F) → (⟨S128x1x512, .i1⟩ : BufTy).Contents (Elt F)),
      StableHlo.unary main_v118 main_v121 (broadcastInDim S128x512x512 ![0, 1, 2] bcast_S128x512x1_S128x512x512_0_1_2 : (⟨S128x512x1, .i1⟩ : BufTy).Contents (Elt F) → (⟨S128x512x512, .i1⟩ : BufTy).Contents (Elt F)),
      StableHlo.unary main_v120 main_v122 (broadcastInDim S128x512x512 ![0, 1, 2] bcast_S128x1x512_S128x512x512_0_1_2 : (⟨S128x1x512, .i1⟩ : BufTy).Contents (Elt F) → (⟨S128x512x512, .i1⟩ : BufTy).Contents (Elt F)),
      StableHlo.binary main_v121 main_v122 main_v123 (andi : (⟨S128x512x512, .i1⟩ : BufTy).Contents (Elt F) → (⟨S128x512x512, .i1⟩ : BufTy).Contents (Elt F) → (⟨S128x512x512, .i1⟩ : BufTy).Contents (Elt F)),
      StableHlo.unary main_v72 main_v124 (broadcastInDim S128x1x1 ![0] bcast_S128_S128x1x1_0 : (⟨S128, .i32⟩ : BufTy).Contents (Elt F) → (⟨S128x1x1, .i32⟩ : BufTy).Contents (Elt F)),
      StableHlo.unary main_v124 main_v125 (broadcastInDim S128x1x512 ![0, 1, 2] bcast_S128x1x1_S128x1x512_0_1_2 : (⟨S128x1x1, .i32⟩ : BufTy).Contents (Elt F) → (⟨S128x1x512, .i32⟩ : BufTy).Contents (Elt F)),
      StableHlo.binary main_v112 main_v125 main_v126 (cmpi .slt : (⟨S128x1x512, .i32⟩ : BufTy).Contents (Elt F) → (⟨S128x1x512, .i32⟩ : BufTy).Contents (Elt F) → (⟨S128x1x512, .i1⟩ : BufTy).Contents (Elt F)),
      StableHlo.unary main_v126 main_v127 (broadcastInDim S128x512x512 ![0, 1, 2] bcast_S128x1x512_S128x512x512_0_1_2 : (⟨S128x1x512, .i1⟩ : BufTy).Contents (Elt F) → (⟨S128x512x512, .i1⟩ : BufTy).Contents (Elt F)),
      StableHlo.binary main_v123 main_v127 main_v128 (andi : (⟨S128x512x512, .i1⟩ : BufTy).Contents (Elt F) → (⟨S128x512x512, .i1⟩ : BufTy).Contents (Elt F) → (⟨S128x512x512, .i1⟩ : BufTy).Contents (Elt F)) ]

/-- Stretch `Pos`: the positions in the box. -/
def linePos : List (HloOp τ sig (Elt F)) :=
    [ StableHlo.unary main_v94 main_v129 (sitofp .f32 : (⟨S128x512x1, .i32⟩ : BufTy).Contents (Elt F) → (⟨S128x512x1, .f32⟩ : BufTy).Contents (Elt F)),
      StableHlo.unary main_v50 main_v130 (sitofp .f32 : (⟨S128, .i32⟩ : BufTy).Contents (Elt F) → (⟨S128, .f32⟩ : BufTy).Contents (Elt F)),
      StableHlo.unary main_v68 main_v131 (sitofp .f32 : (⟨S128, .i32⟩ : BufTy).Contents (Elt F) → (⟨S128, .f32⟩ : BufTy).Contents (Elt F)),
      StableHlo.binary main_v130 main_v131 main_v132 (Host.divf : (⟨S128, .f32⟩ : BufTy).Contents (Elt F) → (⟨S128, .f32⟩ : BufTy).Contents (Elt F) → (⟨S128, .f32⟩ : BufTy).Contents (Elt F)),
      StableHlo.unary main_v132 main_v133 (broadcastInDim S128x1x1 ![0] bcast_S128_S128x1x1_0 : (⟨S128, .f32⟩ : BufTy).Contents (Elt F) → (⟨S128x1x1, .f32⟩ : BufTy).Contents (Elt F)),
      StableHlo.unary main_v133 main_v134 (broadcastInDim S128x512x1 ![0, 1, 2] bcast_S128x1x1_S128x512x1_0_1_2 : (⟨S128x1x1, .f32⟩ : BufTy).Contents (Elt F) → (⟨S128x512x1, .f32⟩ : BufTy).Contents (Elt F)),
      StableHlo.binary main_v129 main_v134 main_v135 (mulf : (⟨S128x512x1, .f32⟩ : BufTy).Contents (Elt F) → (⟨S128x512x1, .f32⟩ : BufTy).Contents (Elt F) → (⟨S128x512x1, .f32⟩ : BufTy).Contents (Elt F)),
      StableHlo.unary main_v112 main_v136 (sitofp .f32 : (⟨S128x1x512, .i32⟩ : BufTy).Contents (Elt F) → (⟨S128x1x512, .f32⟩ : BufTy).Contents (Elt F)),
      StableHlo.unary main_v53 main_v137 (sitofp .f32 : (⟨S128, .i32⟩ : BufTy).Contents (Elt F) → (⟨S128, .f32⟩ : BufTy).Contents (Elt F)),
      StableHlo.unary main_v72 main_v138 (sitofp .f32 : (⟨S128, .i32⟩ : BufTy).Contents (Elt F) → (⟨S128, .f32⟩ : BufTy).Contents (Elt F)),
      StableHlo.binary main_v137 main_v138 main_v139 (Host.divf : (⟨S128, .f32⟩ : BufTy).Contents (Elt F) → (⟨S128, .f32⟩ : BufTy).Contents (Elt F) → (⟨S128, .f32⟩ : BufTy).Contents (Elt F)),
      StableHlo.unary main_v139 main_v140 (broadcastInDim S128x1x1 ![0] bcast_S128_S128x1x1_0 : (⟨S128, .f32⟩ : BufTy).Contents (Elt F) → (⟨S128x1x1, .f32⟩ : BufTy).Contents (Elt F)),
      StableHlo.unary main_v140 main_v141 (broadcastInDim S128x1x512 ![0, 1, 2] bcast_S128x1x1_S128x1x512_0_1_2 : (⟨S128x1x1, .f32⟩ : BufTy).Contents (Elt F) → (⟨S128x1x512, .f32⟩ : BufTy).Contents (Elt F)),
      StableHlo.binary main_v136 main_v141 main_v142 (mulf : (⟨S128x1x512, .f32⟩ : BufTy).Contents (Elt F) → (⟨S128x1x512, .f32⟩ : BufTy).Contents (Elt F) → (⟨S128x1x512, .f32⟩ : BufTy).Contents (Elt F)) ]

/-- Stretch `Near`, its first part. -/
def lineNear₁ : List (HloOp τ sig (Elt F)) :=
    [ StableHlo.unary main_v135 main_v143 (Host.floor : (⟨S128x512x1, .f32⟩ : BufTy).Contents (Elt F) → (⟨S128x512x1, .f32⟩ : BufTy).Contents (Elt F)),
      StableHlo.unary main_v143 main_v144 (fptosi 32 : (⟨S128x512x1, .f32⟩ : BufTy).Contents (Elt F) → (⟨S128x512x1, .i32⟩ : BufTy).Contents (Elt F)),
      StableHlo.nullary main_c_24 (constantI S_ 32 1#32),
      StableHlo.unary main_c_24 main_v145 (broadcastInDim S128 ![] bcast_S_S128 : (⟨S_, .i32⟩ : BufTy).Contents (Elt F) → (⟨S128, .i32⟩ : BufTy).Contents (Elt F)),
      StableHlo.binary main_v50 main_v145 main_v146 (subi : (⟨S128, .i32⟩ : BufTy).Contents (Elt F) → (⟨S128, .i32⟩ : BufTy).Contents (Elt F) → (⟨S128, .i32⟩ : BufTy).Contents (Elt F)),
      StableHlo.nullary main_c_25 (constantI S_ 32 0#32) ]
    ++ ops_clip (.of main_v144) (.of main_c_25) (.of main_v146) main_call12
    ++ [ StableHlo.unary main_v142 main_v148 (Host.floor : (⟨S128x1x512, .f32⟩ : BufTy).Contents (Elt F) → (⟨S128x1x512, .f32⟩ : BufTy).Contents (Elt F)),
      StableHlo.unary main_v148 main_v149 (fptosi 32 : (⟨S128x1x512, .f32⟩ : BufTy).Contents (Elt F) → (⟨S128x1x512, .i32⟩ : BufTy).Contents (Elt F)),
      StableHlo.nullary main_c_26 (constantI S_ 32 1#32),
      StableHlo.unary main_c_26 main_v150 (broadcastInDim S128 ![] bcast_S_S128 : (⟨S_, .i32⟩ : BufTy).Contents (Elt F) → (⟨S128, .i32⟩ : BufTy).Contents (Elt F)) ]

/-- Its second part. -/
def lineNear₂ : List (HloOp τ sig (Elt F)) :=
    [ StableHlo.binary main_v53 main_v150 main_v151 (subi : (⟨S128, .i32⟩ : BufTy).Contents (Elt F) → (⟨S128, .i32⟩ : BufTy).Contents (Elt F) → (⟨S128, .i32⟩ : BufTy).Contents (Elt F)),
      StableHlo.nullary main_c_27 (constantI S_ 32 0#32) ]
    ++ ops_clip_1 (.of main_v149) (.of main_c_27) (.of main_v151) main_call13
    ++ [ StableHlo.nullary main_c_28 (constantI S_ 32 1#32),
      StableHlo.unary main_c_28 main_v153 (broadcastInDim S128x512x1 ![] bcast_S_S128x512x1 : (⟨S_, .i32⟩ : BufTy).Contents (Elt F) → (⟨S128x512x1, .i32⟩ : BufTy).Contents (Elt F)),
      StableHlo.binary main_v147 main_v153 main_v154 (addi : (⟨S128x512x1, .i32⟩ : BufTy).Contents (Elt F) → (⟨S128x512x1, .i32⟩ : BufTy).Contents (Elt F) → (⟨S128x512x1, .i32⟩ : BufTy).Contents (Elt F)),
      StableHlo.nullary main_c_29 (constantI S_ 32 1#32),
      StableHlo.unary main_c_29 main_v155 (broadcastInDim S128 ![] bcast_S_S128 : (⟨S_, .i32⟩ : BufTy).Contents (Elt F) → (⟨S128, .i32⟩ : BufTy).Contents (Elt F)),
      StableHlo.binary main_v50 main_v155 main_v156 (subi : (⟨S128, .i32⟩ : BufTy).Contents (Elt F) → (⟨S128, .i32⟩ : BufTy).Contents (Elt F) → (⟨S128, .i32⟩ : BufTy).Contents (Elt F)),
      StableHlo.unary main_v156 main_v157 (broadcastInDim S128x1x1 ![0] bcast_S128_S128x1x1_0 : (⟨S128, .i32⟩ : BufTy).Contents (Elt F) → (⟨S128x1x1, .i32⟩ : BufTy).Contents (Elt F)),
      StableHlo.unary main_v157 main_v158 (broadcastInDim S128x512x1 ![0, 1, 2] bcast_S128x1x1_S128x512x1_0_1_2 : (⟨S128x1x1, .i32⟩ : BufTy).Contents (Elt F) → (⟨S128x512x1, .i32⟩ : BufTy).Contents (Elt F)),
      StableHlo.binary main_v154 main_v158 main_v159 (minsi : (⟨S128x512x1, .i32⟩ : BufTy).Contents (Elt F) → (⟨S128x512x1, .i32⟩ : BufTy).Contents (Elt F) → (⟨S128x512x1, .i32⟩ : BufTy).Contents (Elt F)),
      StableHlo.nullary main_c_30 (constantI S_ 32 1#32),
      StableHlo.unary main_c_30 main_v160 (broadcastInDim S128x1x512 ![] bcast_S_S128x1x512 : (⟨S_, .i32⟩ : BufTy).Contents (Elt F) → (⟨S128x1x512, .i32⟩ : BufTy).Contents (Elt F)),
      StableHlo.binary main_v152 main_v160 main_v161 (addi : (⟨S128x1x512, .i32⟩ : BufTy).Contents (Elt F) → (⟨S128x1x512, .i32⟩ : BufTy).Contents (Elt F) → (⟨S128x1x512, .i32⟩ : BufTy).Contents (Elt F)),
      StableHlo.nullary main_c_31 (constantI S_ 32 1#32),
      StableHlo.unary main_c_31 main_v162 (broadcastInDim S128 ![] bcast_S_S128 : (⟨S_, .i32⟩ : BufTy).Contents (Elt F) → (⟨S128, .i32⟩ : BufTy).Contents (Elt F)),
      StableHlo.binary main_v53 main_v162 main_v163 (subi : (⟨S128, .i32⟩ : BufTy).Contents (Elt F) → (⟨S128, .i32⟩ : BufTy).Contents (Elt F) → (⟨S128, .i32⟩ : BufTy).Contents (Elt F)),
      StableHlo.unary main_v163 main_v164 (broadcastInDim S128x1x1 ![0] bcast_S128_S128x1x1_0 : (⟨S128, .i32⟩ : BufTy).Contents (Elt F) → (⟨S128x1x1, .i32⟩ : BufTy).Contents (Elt F)),
      StableHlo.unary main_v164 main_v165 (broadcastInDim S128x1x512 ![0, 1, 2] bcast_S128x1x1_S128x1x512_0_1_2 : (⟨S128x1x1, .i32⟩ : BufTy).Contents (Elt F) → (⟨S128x1x512, .i32⟩ : BufTy).Contents (Elt F)),
      StableHlo.binary main_v161 main_v165 main_v166 (minsi : (⟨S128x1x512, .i32⟩ : BufTy).Contents (Elt F) → (⟨S128x1x512, .i32⟩ : BufTy).Contents (Elt F) → (⟨S128x1x512, .i32⟩ : BufTy).Contents (Elt F)),
      StableHlo.unary main_v147 main_v167 (sitofp .f32 : (⟨S128x512x1, .i32⟩ : BufTy).Contents (Elt F) → (⟨S128x512x1, .f32⟩ : BufTy).Contents (Elt F)),
      StableHlo.binary main_v135 main_v167 main_v168 (subf : (⟨S128x512x1, .f32⟩ : BufTy).Contents (Elt F) → (⟨S128x512x1, .f32⟩ : BufTy).Contents (Elt F) → (⟨S128x512x1, .f32⟩ : BufTy).Contents (Elt F)),
      StableHlo.nullary main_cst_32 (constant S_ .f32 0x00000000#32),
      StableHlo.nullary main_cst_33 (constant S_ .f32 0x3F800000#32) ]
    ++ ops_clip_2 (.of main_v168) (.of main_cst_32) (.of main_cst_33) main_call14
    ++ [ StableHlo.unary main_v152 main_v170 (sitofp .f32 : (⟨S128x1x512, .i32⟩ : BufTy).Contents (Elt F) → (⟨S128x1x512, .f32⟩ : BufTy).Contents (Elt F)),
      StableHlo.binary main_v142 main_v170 main_v171 (subf : (⟨S128x1x512, .f32⟩ : BufTy).Contents (Elt F) → (⟨S128x1x512, .f32⟩ : BufTy).Contents (Elt F) → (⟨S128x1x512, .f32⟩ : BufTy).Contents (Elt F)),
      StableHlo.nullary main_cst_34 (constant S_ .f32 0x00000000#32),
      StableHlo.nullary main_cst_35 (constant S_ .f32 0x3F800000#32) ]
    ++ ops_clip_3 (.of main_v171) (.of main_cst_34) (.of main_cst_35) main_call15

/-- Stretch `Near`: the two neighbours on each axis and the weights. -/
def lineNear : List (HloOp τ sig (Elt F)) := lineNear₁ ++ lineNear₂

/-- Stretch `Cell`: the neighbours in the image. -/
def lineCell : List (HloOp τ sig (Elt F)) :=
    [ StableHlo.unary main_v45 main_v173 (broadcastInDim S128x1x1 ![0] bcast_S128_S128x1x1_0 : (⟨S128, .i32⟩ : BufTy).Contents (Elt F) → (⟨S128x1x1, .i32⟩ : BufTy).Contents (Elt F)),
      StableHlo.unary main_v173 main_v174 (broadcastInDim S128x512x1 ![0, 1, 2] bcast_S128x1x1_S128x512x1_0_1_2 : (⟨S128x1x1, .i32⟩ : BufTy).Contents (Elt F) → (⟨S128x512x1, .i32⟩ : BufTy).Contents (Elt F)),
      StableHlo.binary main_v174 main_v147 main_v175 (addi : (⟨S128x512x1, .i32⟩ : BufTy).Contents (Elt F) → (⟨S128x512x1, .i32⟩ : BufTy).Contents (Elt F) → (⟨S128x512x1, .i32⟩ : BufTy).Contents (Elt F)),
      StableHlo.nullary main_c_36 (constantI S_ 32 0#32),
      StableHlo.nullary main_c_37 (constantI S_ 32 511#32) ]
    ++ ops_clip_4 (.of main_v175) (.of main_c_36) (.of main_c_37) main_call16
    ++ [ StableHlo.unary main_v45 main_v177 (broadcastInDim S128x1x1 ![0] bcast_S128_S128x1x1_0 : (⟨S128, .i32⟩ : BufTy).Contents (Elt F) → (⟨S128x1x1, .i32⟩ : BufTy).Contents (Elt F)),
      StableHlo.unary main_v177 main_v178 (broadcastInDim S128x512x1 ![0, 1, 2] bcast_S128x1x1_S128x512x1_0_1_2 : (⟨S128x1x1, .i32⟩ : BufTy).Contents (Elt F) → (⟨S128x512x1, .i32⟩ : BufTy).Contents (Elt F)),
      StableHlo.binary main_v178 main_v159 main_v179 (addi : (⟨S128x512x1, .i32⟩ : BufTy).Contents (Elt F) → (⟨S128x512x1, .i32⟩ : BufTy).Contents (Elt F) → (⟨S128x512x1, .i32⟩ : BufTy).Contents (Elt F)),
      StableHlo.nullary main_c_38 (constantI S_ 32 0#32),
      StableHlo.nullary main_c_39 (constantI S_ 32 511#32) ]
    ++ ops_clip_4 (.of main_v179) (.of main_c_38) (.of main_c_39) main_call17
    ++ [ StableHlo.unary main_v44 main_v181 (broadcastInDim S128x1x1 ![0] bcast_S128_S128x1x1_0 : (⟨S128, .i32⟩ : BufTy).Contents (Elt F) → (⟨S128x1x1, .i32⟩ : BufTy).Contents (Elt F)),
      StableHlo.unary main_v181 main_v182 (broadcastInDim S128x1x512 ![0, 1, 2] bcast_S128x1x1_S128x1x512_0_1_2 : (⟨S128x1x1, .i32⟩ : BufTy).Contents (Elt F) → (⟨S128x1x512, .i32⟩ : BufTy).Contents (Elt F)),
      StableHlo.binary main_v182 main_v152 main_v183 (addi : (⟨S128x1x512, .i32⟩ : BufTy).Contents (Elt F) → (⟨S128x1x512, .i32⟩ : BufTy).Contents (Elt F) → (⟨S128x1x512, .i32⟩ : BufTy).Contents (Elt F)),
      StableHlo.nullary main_c_40 (constantI S_ 32 0#32),
      StableHlo.nullary main_c_41 (constantI S_ 32 511#32) ]
    ++ ops_clip_5 (.of main_v183) (.of main_c_40) (.of main_c_41) main_call18
    ++ [ StableHlo.unary main_v44 main_v185 (broadcastInDim S128x1x1 ![0] bcast_S128_S128x1x1_0 : (⟨S128, .i32⟩ : BufTy).Contents (Elt F) → (⟨S128x1x1, .i32⟩ : BufTy).Contents (Elt F)),
      StableHlo.unary main_v185 main_v186 (broadcastInDim S128x1x512 ![0, 1, 2] bcast_S128x1x1_S128x1x512_0_1_2 : (⟨S128x1x1, .i32⟩ : BufTy).Contents (Elt F) → (⟨S128x1x512, .i32⟩ : BufTy).Contents (Elt F)),
      StableHlo.binary main_v186 main_v166 main_v187 (addi : (⟨S128x1x512, .i32⟩ : BufTy).Contents (Elt F) → (⟨S128x1x512, .i32⟩ : BufTy).Contents (Elt F) → (⟨S128x1x512, .i32⟩ : BufTy).Contents (Elt F)),
      StableHlo.nullary main_c_42 (constantI S_ 32 0#32),
      StableHlo.nullary main_c_43 (constantI S_ 32 511#32) ]
    ++ ops_clip_5 (.of main_v187) (.of main_c_42) (.of main_c_43) main_call19

/-- Stretch `TopLeft`, its first part. -/
def lineTopLeft₁ : List (HloOp τ sig (Elt F)) :=
    [ StableHlo.nullary main_c_44 (constantI S_ 32 0#32),
      StableHlo.unary main_c_44 main_v189 (broadcastInDim S128x512x1 ![] bcast_S_S128x512x1 : (⟨S_, .i32⟩ : BufTy).Contents (Elt F) → (⟨S128x512x1, .i32⟩ : BufTy).Contents (Elt F)),
      StableHlo.binary main_v176 main_v189 main_v190 (cmpi .slt : (⟨S128x512x1, .i32⟩ : BufTy).Contents (Elt F) → (⟨S128x512x1, .i32⟩ : BufTy).Contents (Elt F) → (⟨S128x512x1, .i1⟩ : BufTy).Contents (Elt F)),
      StableHlo.nullary main_c_45 (constantI S_ 32 512#32),
      StableHlo.unary main_c_45 main_v191 (broadcastInDim S128x512x1 ![] bcast_S_S128x512x1 : (⟨S_, .i32⟩ : BufTy).Contents (Elt F) → (⟨S128x512x1, .i32⟩ : BufTy).Contents (Elt F)) ]

/-- Its second part. -/
def lineTopLeft₂ : List (HloOp τ sig (Elt F)) :=
    [ StableHlo.binary main_v176 main_v191 main_v192 (addi : (⟨S128x512x1, .i32⟩ : BufTy).Contents (Elt F) → (⟨S128x512x1, .i32⟩ : BufTy).Contents (Elt F) → (⟨S128x512x1, .i32⟩ : BufTy).Contents (Elt F)),
      StableHlo.ternary main_v190 main_v192 main_v176 main_v193 (select : (⟨S128x512x1, .i1⟩ : BufTy).Contents (Elt F) → (⟨S128x512x1, .i32⟩ : BufTy).Contents (Elt F) → (⟨S128x512x1, .i32⟩ : BufTy).Contents (Elt F) → (⟨S128x512x1, .i32⟩ : BufTy).Contents (Elt F)),
      StableHlo.nullary main_c_46 (constantI S_ 32 0#32),
      StableHlo.unary main_c_46 main_v194 (broadcastInDim S128x1x512 ![] bcast_S_S128x1x512 : (⟨S_, .i32⟩ : BufTy).Contents (Elt F) → (⟨S128x1x512, .i32⟩ : BufTy).Contents (Elt F)),
      StableHlo.binary main_v184 main_v194 main_v195 (cmpi .slt : (⟨S128x1x512, .i32⟩ : BufTy).Contents (Elt F) → (⟨S128x1x512, .i32⟩ : BufTy).Contents (Elt F) → (⟨S128x1x512, .i1⟩ : BufTy).Contents (Elt F)),
      StableHlo.nullary main_c_47 (constantI S_ 32 512#32),
      StableHlo.unary main_c_47 main_v196 (broadcastInDim S128x1x512 ![] bcast_S_S128x1x512 : (⟨S_, .i32⟩ : BufTy).Contents (Elt F) → (⟨S128x1x512, .i32⟩ : BufTy).Contents (Elt F)),
      StableHlo.binary main_v184 main_v196 main_v197 (addi : (⟨S128x1x512, .i32⟩ : BufTy).Contents (Elt F) → (⟨S128x1x512, .i32⟩ : BufTy).Contents (Elt F) → (⟨S128x1x512, .i32⟩ : BufTy).Contents (Elt F)),
      StableHlo.ternary main_v195 main_v197 main_v184 main_v198 (select : (⟨S128x1x512, .i1⟩ : BufTy).Contents (Elt F) → (⟨S128x1x512, .i32⟩ : BufTy).Contents (Elt F) → (⟨S128x1x512, .i32⟩ : BufTy).Contents (Elt F) → (⟨S128x1x512, .i32⟩ : BufTy).Contents (Elt F)),
      StableHlo.unary main_v193 main_v199 (broadcastInDim S128x512x512 ![0, 1, 2] bcast_S128x512x1_S128x512x512_0_1_2 : (⟨S128x512x1, .i32⟩ : BufTy).Contents (Elt F) → (⟨S128x512x512, .i32⟩ : BufTy).Contents (Elt F)),
      StableHlo.unary main_v198 main_v200 (broadcastInDim S128x512x512 ![0, 1, 2] bcast_S128x1x512_S128x512x512_0_1_2 : (⟨S128x1x512, .i32⟩ : BufTy).Contents (Elt F) → (⟨S128x512x512, .i32⟩ : BufTy).Contents (Elt F)),
      StableHlo.unary main_v199 main_v201 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.unary main_v200 main_v202 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.binary main_v201 main_v202 main_v203 (pairs (F := F)),
      StableHlo.binary main_v43 main_v203 main_v204 (cells (F := F)) ]

/-- Stretch `TopLeft`: the first of the four neighbours. -/
def lineTopLeft : List (HloOp τ sig (Elt F)) := lineTopLeft₁ ++ lineTopLeft₂

/-- Stretch `TopRight`: the second. -/
def lineTopRight : List (HloOp τ sig (Elt F)) :=
    [ StableHlo.nullary main_c_48 (constantI S_ 32 0#32),
      StableHlo.unary main_c_48 main_v205 (broadcastInDim S128x512x1 ![] bcast_S_S128x512x1 : (⟨S_, .i32⟩ : BufTy).Contents (Elt F) → (⟨S128x512x1, .i32⟩ : BufTy).Contents (Elt F)),
      StableHlo.binary main_v176 main_v205 main_v206 (cmpi .slt : (⟨S128x512x1, .i32⟩ : BufTy).Contents (Elt F) → (⟨S128x512x1, .i32⟩ : BufTy).Contents (Elt F) → (⟨S128x512x1, .i1⟩ : BufTy).Contents (Elt F)),
      StableHlo.nullary main_c_49 (constantI S_ 32 512#32),
      StableHlo.unary main_c_49 main_v207 (broadcastInDim S128x512x1 ![] bcast_S_S128x512x1 : (⟨S_, .i32⟩ : BufTy).Contents (Elt F) → (⟨S128x512x1, .i32⟩ : BufTy).Contents (Elt F)),
      StableHlo.binary main_v176 main_v207 main_v208 (addi : (⟨S128x512x1, .i32⟩ : BufTy).Contents (Elt F) → (⟨S128x512x1, .i32⟩ : BufTy).Contents (Elt F) → (⟨S128x512x1, .i32⟩ : BufTy).Contents (Elt F)),
      StableHlo.ternary main_v206 main_v208 main_v176 main_v209 (select : (⟨S128x512x1, .i1⟩ : BufTy).Contents (Elt F) → (⟨S128x512x1, .i32⟩ : BufTy).Contents (Elt F) → (⟨S128x512x1, .i32⟩ : BufTy).Contents (Elt F) → (⟨S128x512x1, .i32⟩ : BufTy).Contents (Elt F)),
      StableHlo.nullary main_c_50 (constantI S_ 32 0#32),
      StableHlo.unary main_c_50 main_v210 (broadcastInDim S128x1x512 ![] bcast_S_S128x1x512 : (⟨S_, .i32⟩ : BufTy).Contents (Elt F) → (⟨S128x1x512, .i32⟩ : BufTy).Contents (Elt F)),
      StableHlo.binary main_v188 main_v210 main_v211 (cmpi .slt : (⟨S128x1x512, .i32⟩ : BufTy).Contents (Elt F) → (⟨S128x1x512, .i32⟩ : BufTy).Contents (Elt F) → (⟨S128x1x512, .i1⟩ : BufTy).Contents (Elt F)),
      StableHlo.nullary main_c_51 (constantI S_ 32 512#32),
      StableHlo.unary main_c_51 main_v212 (broadcastInDim S128x1x512 ![] bcast_S_S128x1x512 : (⟨S_, .i32⟩ : BufTy).Contents (Elt F) → (⟨S128x1x512, .i32⟩ : BufTy).Contents (Elt F)),
      StableHlo.binary main_v188 main_v212 main_v213 (addi : (⟨S128x1x512, .i32⟩ : BufTy).Contents (Elt F) → (⟨S128x1x512, .i32⟩ : BufTy).Contents (Elt F) → (⟨S128x1x512, .i32⟩ : BufTy).Contents (Elt F)),
      StableHlo.ternary main_v211 main_v213 main_v188 main_v214 (select : (⟨S128x1x512, .i1⟩ : BufTy).Contents (Elt F) → (⟨S128x1x512, .i32⟩ : BufTy).Contents (Elt F) → (⟨S128x1x512, .i32⟩ : BufTy).Contents (Elt F) → (⟨S128x1x512, .i32⟩ : BufTy).Contents (Elt F)),
      StableHlo.unary main_v209 main_v215 (broadcastInDim S128x512x512 ![0, 1, 2] bcast_S128x512x1_S128x512x512_0_1_2 : (⟨S128x512x1, .i32⟩ : BufTy).Contents (Elt F) → (⟨S128x512x512, .i32⟩ : BufTy).Contents (Elt F)),
      StableHlo.unary main_v214 main_v216 (broadcastInDim S128x512x512 ![0, 1, 2] bcast_S128x1x512_S128x512x512_0_1_2 : (⟨S128x1x512, .i32⟩ : BufTy).Contents (Elt F) → (⟨S128x512x512, .i32⟩ : BufTy).Contents (Elt F)),
      StableHlo.unary main_v215 main_v217 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.unary main_v216 main_v218 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.binary main_v217 main_v218 main_v219 (pairs (F := F)),
      StableHlo.binary main_v43 main_v219 main_v220 (cells (F := F)) ]

/-- Stretch `BotLeft`: the third. -/
def lineBotLeft : List (HloOp τ sig (Elt F)) :=
    [ StableHlo.nullary main_c_52 (constantI S_ 32 0#32),
      StableHlo.unary main_c_52 main_v221 (broadcastInDim S128x512x1 ![] bcast_S_S128x512x1 : (⟨S_, .i32⟩ : BufTy).Contents (Elt F) → (⟨S128x512x1, .i32⟩ : BufTy).Contents (Elt F)),
      StableHlo.binary main_v180 main_v221 main_v222 (cmpi .slt : (⟨S128x512x1, .i32⟩ : BufTy).Contents (Elt F) → (⟨S128x512x1, .i32⟩ : BufTy).Contents (Elt F) → (⟨S128x512x1, .i1⟩ : BufTy).Contents (Elt F)),
      StableHlo.nullary main_c_53 (constantI S_ 32 512#32),
      StableHlo.unary main_c_53 main_v223 (broadcastInDim S128x512x1 ![] bcast_S_S128x512x1 : (⟨S_, .i32⟩ : BufTy).Contents (Elt F) → (⟨S128x512x1, .i32⟩ : BufTy).Contents (Elt F)),
      StableHlo.binary main_v180 main_v223 main_v224 (addi : (⟨S128x512x1, .i32⟩ : BufTy).Contents (Elt F) → (⟨S128x512x1, .i32⟩ : BufTy).Contents (Elt F) → (⟨S128x512x1, .i32⟩ : BufTy).Contents (Elt F)),
      StableHlo.ternary main_v222 main_v224 main_v180 main_v225 (select : (⟨S128x512x1, .i1⟩ : BufTy).Contents (Elt F) → (⟨S128x512x1, .i32⟩ : BufTy).Contents (Elt F) → (⟨S128x512x1, .i32⟩ : BufTy).Contents (Elt F) → (⟨S128x512x1, .i32⟩ : BufTy).Contents (Elt F)),
      StableHlo.nullary main_c_54 (constantI S_ 32 0#32),
      StableHlo.unary main_c_54 main_v226 (broadcastInDim S128x1x512 ![] bcast_S_S128x1x512 : (⟨S_, .i32⟩ : BufTy).Contents (Elt F) → (⟨S128x1x512, .i32⟩ : BufTy).Contents (Elt F)),
      StableHlo.binary main_v184 main_v226 main_v227 (cmpi .slt : (⟨S128x1x512, .i32⟩ : BufTy).Contents (Elt F) → (⟨S128x1x512, .i32⟩ : BufTy).Contents (Elt F) → (⟨S128x1x512, .i1⟩ : BufTy).Contents (Elt F)),
      StableHlo.nullary main_c_55 (constantI S_ 32 512#32),
      StableHlo.unary main_c_55 main_v228 (broadcastInDim S128x1x512 ![] bcast_S_S128x1x512 : (⟨S_, .i32⟩ : BufTy).Contents (Elt F) → (⟨S128x1x512, .i32⟩ : BufTy).Contents (Elt F)),
      StableHlo.binary main_v184 main_v228 main_v229 (addi : (⟨S128x1x512, .i32⟩ : BufTy).Contents (Elt F) → (⟨S128x1x512, .i32⟩ : BufTy).Contents (Elt F) → (⟨S128x1x512, .i32⟩ : BufTy).Contents (Elt F)),
      StableHlo.ternary main_v227 main_v229 main_v184 main_v230 (select : (⟨S128x1x512, .i1⟩ : BufTy).Contents (Elt F) → (⟨S128x1x512, .i32⟩ : BufTy).Contents (Elt F) → (⟨S128x1x512, .i32⟩ : BufTy).Contents (Elt F) → (⟨S128x1x512, .i32⟩ : BufTy).Contents (Elt F)),
      StableHlo.unary main_v225 main_v231 (broadcastInDim S128x512x512 ![0, 1, 2] bcast_S128x512x1_S128x512x512_0_1_2 : (⟨S128x512x1, .i32⟩ : BufTy).Contents (Elt F) → (⟨S128x512x512, .i32⟩ : BufTy).Contents (Elt F)),
      StableHlo.unary main_v230 main_v232 (broadcastInDim S128x512x512 ![0, 1, 2] bcast_S128x1x512_S128x512x512_0_1_2 : (⟨S128x1x512, .i32⟩ : BufTy).Contents (Elt F) → (⟨S128x512x512, .i32⟩ : BufTy).Contents (Elt F)),
      StableHlo.unary main_v231 main_v233 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.unary main_v232 main_v234 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.binary main_v233 main_v234 main_v235 (pairs (F := F)),
      StableHlo.binary main_v43 main_v235 main_v236 (cells (F := F)) ]

/-- Stretch `BotRight`, its first part. -/
def lineBotRight₁ : List (HloOp τ sig (Elt F)) :=
    [ StableHlo.nullary main_c_56 (constantI S_ 32 0#32),
      StableHlo.unary main_c_56 main_v237 (broadcastInDim S128x512x1 ![] bcast_S_S128x512x1 : (⟨S_, .i32⟩ : BufTy).Contents (Elt F) → (⟨S128x512x1, .i32⟩ : BufTy).Contents (Elt F)),
      StableHlo.binary main_v180 main_v237 main_v238 (cmpi .slt : (⟨S128x512x1, .i32⟩ : BufTy).Contents (Elt F) → (⟨S128x512x1, .i32⟩ : BufTy).Contents (Elt F) → (⟨S128x512x1, .i1⟩ : BufTy).Contents (Elt F)),
      StableHlo.nullary main_c_57 (constantI S_ 32 512#32),
      StableHlo.unary main_c_57 main_v239 (broadcastInDim S128x512x1 ![] bcast_S_S128x512x1 : (⟨S_, .i32⟩ : BufTy).Contents (Elt F) → (⟨S128x512x1, .i32⟩ : BufTy).Contents (Elt F)) ]

/-- Its second part. -/
def lineBotRight₂ : List (HloOp τ sig (Elt F)) :=
    [ StableHlo.binary main_v180 main_v239 main_v240 (addi : (⟨S128x512x1, .i32⟩ : BufTy).Contents (Elt F) → (⟨S128x512x1, .i32⟩ : BufTy).Contents (Elt F) → (⟨S128x512x1, .i32⟩ : BufTy).Contents (Elt F)),
      StableHlo.ternary main_v238 main_v240 main_v180 main_v241 (select : (⟨S128x512x1, .i1⟩ : BufTy).Contents (Elt F) → (⟨S128x512x1, .i32⟩ : BufTy).Contents (Elt F) → (⟨S128x512x1, .i32⟩ : BufTy).Contents (Elt F) → (⟨S128x512x1, .i32⟩ : BufTy).Contents (Elt F)),
      StableHlo.nullary main_c_58 (constantI S_ 32 0#32),
      StableHlo.unary main_c_58 main_v242 (broadcastInDim S128x1x512 ![] bcast_S_S128x1x512 : (⟨S_, .i32⟩ : BufTy).Contents (Elt F) → (⟨S128x1x512, .i32⟩ : BufTy).Contents (Elt F)),
      StableHlo.binary main_v188 main_v242 main_v243 (cmpi .slt : (⟨S128x1x512, .i32⟩ : BufTy).Contents (Elt F) → (⟨S128x1x512, .i32⟩ : BufTy).Contents (Elt F) → (⟨S128x1x512, .i1⟩ : BufTy).Contents (Elt F)),
      StableHlo.nullary main_c_59 (constantI S_ 32 512#32),
      StableHlo.unary main_c_59 main_v244 (broadcastInDim S128x1x512 ![] bcast_S_S128x1x512 : (⟨S_, .i32⟩ : BufTy).Contents (Elt F) → (⟨S128x1x512, .i32⟩ : BufTy).Contents (Elt F)),
      StableHlo.binary main_v188 main_v244 main_v245 (addi : (⟨S128x1x512, .i32⟩ : BufTy).Contents (Elt F) → (⟨S128x1x512, .i32⟩ : BufTy).Contents (Elt F) → (⟨S128x1x512, .i32⟩ : BufTy).Contents (Elt F)),
      StableHlo.ternary main_v243 main_v245 main_v188 main_v246 (select : (⟨S128x1x512, .i1⟩ : BufTy).Contents (Elt F) → (⟨S128x1x512, .i32⟩ : BufTy).Contents (Elt F) → (⟨S128x1x512, .i32⟩ : BufTy).Contents (Elt F) → (⟨S128x1x512, .i32⟩ : BufTy).Contents (Elt F)),
      StableHlo.unary main_v241 main_v247 (broadcastInDim S128x512x512 ![0, 1, 2] bcast_S128x512x1_S128x512x512_0_1_2 : (⟨S128x512x1, .i32⟩ : BufTy).Contents (Elt F) → (⟨S128x512x512, .i32⟩ : BufTy).Contents (Elt F)),
      StableHlo.unary main_v246 main_v248 (broadcastInDim S128x512x512 ![0, 1, 2] bcast_S128x1x512_S128x512x512_0_1_2 : (⟨S128x1x512, .i32⟩ : BufTy).Contents (Elt F) → (⟨S128x512x512, .i32⟩ : BufTy).Contents (Elt F)),
      StableHlo.unary main_v247 main_v249 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.unary main_v248 main_v250 (broadcastInDim S128x512x512x1 ![0, 1, 2] bcast_S128x512x512_S128x512x512x1_0_1_2 : (⟨S128x512x512, .i32⟩ : BufTy).Contents (Elt F) → (⟨S128x512x512x1, .i32⟩ : BufTy).Contents (Elt F)),
      StableHlo.binary main_v249 main_v250 main_v251 (pairs (F := F)),
      StableHlo.binary main_v43 main_v251 main_v252 (cells (F := F)) ]

/-- Stretch `BotRight`: the fourth. -/
def lineBotRight : List (HloOp τ sig (Elt F)) := lineBotRight₁ ++ lineBotRight₂

/-- Stretch `Mix`: the blend, the mask and the result. -/
def lineMix : List (HloOp τ sig (Elt F)) :=
    [ StableHlo.nullary main_cst_60 (constant S_ .f32 0x3F800000#32),
      StableHlo.unary main_cst_60 main_v253 (broadcastInDim S128x1x512 ![] bcast_S_S128x1x512 : (⟨S_, .f32⟩ : BufTy).Contents (Elt F) → (⟨S128x1x512, .f32⟩ : BufTy).Contents (Elt F)),
      StableHlo.binary main_v253 main_v172 main_v254 (subf : (⟨S128x1x512, .f32⟩ : BufTy).Contents (Elt F) → (⟨S128x1x512, .f32⟩ : BufTy).Contents (Elt F) → (⟨S128x1x512, .f32⟩ : BufTy).Contents (Elt F)),
      StableHlo.unary main_v254 main_v255 (broadcastInDim S128x512x512 ![0, 1, 2] bcast_S128x1x512_S128x512x512_0_1_2 : (⟨S128x1x512, .f32⟩ : BufTy).Contents (Elt F) → (⟨S128x512x512, .f32⟩ : BufTy).Contents (Elt F)),
      StableHlo.binary main_v204 main_v255 main_v256 (mulf : (⟨S128x512x512, .f32⟩ : BufTy).Contents (Elt F) → (⟨S128x512x512, .f32⟩ : BufTy).Contents (Elt F) → (⟨S128x512x512, .f32⟩ : BufTy).Contents (Elt F)),
      StableHlo.unary main_v172 main_v257 (broadcastInDim S128x512x512 ![0, 1, 2] bcast_S128x1x512_S128x512x512_0_1_2 : (⟨S128x1x512, .f32⟩ : BufTy).Contents (Elt F) → (⟨S128x512x512, .f32⟩ : BufTy).Contents (Elt F)),
      StableHlo.binary main_v220 main_v257 main_v258 (mulf : (⟨S128x512x512, .f32⟩ : BufTy).Contents (Elt F) → (⟨S128x512x512, .f32⟩ : BufTy).Contents (Elt F) → (⟨S128x512x512, .f32⟩ : BufTy).Contents (Elt F)),
      StableHlo.binary main_v256 main_v258 main_v259 (addf : (⟨S128x512x512, .f32⟩ : BufTy).Contents (Elt F) → (⟨S128x512x512, .f32⟩ : BufTy).Contents (Elt F) → (⟨S128x512x512, .f32⟩ : BufTy).Contents (Elt F)),
      StableHlo.nullary main_cst_61 (constant S_ .f32 0x3F800000#32),
      StableHlo.unary main_cst_61 main_v260 (broadcastInDim S128x1x512 ![] bcast_S_S128x1x512 : (⟨S_, .f32⟩ : BufTy).Contents (Elt F) → (⟨S128x1x512, .f32⟩ : BufTy).Contents (Elt F)),
      StableHlo.binary main_v260 main_v172 main_v261 (subf : (⟨S128x1x512, .f32⟩ : BufTy).Contents (Elt F) → (⟨S128x1x512, .f32⟩ : BufTy).Contents (Elt F) → (⟨S128x1x512, .f32⟩ : BufTy).Contents (Elt F)),
      StableHlo.unary main_v261 main_v262 (broadcastInDim S128x512x512 ![0, 1, 2] bcast_S128x1x512_S128x512x512_0_1_2 : (⟨S128x1x512, .f32⟩ : BufTy).Contents (Elt F) → (⟨S128x512x512, .f32⟩ : BufTy).Contents (Elt F)),
      StableHlo.binary main_v236 main_v262 main_v263 (mulf : (⟨S128x512x512, .f32⟩ : BufTy).Contents (Elt F) → (⟨S128x512x512, .f32⟩ : BufTy).Contents (Elt F) → (⟨S128x512x512, .f32⟩ : BufTy).Contents (Elt F)),
      StableHlo.unary main_v172 main_v264 (broadcastInDim S128x512x512 ![0, 1, 2] bcast_S128x1x512_S128x512x512_0_1_2 : (⟨S128x1x512, .f32⟩ : BufTy).Contents (Elt F) → (⟨S128x512x512, .f32⟩ : BufTy).Contents (Elt F)),
      StableHlo.binary main_v252 main_v264 main_v265 (mulf : (⟨S128x512x512, .f32⟩ : BufTy).Contents (Elt F) → (⟨S128x512x512, .f32⟩ : BufTy).Contents (Elt F) → (⟨S128x512x512, .f32⟩ : BufTy).Contents (Elt F)),
      StableHlo.binary main_v263 main_v265 main_v266 (addf : (⟨S128x512x512, .f32⟩ : BufTy).Contents (Elt F) → (⟨S128x512x512, .f32⟩ : BufTy).Contents (Elt F) → (⟨S128x512x512, .f32⟩ : BufTy).Contents (Elt F)),
      StableHlo.nullary main_cst_62 (constant S_ .f32 0x3F800000#32),
      StableHlo.unary main_cst_62 main_v267 (broadcastInDim S128x512x1 ![] bcast_S_S128x512x1 : (⟨S_, .f32⟩ : BufTy).Contents (Elt F) → (⟨S128x512x1, .f32⟩ : BufTy).Contents (Elt F)),
      StableHlo.binary main_v267 main_v169 main_v268 (subf : (⟨S128x512x1, .f32⟩ : BufTy).Contents (Elt F) → (⟨S128x512x1, .f32⟩ : BufTy).Contents (Elt F) → (⟨S128x512x1, .f32⟩ : BufTy).Contents (Elt F)),
      StableHlo.unary main_v268 main_v269 (broadcastInDim S128x512x512 ![0, 1, 2] bcast_S128x512x1_S128x512x512_0_1_2 : (⟨S128x512x1, .f32⟩ : BufTy).Contents (Elt F) → (⟨S128x512x512, .f32⟩ : BufTy).Contents (Elt F)),
      StableHlo.binary main_v259 main_v269 main_v270 (mulf : (⟨S128x512x512, .f32⟩ : BufTy).Contents (Elt F) → (⟨S128x512x512, .f32⟩ : BufTy).Contents (Elt F) → (⟨S128x512x512, .f32⟩ : BufTy).Contents (Elt F)),
      StableHlo.unary main_v169 main_v271 (broadcastInDim S128x512x512 ![0, 1, 2] bcast_S128x512x1_S128x512x512_0_1_2 : (⟨S128x512x1, .f32⟩ : BufTy).Contents (Elt F) → (⟨S128x512x512, .f32⟩ : BufTy).Contents (Elt F)),
      StableHlo.binary main_v266 main_v271 main_v272 (mulf : (⟨S128x512x512, .f32⟩ : BufTy).Contents (Elt F) → (⟨S128x512x512, .f32⟩ : BufTy).Contents (Elt F) → (⟨S128x512x512, .f32⟩ : BufTy).Contents (Elt F)),
      StableHlo.binary main_v270 main_v272 main_v273 (addf : (⟨S128x512x512, .f32⟩ : BufTy).Contents (Elt F) → (⟨S128x512x512, .f32⟩ : BufTy).Contents (Elt F) → (⟨S128x512x512, .f32⟩ : BufTy).Contents (Elt F)),
      StableHlo.nullary main_cst_63 (constant S_ .f32 0x00000000#32) ]
    ++ ops_where_6 (.of main_v128) (.of main_v273) (.of main_cst_63) main_call20
    ++ [ StableHlo.reshape main_v274 main_v275 (rfl : (.f32 : EltTy) = .f32) shapeCasts_S128x512x512_S4x32x512x512,
      StableHlo.unary main_v275 main_v276 ((transpose S4x512x512x32 [0, 2, 3, 1] · transposes_S4x32x512x512_S4x512x512x32_0_2_3_1) : (⟨S4x32x512x512, .f32⟩ : BufTy).Contents (Elt F) → (⟨S4x512x512x32, .f32⟩ : BufTy).Contents (Elt F)) ]

end Cert.Focus.Ref

end
-- ==== Proof.Focus.RefParts.lean ====
/- The printed parts of the reference, each as the stretches it holds. -/
module

public import proofs.«01_k».proof.Proof.Focus.RefLine

@[expose] public section

set_option maxRecDepth 16384

noncomputable section

namespace Cert.Focus.Ref

open Idealize.ShloMosaic Idealize.SL.Sem Cert.ReferenceIdeal

variable {F : FTy → Type} [FloatOps F]

set_option maxHeartbeats 1000000 in
/-- The printed program's parts, each the stretches it holds. -/
theorem part0_line (d : Dev nD) : main_part0 (F := F) d = StableHlo.seq (lineScan ++ (lineEdge ++ lineSize₁)) := rfl
set_option maxHeartbeats 1000000 in
/-- Part 1 of the reference is its share of the straight line. -/
theorem part1_line (d : Dev nD) : main_part1 (F := F) d = StableHlo.seq (lineSize₂ ++ (lineGrow ++ (lineRow ++ lineCol₁))) := rfl
set_option maxHeartbeats 1000000 in
/-- Part 2 of the reference is its share of the straight line. -/
theorem part2_line (d : Dev nD) : main_part2 (F := F) d = StableHlo.seq (lineCol₂ ++ (lineInside ++ (linePos ++ lineNear₁))) := rfl
set_option maxHeartbeats 1000000 in
/-- Part 3 of the reference is its share of the straight line. -/
theorem part3_line (d : Dev nD) : main_part3 (F := F) d = StableHlo.seq (lineNear₂ ++ (lineCell ++ lineTopLeft₁)) := rfl
set_option maxHeartbeats 1000000 in
/-- Part 4 of the reference is its share of the straight line. -/
theorem part4_line (d : Dev nD) : main_part4 (F := F) d =
    StableHlo.seq (lineTopLeft₂ ++ (lineTopRight ++ (lineBotLeft ++ lineBotRight₁))) := rfl
set_option maxHeartbeats 1000000 in
/-- Part 5 of the reference is its share of the straight line. -/
theorem part5_line (d : Dev nD) : main_part5 (F := F) d = StableHlo.seq (lineBotRight₂ ++ lineMix) := rfl

end Cert.Focus.Ref

end
-- ==== Proof.Focus.RefPlain.lean ====
/- The reference's line, and that it touches the core's own buffers only. -/
module

public import proofs.«01_k».proof.Proof.Focus.RefLine

@[expose] public section

set_option maxRecDepth 16384

noncomputable section

namespace Cert.Focus.Ref

open Idealize.ShloMosaic Idealize.SL.Sem Cert.ReferenceIdeal

variable {F : FTy → Type} [FloatOps F]

/-- The reference's operations, stretch after stretch. -/
def line : List (HloOp τ sig (Elt F)) :=
  lineScan ++ (lineEdge ++ (lineSize ++ (lineGrow ++ (lineRow ++ (lineCol ++ (lineInside ++ (linePos ++ (lineNear ++ (lineCell
    ++ (lineTopLeft ++ (lineTopRight ++ (lineBotLeft ++ (lineBotRight ++ lineMix)))))))))))))

/-- Every operation of the line names buffers of the core alone and allocates nothing. -/
def Plain (ops : List (HloOp τ sig (Elt F))) : Prop := ∀ op ∈ ops, op.bufs ⊆ StableHlo.tcRefs τ sig ∧ op.fresh = ∅

/-- No operations are plain. -/
theorem Plain.nil : Plain ([] : List (HloOp τ sig (Elt F))) := fun _ h => absurd h List.not_mem_nil
/-- One more plain operation before plain ones. -/
theorem Plain.cons {op : HloOp τ sig (Elt F)} {ops : List (HloOp τ sig (Elt F))} (h : op.bufs ⊆ StableHlo.tcRefs τ sig)
    (h' : op.fresh = ∅) (t : Plain ops) : Plain (op :: ops) := fun o ho => by
  rcases List.mem_cons.mp ho with rfl | ho
  exacts [⟨h, h'⟩, t o ho]
/-- Plain operations after plain ones. -/
theorem Plain.append {a b : List (HloOp τ sig (Elt F))} (ha : Plain a) (hb : Plain b) : Plain (a ++ b) := fun o ho =>
  (List.mem_append.mp ho).elim (ha o) (hb o)

set_option maxHeartbeats 2000000 in
/-- All operations of the reference are plain. -/
theorem line_plain : Plain (F := F) line := by
  unfold line lineSize lineCol lineNear lineTopLeft lineBotRight
  unfold lineScan lineEdge lineSize₁ lineSize₂ lineGrow lineRow lineCol₁ lineCol₂ lineInside linePos
  unfold lineNear₁ lineNear₂ lineCell lineTopLeft₁ lineTopLeft₂ lineTopRight lineBotLeft lineBotRight₁ lineBotRight₂ lineMix
  all_goals repeat' first
    | with_reducible apply Plain.append
    | exact Plain.nil
    | with_reducible apply Plain.append
    | refine Plain.cons (by with_reducible exact StableHlo.unary_bufs_sub ..) rfl ?_
    | refine Plain.cons (by with_reducible exact StableHlo.binary_bufs_sub ..) rfl ?_
    | refine Plain.cons (by with_reducible exact StableHlo.nullary_bufs_sub ..) rfl ?_
    | refine Plain.cons (by with_reducible exact StableHlo.ternary_bufs_sub ..) rfl ?_
    | refine Plain.cons (by with_reducible exact StableHlo.quaternary_bufs_sub ..) rfl ?_
    | refine Plain.cons (by with_reducible exact StableHlo.reshape_bufs_sub ..) rfl ?_

end Cert.Focus.Ref

end
-- ==== Proof.Focus.RefRun.lean ====
/- The reference's run: it ends, every buffer holds what its line of operations leaves there. -/
module

public import proofs.«01_k».proof.Proof.Focus.RefParts
public import proofs.«01_k».proof.Proof.Focus.RefPlain

@[expose] public section

set_option maxRecDepth 16384

noncomputable section

namespace Cert.Focus.Ref

open Idealize.ShloMosaic Idealize.SL.Sem Cert.ReferenceIdeal

variable {F : FTy → Type} [FloatOps F]

/-- Two lines, one after the other, are their operations in a row. -/
theorem seq_then {Λ : Labels} (a b : List (HloOp τ sig (Elt F))) (p : Prog (TpuEff nD τ sig (Elt F) Λ .tc) PUnit)
    (h : p = StableHlo.seq b) : ((StableHlo.seq a : Prog (TpuEff nD τ sig (Elt F) Λ .tc) PUnit) >>= fun _ => p) = StableHlo.seq (a ++ b) := by
  rw [h, StableHlo.seq_append]

/-- The reference is its line. -/
theorem main_line (d : Dev nD) : main (F := F) d = StableHlo.seq line := by
  unfold main
  rw [part0_line, part1_line, part2_line, part3_line, part4_line, part5_line]
  rw [seq_then _ _ _ (seq_then _ _ _ (seq_then _ _ _ (seq_then _ _ _ (seq_then _ _ _ rfl))))]
  congr 1

/-- The reference has no buffers of limited life. -/
theorem no_scoped_refs : (Finset.univ.filter fun b : Ref sig .tc => b.isScoped) = ∅ := by decide
/-- The reference has no semaphores of limited life. -/
theorem no_scoped_sems : (Finset.univ.filter fun sm : SemLoc sig => sm.isScoped .tc) = ∅ := by decide

variable (m : (ℓ : Loc nD τ sig) → Buf (Elt F) ℓ) (ρ : Dev nD → PrngReg)

/-- The reference's run: every buffer ends at what the line leaves in it. -/
theorem run : θ_run (defs (F := F)) (onTc (τ := τ) (main (F := F))) ⟨m, fun _ => 0, ρ⟩ fun r =>
    ∀ (d : Dev nD) (b : Ref sig .tc), r.2.mem ((d.tc : Thread nD τ).loc b)
      = StableHlo.after line (StableHlo.launchContents m d) (Proc.devRef .tc b) :=
  StableHlo.run_hlo defs main (ops := line) main_line no_scoped_refs no_scoped_sems
    (List.forall_iff_forall_mem.mpr fun op h => (line_plain op h).1) (fun op h => (line_plain op h).2) m ρ

end Cert.Focus.Ref

end
-- ==== Proof.Focus.RefKeep.lean ====
/- Which buffers each stretch of the reference writes: every other buffer passes through the stretch unchanged. -/
module

public import proofs.«01_k».proof.Proof.Focus.RefPlain

@[expose] public section

set_option maxRecDepth 16384

noncomputable section

namespace Cert.Focus.Ref

open Idealize.ShloMosaic Idealize.SL.Sem Cert.ReferenceIdeal

variable {F : FTy → Type} [FloatOps F] {r : Ref sig .tc} (V : Valuation τ sig (Elt F))

/-! ## What each called function, and each stretch, writes -/

/-- The buffers that the function `round` writes. -/
abbrev w_round (φ : fn_round.Bufs) : List (Ref sig .tc) := [φ.v0.ref]
/-- The buffers that the function `argmax` writes. -/
abbrev w_argmax (φ : fn_argmax.Bufs) : List (Ref sig .tc) := [φ.v0.ref, φ.c.ref, φ.c_0.ref, φ.v1_0.ref, φ.v1_1.ref]
/-- The buffers that the function `round_0` writes. -/
abbrev w_round_0 (φ : fn_round_0.Bufs) : List (Ref sig .tc) := [φ.v0.ref]
/-- The buffers that the function `where` writes. -/
abbrev w_where (φ : fn_where.Bufs) : List (Ref sig .tc) := [φ.v0.ref]
/-- The buffers that the function `floor_divide` writes. -/
abbrev w_floor_divide (φ : fn_floor_divide.Bufs) : List (Ref sig .tc) := [φ.v0.ref, φ.v1.ref, φ.v2.ref, φ.v3.ref, φ.v4.ref, φ.v5.ref, φ.v6.ref, φ.v7.ref, φ.v8.ref, φ.c.ref, φ.v9.ref, φ.v10.ref, φ.v11.ref, φ.c_0.ref, φ.v12.ref, φ.v13.ref] ++ w_where φ.call0
/-- The buffers that the function `clip` writes. -/
abbrev w_clip (φ : fn_clip.Bufs) : List (Ref sig .tc) := [φ.v0.ref, φ.v1.ref, φ.v2.ref, φ.v3.ref, φ.v4.ref, φ.v5.ref]
/-- The buffers that the function `clip_1` writes. -/
abbrev w_clip_1 (φ : fn_clip_1.Bufs) : List (Ref sig .tc) := [φ.v0.ref, φ.v1.ref, φ.v2.ref, φ.v3.ref, φ.v4.ref, φ.v5.ref]
/-- The buffers that the function `clip_2` writes. -/
abbrev w_clip_2 (φ : fn_clip_2.Bufs) : List (Ref sig .tc) := [φ.v0.ref, φ.v1.ref, φ.v2.ref, φ.v3.ref, φ.v4.ref, φ.v5.ref]
/-- The buffers that the function `clip_3` writes. -/
abbrev w_clip_3 (φ : fn_clip_3.Bufs) : List (Ref sig .tc) := [φ.v0.ref, φ.v1.ref, φ.v2.ref, φ.v3.ref, φ.v4.ref, φ.v5.ref]
/-- The buffers that the function `clip_4` writes. -/
abbrev w_clip_4 (φ : fn_clip_4.Bufs) : List (Ref sig .tc) := [φ.v0.ref, φ.v1.ref, φ.v2.ref, φ.v3.ref, φ.v4.ref, φ.v5.ref]
/-- The buffers that the function `clip_5` writes. -/
abbrev w_clip_5 (φ : fn_clip_5.Bufs) : List (Ref sig .tc) := [φ.v0.ref, φ.v1.ref, φ.v2.ref, φ.v3.ref, φ.v4.ref, φ.v5.ref]
/-- The buffers that the function `where_6` writes. -/
abbrev w_where_6 (φ : fn_where_6.Bufs) : List (Ref sig .tc) := [φ.v0.ref, φ.v1.ref, φ.v2.ref, φ.v3.ref]
/-- The buffers that the stretch for the scans writes. -/
abbrev wScan : List (Ref sig .tc) := [main_cst, main_v0, main_v1, main_v2, main_cst_0, main_v3, main_v4, main_cst_1, main_v5, main_v6, main_cst_2, main_v7, main_v8] ++ w_round main_call0 ++ [main_v10, main_cst_3, main_v11, main_v12, main_v13, main_cst_4, main_v14, main_v15, main_cst_5, main_v16, main_v17, main_cst_6, main_v18, main_v19] ++ w_round main_call1 ++ [main_v21]
/-- The buffers that the stretch for the edges writes. -/
abbrev wEdge : List (Ref sig .tc) := [main_v22, main_v23, main_v24, main_v25, main_v26, main_v27] ++ w_argmax main_call2 ++ [main_v29, main_v30, main_v31] ++ w_argmax main_call3 ++ [main_v33, main_v34, main_v35, main_v36] ++ w_argmax main_call4 ++ [main_v38, main_v39, main_v40] ++ w_argmax main_call5 ++ [main_v42, main_v43, main_v44, main_v45, main_v46, main_v47]
/-- The buffers that the stretch for the sizes, first part, writes. -/
abbrev wSize₁ : List (Ref sig .tc) := [main_v48, main_c, main_v49, main_v50]
/-- The buffers that the stretch for the sizes, second part, writes. -/
abbrev wSize₂ : List (Ref sig .tc) := [main_v51, main_c_7, main_v52, main_v53]
/-- The buffers that the stretch for the sizes writes. -/
abbrev wSize : List (Ref sig .tc) := wSize₁ ++ wSize₂
/-- The buffers that the stretch for the enlarged sizes writes. -/
abbrev wGrow : List (Ref sig .tc) := [main_c_8, main_v54, main_v55, main_c_9, main_v56, main_v57, main_v58, main_v59, main_v60, main_v61, main_v62, main_v63, main_v64, main_v65, main_v66] ++ w_round_0 main_call6 ++ [main_v68, main_v69, main_v70] ++ w_round_0 main_call7 ++ [main_v72]
/-- The buffers that the stretch for the rows shown writes. -/
abbrev wRow : List (Ref sig .tc) := [main_v73, main_v74, main_v75, main_v76, main_c_10, main_v77, main_v78, main_c_11] ++ w_floor_divide main_call8 ++ [main_c_12, main_v80, main_v81, main_v82, main_v83, main_v84, main_v85, main_v86, main_c_13, main_v87, main_v88, main_c_14] ++ w_floor_divide main_call9 ++ [main_c_15, main_v90, main_v91, main_v92, main_v93, main_v94]
/-- The buffers that the stretch for the columns shown, first part, writes. -/
abbrev wCol₁ : List (Ref sig .tc) := [main_c_16, main_v95, main_v96, main_c_17] ++ w_floor_divide main_call10 ++ [main_c_18, main_v98]
/-- The buffers that the stretch for the columns shown, second part, writes. -/
abbrev wCol₂ : List (Ref sig .tc) := [main_v99, main_v100, main_v101, main_v102, main_v103, main_v104, main_c_19, main_v105, main_v106, main_c_20] ++ w_floor_divide main_call11 ++ [main_c_21, main_v108, main_v109, main_v110, main_v111, main_v112]
/-- The buffers that the stretch for the columns shown writes. -/
abbrev wCol : List (Ref sig .tc) := wCol₁ ++ wCol₂
/-- The buffers that the stretch for the test of what is shown writes. -/
abbrev wInside : List (Ref sig .tc) := [main_c_22, main_v113, main_v114, main_v115, main_v116, main_v117, main_v118, main_c_23, main_v119, main_v120, main_v121, main_v122, main_v123, main_v124, main_v125, main_v126, main_v127, main_v128]
/-- The buffers that the stretch for the positions writes. -/
abbrev wPos : List (Ref sig .tc) := [main_v129, main_v130, main_v131, main_v132, main_v133, main_v134, main_v135, main_v136, main_v137, main_v138, main_v139, main_v140, main_v141, main_v142]
/-- The buffers that the stretch for the neighbours and weights, first part, writes. -/
abbrev wNear₁ : List (Ref sig .tc) := [main_v143, main_v144, main_c_24, main_v145, main_v146, main_c_25] ++ w_clip main_call12 ++ [main_v148, main_v149, main_c_26, main_v150]
/-- The buffers that the stretch for the neighbours and weights, second part, writes. -/
abbrev wNear₂ : List (Ref sig .tc) := [main_v151, main_c_27] ++ w_clip_1 main_call13 ++ [main_c_28, main_v153, main_v154, main_c_29, main_v155, main_v156, main_v157, main_v158, main_v159, main_c_30, main_v160, main_v161, main_c_31, main_v162, main_v163, main_v164, main_v165, main_v166, main_v167, main_v168, main_cst_32, main_cst_33] ++ w_clip_2 main_call14 ++ [main_v170, main_v171, main_cst_34, main_cst_35] ++ w_clip_3 main_call15
/-- The buffers that the stretch for the neighbours and weights writes. -/
abbrev wNear : List (Ref sig .tc) := wNear₁ ++ wNear₂
/-- The buffers that the stretch for the neighbours' numbers in the image writes. -/
abbrev wCell : List (Ref sig .tc) := [main_v173, main_v174, main_v175, main_c_36, main_c_37] ++ w_clip_4 main_call16 ++ [main_v177, main_v178, main_v179, main_c_38, main_c_39] ++ w_clip_4 main_call17 ++ [main_v181, main_v182, main_v183, main_c_40, main_c_41] ++ w_clip_5 main_call18 ++ [main_v185, main_v186, main_v187, main_c_42, main_c_43] ++ w_clip_5 main_call19
/-- The buffers that the stretch for the first look-up, first part, writes. -/
abbrev wTopLeft₁ : List (Ref sig .tc) := [main_c_44, main_v189, main_v190, main_c_45, main_v191]
/-- The buffers that the stretch for the first look-up, second part, writes. -/
abbrev wTopLeft₂ : List (Ref sig .tc) := [main_v192, main_v193, main_c_46, main_v194, main_v195, main_c_47, main_v196, main_v197, main_v198, main_v199, main_v200, main_v201, main_v202, main_v203, main_v204]
/-- The buffers that the stretch for the first look-up writes. -/
abbrev wTopLeft : List (Ref sig .tc) := wTopLeft₁ ++ wTopLeft₂
/-- The buffers that the stretch for the second look-up writes. -/
abbrev wTopRight : List (Ref sig .tc) := [main_c_48, main_v205, main_v206, main_c_49, main_v207, main_v208, main_v209, main_c_50, main_v210, main_v211, main_c_51, main_v212, main_v213, main_v214, main_v215, main_v216, main_v217, main_v218, main_v219, main_v220]
/-- The buffers that the stretch for the third look-up writes. -/
abbrev wBotLeft : List (Ref sig .tc) := [main_c_52, main_v221, main_v222, main_c_53, main_v223, main_v224, main_v225, main_c_54, main_v226, main_v227, main_c_55, main_v228, main_v229, main_v230, main_v231, main_v232, main_v233, main_v234, main_v235, main_v236]
/-- The buffers that the stretch for the fourth look-up, first part, writes. -/
abbrev wBotRight₁ : List (Ref sig .tc) := [main_c_56, main_v237, main_v238, main_c_57, main_v239]
/-- The buffers that the stretch for the fourth look-up, second part, writes. -/
abbrev wBotRight₂ : List (Ref sig .tc) := [main_v240, main_v241, main_c_58, main_v242, main_v243, main_c_59, main_v244, main_v245, main_v246, main_v247, main_v248, main_v249, main_v250, main_v251, main_v252]
/-- The buffers that the stretch for the fourth look-up writes. -/
abbrev wBotRight : List (Ref sig .tc) := wBotRight₁ ++ wBotRight₂
/-- The buffers that the stretch for the blend writes. -/
abbrev wMix : List (Ref sig .tc) := [main_cst_60, main_v253, main_v254, main_v255, main_v256, main_v257, main_v258, main_v259, main_cst_61, main_v260, main_v261, main_v262, main_v263, main_v264, main_v265, main_v266, main_cst_62, main_v267, main_v268, main_v269, main_v270, main_v271, main_v272, main_v273, main_cst_63] ++ w_where_6 main_call20 ++ [main_v275, main_v276]

/-! ## What is not written is kept -/

/-- The stretch for the scans keeps every other buffer. -/
theorem keepScan (hr : r ∉ wScan) : StableHlo.after lineScan V (Proc.devRef .tc r) = V (Proc.devRef .tc r) :=
  StableHlo.after_unwritten wScan rfl hr V
/-- The stretch for the edges keeps every other buffer. -/
theorem keepEdge (hr : r ∉ wEdge) : StableHlo.after lineEdge V (Proc.devRef .tc r) = V (Proc.devRef .tc r) :=
  StableHlo.after_unwritten wEdge rfl hr V
/-- The stretch for the sizes keeps every other buffer. -/
theorem keepSize (hr : r ∉ wSize) : StableHlo.after lineSize V (Proc.devRef .tc r) = V (Proc.devRef .tc r) :=
  StableHlo.after_unwritten wSize rfl hr V
/-- The stretch for the enlarged sizes keeps every other buffer. -/
theorem keepGrow (hr : r ∉ wGrow) : StableHlo.after lineGrow V (Proc.devRef .tc r) = V (Proc.devRef .tc r) :=
  StableHlo.after_unwritten wGrow rfl hr V
/-- The stretch for the rows shown keeps every other buffer. -/
theorem keepRow (hr : r ∉ wRow) : StableHlo.after lineRow V (Proc.devRef .tc r) = V (Proc.devRef .tc r) :=
  StableHlo.after_unwritten wRow rfl hr V
/-- The stretch for the columns shown keeps every other buffer. -/
theorem keepCol (hr : r ∉ wCol) : StableHlo.after lineCol V (Proc.devRef .tc r) = V (Proc.devRef .tc r) :=
  StableHlo.after_unwritten wCol rfl hr V
/-- The stretch for the test of what is shown keeps every other buffer. -/
theorem keepInside (hr : r ∉ wInside) : StableHlo.after lineInside V (Proc.devRef .tc r) = V (Proc.devRef .tc r) :=
  StableHlo.after_unwritten wInside rfl hr V
/-- The stretch for the positions keeps every other buffer. -/
theorem keepPos (hr : r ∉ wPos) : StableHlo.after linePos V (Proc.devRef .tc r) = V (Proc.devRef .tc r) :=
  StableHlo.after_unwritten wPos rfl hr V
/-- The stretch for the neighbours and weights keeps every other buffer. -/
theorem keepNear (hr : r ∉ wNear) : StableHlo.after lineNear V (Proc.devRef .tc r) = V (Proc.devRef .tc r) :=
  StableHlo.after_unwritten wNear rfl hr V
/-- The stretch for the neighbours' numbers in the image keeps every other buffer. -/
theorem keepCell (hr : r ∉ wCell) : StableHlo.after lineCell V (Proc.devRef .tc r) = V (Proc.devRef .tc r) :=
  StableHlo.after_unwritten wCell rfl hr V
/-- The stretch for the first look-up keeps every other buffer. -/
theorem keepTopLeft (hr : r ∉ wTopLeft) : StableHlo.after lineTopLeft V (Proc.devRef .tc r) = V (Proc.devRef .tc r) :=
  StableHlo.after_unwritten wTopLeft rfl hr V
/-- The stretch for the second look-up keeps every other buffer. -/
theorem keepTopRight (hr : r ∉ wTopRight) : StableHlo.after lineTopRight V (Proc.devRef .tc r) = V (Proc.devRef .tc r) :=
  StableHlo.after_unwritten wTopRight rfl hr V
/-- The stretch for the third look-up keeps every other buffer. -/
theorem keepBotLeft (hr : r ∉ wBotLeft) : StableHlo.after lineBotLeft V (Proc.devRef .tc r) = V (Proc.devRef .tc r) :=
  StableHlo.after_unwritten wBotLeft rfl hr V
/-- The stretch for the fourth look-up keeps every other buffer. -/
theorem keepBotRight (hr : r ∉ wBotRight) : StableHlo.after lineBotRight V (Proc.devRef .tc r) = V (Proc.devRef .tc r) :=
  StableHlo.after_unwritten wBotRight rfl hr V
/-- The stretch for the blend keeps every other buffer. -/
theorem keepMix (hr : r ∉ wMix) : StableHlo.after lineMix V (Proc.devRef .tc r) = V (Proc.devRef .tc r) :=
  StableHlo.after_unwritten wMix rfl hr V

end Cert.Focus.Ref

end
-- ==== Proof.Focus.RefFrame.lean ====
/- The reference's frame, and its run stretch after stretch. -/
module

public import proofs.«01_k».proof.Defs
public import proofs.«01_k».proof.Proof.Focus.RefRun
public import proofs.«01_k».proof.Proof.Focus.RefKeep
public import Idealize.ShloMosaic.Lib.Quiescent

@[expose] public section

set_option maxRecDepth 16384
set_option maxHeartbeats 2000000

noncomputable section

namespace Cert.Focus.Ref

open Idealize.ShloMosaic Idealize.SL.Sem Cert.ReferenceIdeal

variable {F : FTy → Type} [FloatOps F] (V : Valuation τ sig (Elt F))

/-- The line is its stretches, one after the other. -/
theorem stretches : StableHlo.after (line (F := F)) V
    = StableHlo.after lineMix (StableHlo.after lineBotRight (StableHlo.after lineBotLeft (StableHlo.after lineTopRight
      (StableHlo.after lineTopLeft (StableHlo.after lineCell (StableHlo.after lineNear (StableHlo.after linePos
      (StableHlo.after lineInside (StableHlo.after lineCol (StableHlo.after lineRow (StableHlo.after lineGrow
      (StableHlo.after lineSize (StableHlo.after lineEdge (StableHlo.after lineScan V)))))))))))))) := by
  unfold line
  simp only [StableHlo.after_append]

/-- No operation writes the argument. -/
theorem argument_kept : StableHlo.after (line (F := F)) V (Proc.devRef .tc main_arg0) = V (Proc.devRef .tc main_arg0) := by
  rw [stretches, keepMix _ (by decide), keepBotRight _ (by decide), keepBotLeft _ (by decide), keepTopRight _ (by decide),
    keepTopLeft _ (by decide), keepCell _ (by decide), keepNear _ (by decide), keepPos _ (by decide), keepInside _ (by decide),
    keepCol _ (by decide), keepRow _ (by decide), keepGrow _ (by decide), keepSize _ (by decide), keepEdge _ (by decide),
    keepScan _ (by decide)]

/-- The reference ends, with its argument unchanged and every counter at zero. -/
theorem frame_reference : Cert.quiescent_ReferenceIdeal := fun m g _ =>
  θ_run_mono (run (F := Ideal) m g) fun r h =>
    ⟨fun c => (h c main_arg0).trans (argument_kept _), sem_eq_zero_of_no_sems rfl _⟩

end Cert.Focus.Ref

end
-- ==== Proof.Focus.Scalars.lean ====
/- The scalar formulas that the kernel and the reference share: the size of the box, how far it is enlarged, which of its
   rows (or columns) each output row (or column) shows, and the two neighbours and the weight of a position. One
   axis at a time: the same formulas serve rows and columns. -/
module

public import proofs.«01_k».proof.Proof.Focus.Words
public import Idealize.ShloMosaic.Lib.Pointwise

@[expose] public section

set_option maxRecDepth 16384

noncomputable section

namespace Cert.Focus

open Idealize.ShloMosaic

/-- A word as a number. -/
abbrev flt (w : BitVec 32) : EReal := (FloatOps.sitofp (F := Ideal) FTy.f32 w : EReal)

/-- The word that says whether a line of the image has a large entry: its maximum, squashed and rounded. -/
def live (v : Fin 512 → EReal) : BitVec 32 :=
  FloatOps.fptosi (F := Ideal) (φ := .f32) 32 (Ideal.liftRound Ideal.roundHalfEven
    (Ideal.div 1 (1 + Ideal.exp (-Finset.fold max (Ideal.ofBits FTy.f32 4286578688#32) v Finset.univ))))

/-- The size of the box on one axis, from its first and last lines. -/
def sizeOf (lo hi : BitVec 32) : BitVec 32 := IntOp.maxsi (IntOp.subi hi lo) 1#32

/-- How far a box of sizes `h` and `w` is enlarged. -/
def zoom (h w : BitVec 32) : EReal :=
  min (Ideal.div (flt (IntOp.maxsi 506#32 h)) (flt h)) (Ideal.div (flt (IntOp.maxsi 506#32 w)) (flt w))

/-- The enlarged size. -/
def grown (s : EReal) (c : BitVec 32) : BitVec 32 :=
  FloatOps.fptosi (F := Ideal) (φ := .f32) 32 (Ideal.liftRound Ideal.roundHalfEven (s * flt c))

/-- The sign of a word, as a word. -/
def sgn (w : BitVec 32) : BitVec 32 := if w = 0 then 0 else if w.msb = true then -1 else 1

/-- Half a word rounded down, as the reference spells it. -/
def hostHalf (w : BitVec 32) : BitVec 32 :=
  Scalar.select
    (IntOp.andi (IntOp.cmpi .ne (sgn w) (sgn 2#32)) (IntOp.cmpi .ne (IntOp.remsi .host w 2#32) 0#32))
    (IntOp.subi (IntOp.divsi .host w 2#32) 1#32) (IntOp.divsi .host w 2#32)

/-- The line of the enlarged box that output line `i` shows, from any way `half` of halving a word. -/
def shown (half : BitVec 32 → BitVec 32) (r i : BitVec 32) : BitVec 32 :=
  IntOp.addi (IntOp.subi i (IntOp.maxsi 0#32 (half (IntOp.subi 512#32 r)))) (IntOp.maxsi 0#32 (half (IntOp.subi r 512#32)))

/-- Whether line `p` of the enlarged box exists. -/
def inside (r p : BitVec 32) : BitVec 1 := IntOp.andi (IntOp.cmpi .sge p 0#32) (IntOp.cmpi .slt p r)

/-- Where line `p` of the enlarged box lies in the box. -/
def place (c r p : BitVec 32) : EReal := flt p * Ideal.div (flt c) (flt r)

/-- The line of the box at or before position `q`. -/
def near (c : BitVec 32) (q : EReal) : BitVec 32 :=
  IntOp.minsi (IntOp.subi c 1#32) (IntOp.maxsi 0#32 (FloatOps.fptosi (F := Ideal) (φ := .f32) 32 (Ideal.liftRound Int.floor q)))

/-- The line after it. -/
def next (c a : BitVec 32) : BitVec 32 := IntOp.minsi (IntOp.addi a 1#32) (IntOp.subi c 1#32)

/-- The weight of the line after. -/
def weight (q : EReal) (a : BitVec 32) : EReal :=
  min (Ideal.ofBits FTy.f32 1065353216#32) (max (Ideal.ofBits FTy.f32 0#32) (q - flt a))

/-- A line of the box as a line of the image. -/
def cell (lo a : BitVec 32) : BitVec 32 := IntOp.minsi 511#32 (IntOp.maxsi 0#32 (IntOp.addi lo a))

/-- A line number as the reference's look-up takes it. -/
def wrap (a : BitVec 32) : BitVec 32 := Scalar.select (IntOp.cmpi .slt a 0#32) (IntOp.addi a 512#32) a

end Cert.Focus

end
-- ==== Proof.Focus.Numbers.lean ====
/- Words as integers: what the word operations do to words that stand for small integers, and what the conversions
   between words and floats do to them. -/
module

public import proofs.«01_k».proof.Proof.Focus.Scalars

@[expose] public section

set_option maxRecDepth 16384

noncomputable section

namespace Cert.Focus

open Idealize.ShloMosaic

/-- The word of an integer. -/
abbrev word (z : ℤ) : BitVec 32 := BitVec.ofInt 32 z

/-- An integer that a word holds. -/
def Small (z : ℤ) : Prop := -2147483648 ≤ z ∧ z < 2147483648

/-- A small number is read back from its word. -/
theorem word_toInt {z : ℤ} (h : Small z) : (word z).toInt = z := by
  obtain ⟨h₁, h₂⟩ := h
  rw [word, BitVec.toInt_ofInt]
  exact Int.bmod_eq_of_le (by omega) (by omega)

/-- A word is the word of its number. -/
theorem word_of_toInt (w : BitVec 32) : word w.toInt = w := BitVec.ofInt_toInt

/-- A small natural number is read back from its word. -/
theorem word_toNat {z : ℤ} (h₀ : 0 ≤ z) (h : z < 2147483648) : (word z).toNat = z.toNat := by
  rw [word, BitVec.toNat_ofInt]
  congr 1
  exact Int.emod_eq_of_lt h₀ (by omega)

/-- Words add as numbers do. -/
theorem addi_word (a b : ℤ) : IntOp.addi (word a) (word b) = word (a + b) := (BitVec.ofInt_add ..).symm
/-- Words multiply as numbers do. -/
theorem muli_word (a b : ℤ) : IntOp.muli (word a) (word b) = word (a * b) := (BitVec.ofInt_mul ..).symm
/-- Words subtract as numbers do. -/
theorem subi_word (a b : ℤ) : IntOp.subi (word a) (word b) = word (a - b) := by
  apply BitVec.eq_of_toInt_eq
  simp only [IntOp.subi, word, BitVec.toInt_sub, BitVec.toInt_ofInt]
  rw [Int.bmod_sub_bmod, Int.sub_bmod_bmod]

variable {a b : ℤ}

/-- Less-than of two small numbers, by their words. -/
theorem slt_word (ha : Small a) (hb : Small b) : (word a).slt (word b) = decide (a < b) := by
  rw [BitVec.slt, word_toInt ha, word_toInt hb]
/-- At-most of two small numbers, by their words. -/
theorem sle_word (ha : Small a) (hb : Small b) : (word a).sle (word b) = decide (a ≤ b) := by
  rw [BitVec.sle, word_toInt ha, word_toInt hb]

/-- Small numbers with the same word are the same. -/
theorem word_inj (ha : Small a) (hb : Small b) : word a = word b ↔ a = b :=
  ⟨fun h => by rw [← word_toInt ha, h, word_toInt hb], fun h => h ▸ rfl⟩

/-- The larger of two words is the word of the larger number. -/
theorem maxsi_word (ha : Small a) (hb : Small b) : IntOp.maxsi (word a) (word b) = word (max a b) := by
  rw [IntOp.maxsi, slt_word hb ha]
  by_cases h : b < a
  · rw [if_pos (by simpa using h), max_eq_left h.le]
  · rw [if_neg (by simpa using h), max_eq_right (not_lt.mp h)]

/-- The smaller of two words is the word of the smaller number. -/
theorem minsi_word (ha : Small a) (hb : Small b) : IntOp.minsi (word a) (word b) = word (min a b) := by
  rw [IntOp.minsi, slt_word ha hb]
  by_cases h : a < b
  · rw [if_pos (by simpa using h), min_eq_left h.le]
  · rw [if_neg (by simpa using h), min_eq_right (not_lt.mp h)]

/-- The comparison 'greater' of two words. -/
theorem sgt_word (ha : Small a) (hb : Small b) : IntOp.cmpi .sgt (word a) (word b) = BitVec.ofBool (decide (b < a)) := by
  simp only [IntOp.cmpi, slt_word hb ha]
/-- The comparison 'less' of two words. -/
theorem slt_cmp_word (ha : Small a) (hb : Small b) : IntOp.cmpi .slt (word a) (word b) = BitVec.ofBool (decide (a < b)) := by
  simp only [IntOp.cmpi, slt_word ha hb]
/-- The comparison 'at least' of two words. -/
theorem sge_word (ha : Small a) (hb : Small b) : IntOp.cmpi .sge (word a) (word b) = BitVec.ofBool (decide (b ≤ a)) := by
  simp only [IntOp.cmpi, sle_word hb ha]
/-- The comparison 'equal' of two words. -/
theorem eq_word (ha : Small a) (hb : Small b) : IntOp.cmpi .eq (word a) (word b) = BitVec.ofBool (decide (a = b)) := by
  simp only [IntOp.cmpi]
  congr 1
  rw [Bool.eq_iff_iff, beq_iff_eq, decide_eq_true_eq]
  exact word_inj ha hb

/-- Both of two truth values. -/
theorem andi_bool (p q : Bool) : IntOp.andi (BitVec.ofBool p) (BitVec.ofBool q) = BitVec.ofBool (p && q) := by
  cases p <;> cases q <;> rfl

/-- A choice by a truth value. -/
theorem select_bool {α : Type} (p : Bool) (x y : α) : Scalar.select (BitVec.ofBool p) x y = if p = true then x else y := by
  cases p <;> simp [Scalar.select]

/-- A word of a small integer, as a number. -/
theorem flt_word (ha : Small a) : flt (word a) = ((a : ℝ) : EReal) := by
  show (((word a).toInt : ℝ) : EReal) = _
  rw [word_toInt ha]

/-- The number of a small integer, as a word. -/
theorem toWord (ha : Small a) : FloatOps.fptosi (F := Ideal) (φ := .f32) 32 (((a : ℝ)) : EReal) = word a := by
  obtain ⟨h₁, h₂⟩ := ha
  show Ideal.fptosi 32 _ = _
  rw [Ideal.fptosi, Ideal.toIntClamped_coe]
  have : (if (0 : ℝ) ≤ (a : ℝ) then ⌊(a : ℝ)⌋ else ⌈(a : ℝ)⌉) = a := by
    split_ifs <;> simp
  rw [this]
  congr 1
  norm_num
  omega

/-- Division of a small nonnegative word by two, on any unit. -/
theorem divsi_two (u : ArithUnit) : ∀ n : Fin 1024, IntOp.divsi u (word n.val) 2#32 = word (n.val / 2 : ℕ) := by
  intro n
  have h : ¬ IntOp.SDivCorner (word n.val) 2#32 := by
    revert n; decide +kernel
  rw [IntOp.divsi, if_neg h]
  revert n; decide +kernel

end Cert.Focus

end
-- ==== Proof.Focus.Detect.lean ====
/- The first and the last line of an image that have a large entry. With a word of 0 or 1 for each line, the first is found
   from the largest of word times 511 minus line, the last from the largest of word times line; the reference takes the first
   line where each product is largest. -/
module

public import proofs.«01_k».proof.Proof.Focus.Numbers
public import proofs.«01_k».proof.Proof.Focus.RefLine

@[expose] public section

set_option maxRecDepth 16384

noncomputable section

namespace Cert.Focus

open Idealize.ShloMosaic

/-- The largest of 512 words. -/
def largest (x : Fin 512 → BitVec 32) : BitVec 32 := Finset.fold IntOp.maxsi 2147483648#32 x Finset.univ

/-- The first line with a large entry, as the kernel finds it. -/
def firstLine (a : Fin 512 → BitVec 32) : BitVec 32 :=
  let top := largest fun w => IntOp.muli (a w) (IntOp.subi 511#32 (BitVec.ofNat 32 w.val))
  Scalar.select (IntOp.cmpi .sgt top 0#32) (IntOp.subi 511#32 top) 0#32

/-- The last line with a large entry. -/
def lastLine (a : Fin 512 → BitVec 32) : BitVec 32 := largest fun w => IntOp.muli (a w) (BitVec.ofNat 32 w.val)

/-- A natural number as a word is the integer as a word. -/
theorem word_nat (n : ℕ) : BitVec.ofNat 32 n = word n := by
  rw [word, BitVec.ofInt_natCast]

/-- The largest word is at least each word, and one of them unless there is none. -/
theorem largest_word (g : Fin 512 → ℤ) (hg : ∀ k, 0 ≤ g k ∧ g k < 2147483648) (n : Fin 512) (hn : ∀ k, g k ≤ g n) :
    largest (fun k => word (g k)) = word (g n) := by
  have all : ∀ s : Finset (Fin 512), ∃ m : ℤ, Finset.fold IntOp.maxsi 2147483648#32 (fun k => word (g k)) s = word m
      ∧ (∀ k ∈ s, g k ≤ m) ∧ (m = -2147483648 ∨ ∃ k, g k = m) := by
    intro s
    induction s using Finset.induction_on with
    | empty => exact ⟨-2147483648, rfl, by simp, .inl rfl⟩
    | insert a s ha ih =>
      obtain ⟨m, e, h₁, h₂⟩ := ih
      have hm : Small m := by
        rcases h₂ with rfl | ⟨k, rfl⟩
        · exact ⟨by omega, by omega⟩
        · exact ⟨by have := hg k; omega, (hg k).2⟩
      refine ⟨max (g a) m, ?_, fun k hk => ?_, ?_⟩
      · rw [Finset.fold_insert ha, e, maxsi_word ⟨by have := hg a; omega, (hg a).2⟩ hm]
      · rcases Finset.mem_insert.mp hk with rfl | hk
        · exact le_max_left _ _
        · exact (h₁ k hk).trans (le_max_right _ _)
      · rcases le_total (g a) m with h | h
        · rwa [max_eq_right h]
        · exact .inr ⟨a, (max_eq_left h).symm⟩
  obtain ⟨m, e, h₁, h₂⟩ := all Finset.univ
  have : m = g n := by
    rcases h₂ with rfl | ⟨k, rfl⟩
    · have := h₁ n (Finset.mem_univ n); have := hg n; omega
    · exact le_antisymm (hn k) (h₁ n (Finset.mem_univ n))
  rw [← this]
  exact e

/-- `n` is the first line where `g` is largest. -/
def Peak (g : Fin 512 → ℤ) (n : Fin 512) : Prop := ∀ k, g k < g n ∨ (g k = g n ∧ n ≤ k)

/-- A word of 0 or 1. -/
def Flag (a : Fin 512 → BitVec 32) : Prop := ∀ w, a w = word 0 ∨ a w = word 1

/-- The number of a flag. -/
def flagOf (a : Fin 512 → BitVec 32) (w : Fin 512) : ℤ := (a w).toInt

/-- A flag is the word of its number. -/
theorem flag_word {a : Fin 512 → BitVec 32} (w : Fin 512) : a w = word (flagOf a w) := (word_of_toInt _).symm

/-- The number of a flag is 0 or 1. -/
theorem flag_cases {a : Fin 512 → BitVec 32} (ha : Flag a) (w : Fin 512) : flagOf a w = 0 ∨ flagOf a w = 1 := by
  unfold flagOf
  rcases ha w with h | h <;> rw [h]
  · exact .inl rfl
  · exact .inr rfl

/-- The product for the first line. -/
def fromEnd (a : Fin 512 → BitVec 32) (w : Fin 512) : ℤ := flagOf a w * (511 - w.val)
/-- The product for the last line. -/
def fromStart (a : Fin 512 → BitVec 32) (w : Fin 512) : ℤ := flagOf a w * w.val

/-- A flag times a distance from the end is a natural number that fits a word. -/
theorem fromEnd_bounds {a : Fin 512 → BitVec 32} (ha : Flag a) (w : Fin 512) : 0 ≤ fromEnd a w ∧ fromEnd a w < 2147483648 := by
  have := w.isLt
  unfold fromEnd
  rcases flag_cases ha w with h | h <;> rw [h] <;> omega

/-- A flag times a line number is a natural number that fits a word. -/
theorem fromStart_bounds {a : Fin 512 → BitVec 32} (ha : Flag a) (w : Fin 512) : 0 ≤ fromStart a w ∧ fromStart a w < 2147483648 := by
  have := w.isLt
  unfold fromStart
  rcases flag_cases ha w with h | h <;> rw [h] <;> omega

/-- The product of a flag and a distance from the end, as words. -/
theorem fromEnd_word (a : Fin 512 → BitVec 32) (w : Fin 512) :
    IntOp.muli (a w) (IntOp.subi 511#32 (BitVec.ofNat 32 w.val)) = word (fromEnd a w) := by
  rw [word_nat w.val, show (511#32 : BitVec 32) = word 511 from rfl, subi_word, flag_word (a := a) w, muli_word]
  rfl

/-- The product of a flag and a line number, as words. -/
theorem fromStart_word (a : Fin 512 → BitVec 32) (w : Fin 512) :
    IntOp.muli (a w) (BitVec.ofNat 32 w.val) = word (fromStart a w) := by
  rw [word_nat w.val, flag_word (a := a) w, muli_word]
  rfl

/-- The first line with a large entry is the first where the product is largest. -/
theorem firstLine_peak {a : Fin 512 → BitVec 32} (ha : Flag a) {n : Fin 512} (hn : Peak (fromEnd a) n) :
    firstLine a = word n.val := by
  have h0 : (0#32 : BitVec 32) = word 0 := rfl
  have h511 : (511#32 : BitVec 32) = word 511 := rfl
  have e : largest (fun w => IntOp.muli (a w) (IntOp.subi 511#32 (BitVec.ofNat 32 w.val))) = word (fromEnd a n) := by
    rw [funext (fromEnd_word a)]
    exact largest_word _ (fromEnd_bounds ha) n fun k => by rcases hn k with h | h <;> omega
  obtain ⟨b₁, b₂⟩ := fromEnd_bounds ha n
  have hlt := n.isLt
  unfold firstLine
  rw [e]
  show Scalar.select (IntOp.cmpi .sgt (word (fromEnd a n)) 0#32) (IntOp.subi 511#32 (word (fromEnd a n))) 0#32 = _
  rw [h0, sgt_word ⟨by omega, b₂⟩ ⟨by omega, by omega⟩, select_bool, h511, subi_word]
  by_cases hp : 0 < fromEnd a n
  · rw [if_pos (by simpa using hp)]
    congr 1
    unfold fromEnd at hp ⊢
    rcases flag_cases ha n with h | h
    · rw [h] at hp; omega
    · rw [h]; omega
  · rw [if_neg (by simpa using hp)]
    congr 1
    have z : fromEnd a n = 0 := by omega
    have := fromEnd_bounds ha 0
    rcases hn 0 with h | h
    · omega
    · have : n.val ≤ 0 := h.2
      omega

/-- The last line with a large entry is the first where the other product is largest. -/
theorem lastLine_peak {a : Fin 512 → BitVec 32} (ha : Flag a) {n : Fin 512} (hn : Peak (fromStart a) n) :
    lastLine a = word n.val := by
  have e : lastLine a = word (fromStart a n) := by
    unfold lastLine
    rw [funext (fromStart_word a)]
    exact largest_word _ (fromStart_bounds ha) n fun k => by rcases hn k with h | h <;> omega
  rw [e]
  congr 1
  have hlt := n.isLt
  by_cases hp : 0 < fromStart a n
  · unfold fromStart at hp ⊢
    rcases flag_cases ha n with h | h
    · rw [h] at hp; omega
    · rw [h]; omega
  · have b := fromStart_bounds ha n
    have z : fromStart a n = 0 := by omega
    have := fromStart_bounds ha 0
    rcases hn 0 with h | h
    · omega
    · have : n.val ≤ 0 := h.2
      omega

open Cert.ReferenceIdeal in
/-- One step of the reference's search keeps the larger value, and of equal values the earlier line. -/
theorem pick {v w m n : ℤ} (hv : Small v) (hw : Small w) (hm : Small m) (hn : Small n) :
    reducer_argmax_i32_i32 (word v, word m) (word w, word n) =
      if w < v ∨ (v = w ∧ m < n) then (word v, word m) else (word w, word n) := by
  have hne : IntOp.cmpi .ne (word v) (word v) = BitVec.ofBool false := by simp [IntOp.cmpi]
  have hor : ∀ p q : Bool, IntOp.ori (BitVec.ofBool p) (BitVec.ofBool q) = BitVec.ofBool (p || q) := by decide
  unfold reducer_argmax_i32_i32
  simp only [sgt_word hv hw, eq_word hv hw, slt_cmp_word hm hn, hne, andi_bool, hor, select_bool]
  by_cases h : w < v
  · simp [h]
  · by_cases e : v = w
    · subst e
      by_cases q : m < n <;> simp [q]
    · simp [h, e]

open Cert.ReferenceIdeal in
/-- The search over a list of lines finds the first line where the value is largest. -/
theorem search (g : Fin 512 → ℤ) (hg : ∀ k, 0 ≤ g k ∧ g k < 2147483648) (l : List (Fin 512)) : ∀ m : Fin 512,
    ∃ n : Fin 512, (l.map fun k => (word (g k), word k.val)).foldl reducer_argmax_i32_i32 (word (g m), word m.val) = (word (g n), word n.val)
      ∧ ∀ k ∈ m :: l, g k < g n ∨ (g k = g n ∧ n ≤ k) := by
  induction l with
  | nil => exact fun m => ⟨m, rfl, fun k hk => by rw [List.mem_singleton.mp hk]; exact .inr ⟨rfl, le_rfl⟩⟩
  | cons b l ih =>
    intro m
    have sm : ∀ k : Fin 512, Small (g k) := fun k => ⟨by have := hg k; omega, (hg k).2⟩
    have si : ∀ k : Fin 512, Small (k.val : ℤ) := fun k => ⟨by omega, by omega⟩
    rw [List.map_cons, List.foldl_cons, pick (sm m) (sm b) (si m) (si b)]
    by_cases h : g b < g m ∨ (g m = g b ∧ (m.val : ℤ) < b.val)
    · rw [if_pos h]
      obtain ⟨n, e, hn⟩ := ih m
      refine ⟨n, e, fun k hk => ?_⟩
      rcases List.mem_cons.mp hk with rfl | hk
      · exact hn _ (List.mem_cons_self ..)
      · rcases List.mem_cons.mp hk with rfl | hk
        · have := hn m (List.mem_cons_self ..)
          simp only [Fin.le_def] at this ⊢
          omega
        · exact hn k (List.mem_cons_of_mem _ hk)
    · rw [if_neg h]
      obtain ⟨n, e, hn⟩ := ih b
      refine ⟨n, e, fun k hk => ?_⟩
      rcases List.mem_cons.mp hk with rfl | hk
      · have := hn b (List.mem_cons_self ..)
        simp only [Fin.le_def] at this ⊢
        omega
      · exact hn k hk

open Cert.ReferenceIdeal in
/-- The line of a place in the flat order. -/
def lineAt (n : Fin S4x512x32.numel) : Fin 512 := S4x512x32.rowMajor.symm n 1

open Cert.ReferenceIdeal Cert.ReferenceIdeal.Facts₀ in
/-- The reference's search along the middle axis finds the first line where the value is largest. -/
theorem search_axis (x : IVec S4x512x32 32) (g : Fin 512 → ℤ) (hg : ∀ k, 0 ≤ g k ∧ g k < 2147483648) (j : S4x32.Idx)
    (hx : ∀ w : Fin 512, x (ix3 (j 0) w (j 1)) = word (g w)) :
    ∃ n : Fin 512, (Host.reduce2 reducer_argmax_i32_i32 x (iotaInDim S4x512x32 32 1) (constantI S_ 32 2147483648#32)
        (constantI S_ 32 0#32) reducesTo_S4x512x32_S4x32_d1 h_S_ j).2 = word n.val ∧ Peak g n := by
  rw [Host.reduce2_eq_foldl_fiber]
  have back : ∀ i : S4x512x32.Idx, reducesTo_S4x512x32_S4x32_d1.drop i = j → i = ix3 (j 0) (i 1) (j 1) := by
    intro i h
    subst h
    funext k
    fin_cases k <;> rfl
  have forth : ∀ w : Fin 512, reducesTo_S4x512x32_S4x32_d1.drop (ix3 (j 0) w (j 1)) = j := by
    intro w
    funext k
    fin_cases k <;> rfl
  let L := (List.finRange S4x512x32.numel).filter fun n => reducesTo_S4x512x32_S4x32_d1.drop (S4x512x32.rowMajor.symm n) = j
  have fib : Host.argReduceFiber x (iotaInDim S4x512x32 32 1) reducesTo_S4x512x32_S4x32_d1 j
      = (L.map lineAt).map fun k => (word (g k), word k.val) := by
    rw [List.map_map]
    refine List.map_congr_left fun n hn => ?_
    have hd : reducesTo_S4x512x32_S4x32_d1.drop (S4x512x32.rowMajor.symm n) = j := by simpa using (List.mem_filter.mp hn).2
    refine Prod.ext ?_ ?_
    · show x (S4x512x32.rowMajor.symm n) = _
      rw [back _ hd]
      exact hx _
    · exact word_nat _
  have mem : ∀ w : Fin 512, w ∈ L.map lineAt := fun w =>
    List.mem_map.mpr ⟨S4x512x32.rowMajor (ix3 (j 0) w (j 1)), List.mem_filter.mpr ⟨List.mem_finRange _, by
      rw [Equiv.symm_apply_apply]; simpa using forth w⟩, by unfold lineAt; rw [Equiv.symm_apply_apply]; rfl⟩
  rw [fib]
  generalize (L.map lineAt) = l at mem
  cases l with
  | nil => exact absurd (mem 0) (by simp)
  | cons m l =>
    have e : reducer_argmax_i32_i32 (constantI S_ 32 2147483648#32 (Shape.Idx.first h_S_), constantI S_ 32 0#32 (Shape.Idx.first h_S_))
        (word (g m), word m.val) = (word (g m), word m.val) := by
      show reducer_argmax_i32_i32 (word (-2147483648), word 0) _ = _
      have := hg m
      rw [pick ⟨by omega, by omega⟩ ⟨by omega, by omega⟩ ⟨by omega, by omega⟩ ⟨by omega, by omega⟩, if_neg (by omega)]
    obtain ⟨n, en, hn⟩ := search g hg l m
    refine ⟨n, ?_, fun k => hn k (mem k)⟩
    rw [List.map_cons, List.foldl_cons, e, en]

end Cert.Focus

end
-- ==== Proof.Focus.Growth.lean ====
/- Two roundings: the squashed maximum of a line is 0 or 1 after rounding, and the enlarged size is a whole number
   between the size itself and 511. -/
module

public import proofs.«01_k».proof.Proof.Focus.Numbers

@[expose] public section

set_option maxRecDepth 16384

noncomputable section

namespace Cert.Focus

open Idealize.ShloMosaic

/-- A number between two integers is rounded to an integer between them. -/
theorem round_between {x : ℝ} {a b : ℤ} (ha : (a : ℝ) ≤ x) (hb : x ≤ b) :
    a ≤ Ideal.roundHalfEven x ∧ Ideal.roundHalfEven x ≤ b := by
  have h₁ : a ≤ ⌊x⌋ := Int.le_floor.mpr ha
  have h₂ : ⌊x⌋ ≤ b := by
    have := (Int.floor_le x).trans hb
    exact_mod_cast this
  have h₃ : 1 / 2 ≤ x - ⌊x⌋ → ⌊x⌋ + 1 ≤ b := fun h => by
    have : (⌊x⌋ : ℝ) < b := by linarith
    have : ⌊x⌋ < b := by exact_mod_cast this
    omega
  unfold Ideal.roundHalfEven
  dsimp only
  split_ifs with h h' h'' <;> constructor <;> first | omega | exact h₃ (not_lt.mp h)

/-- One over one plus a nonnegative number is between 0 and 1. -/
theorem squash (y : EReal) (hy : 0 ≤ y) : ∃ z : ℝ, Ideal.div 1 (1 + y) = (z : EReal) ∧ 0 ≤ z ∧ z ≤ 1 := by
  induction y using EReal.rec with
  | bot => exact absurd hy (by simp)
  | top =>
    refine ⟨0, ?_, le_rfl, zero_le_one⟩
    have : (1 : EReal) + ⊤ = ⊤ := EReal.coe_add_top 1
    rw [this, Ideal.div, if_neg (by simp)]
    simp
  | coe y =>
    have hy' : (0 : ℝ) ≤ y := by exact_mod_cast hy
    have e : (1 : EReal) + (y : EReal) = ((1 + y : ℝ) : EReal) := by push_cast; rfl
    refine ⟨1 / (1 + y), ?_, by positivity, ?_⟩
    · rw [e, Ideal.div_coe (by positivity), one_mul]
    · rw [div_le_one (by positivity)]; linarith

/-- The exponential is never negative. -/
theorem exp_nonneg (x : EReal) : 0 ≤ Ideal.exp x := by
  induction x using EReal.rec with
  | bot => exact le_rfl
  | top => exact le_top
  | coe r =>
    show (0 : EReal) ≤ ((Real.exp r : ℝ) : EReal)
    exact EReal.coe_nonneg.mpr (Real.exp_pos r).le

/-- A line's word is 0 or 1. -/
theorem live_cases (v : Fin 512 → EReal) : live v = word 0 ∨ live v = word 1 := by
  obtain ⟨z, hz, h₀, h₁⟩ := squash (Ideal.exp (-Finset.fold max (Ideal.ofBits FTy.f32 4286578688#32) v Finset.univ)) (exp_nonneg _)
  obtain ⟨hl, hu⟩ := round_between (x := z) (a := 0) (b := 1) (by exact_mod_cast h₀) (by exact_mod_cast h₁)
  unfold live
  rw [hz, Ideal.liftRound_coe, toWord ⟨by omega, by omega⟩]
  have : Ideal.roundHalfEven z = 0 ∨ Ideal.roundHalfEven z = 1 := by omega
  rcases this with h | h <;> rw [h] <;> simp

/-- The enlargement, of sizes that are small positive integers. -/
theorem zoom_word {h w : ℤ} (hh : 1 ≤ h) (hh' : h ≤ 511) (hw : 1 ≤ w) (hw' : w ≤ 511) :
    zoom (word h) (word w) = ((min ((max 506 h : ℤ) * (1 / (h : ℝ))) ((max 506 w : ℤ) * (1 / (w : ℝ))) : ℝ) : EReal) := by
  have e : (506#32 : BitVec 32) = word 506 := rfl
  have one : ∀ c : ℤ, 1 ≤ c → c ≤ 511 → Ideal.div (flt (IntOp.maxsi 506#32 (word c))) (flt (word c))
      = (((max 506 c : ℤ) * (1 / (c : ℝ)) : ℝ) : EReal) := fun c h₁ h₂ => by
    have hne : (c : ℝ) ≠ 0 := by exact_mod_cast (by omega : c ≠ 0)
    rw [e, maxsi_word ⟨by omega, by omega⟩ ⟨by omega, by omega⟩, flt_word ⟨by omega, by omega⟩,
      flt_word ⟨by omega, by omega⟩, Ideal.div_coe hne]
    exact (EReal.coe_mul _ _).symm
  unfold zoom
  rw [one h hh hh', one w hw hw']
  exact (EReal.coe_strictMono.monotone.map_min).symm

/-- What a size grows to under an enlargement that is at least one and takes it to at most 511. -/
theorem grown_between {s : ℝ} {c : ℤ} (hc : 1 ≤ c) (hc' : c ≤ 511) (h₁ : 1 ≤ s) (h₂ : s * c ≤ 511) :
    ∃ R : ℤ, grown (s : EReal) (word c) = word R ∧ c ≤ R ∧ R ≤ 511 := by
  have hcr : (1 : ℝ) ≤ c := by exact_mod_cast hc
  obtain ⟨hl, hu⟩ := round_between (x := s * c) (a := c) (b := 511) (by nlinarith) (by exact_mod_cast h₂)
  refine ⟨Ideal.roundHalfEven (s * c), ?_, hl, hu⟩
  unfold grown
  rw [flt_word ⟨by omega, by omega⟩, ← EReal.coe_mul, Ideal.liftRound_coe, toWord ⟨by omega, by omega⟩]

/-- The enlargement of one axis on its own: at least one, and to at most 511. -/
theorem zoom_axis {c : ℤ} (h₁ : 1 ≤ c) (h₂ : c ≤ 511) :
    1 ≤ ((max 506 c : ℤ) : ℝ) * (1 / (c : ℝ)) ∧ ((max 506 c : ℤ) : ℝ) * (1 / (c : ℝ)) * c ≤ 511 := by
  have hc : (0 : ℝ) < c := by exact_mod_cast (by omega : 0 < c)
  have hm : (c : ℝ) ≤ ((max 506 c : ℤ) : ℝ) := by exact_mod_cast le_max_right _ _
  have hM : ((max 506 c : ℤ) : ℝ) ≤ 511 := by exact_mod_cast (by omega : max 506 c ≤ 511)
  constructor
  · rw [mul_one_div, le_div_iff₀ hc]; linarith
  · rw [mul_one_div, div_mul_cancel₀ _ hc.ne']; exact hM

/-- Both enlarged sizes. -/
theorem grown_word {h w : ℤ} (hh : 1 ≤ h) (hh' : h ≤ 511) (hw : 1 ≤ w) (hw' : w ≤ 511) :
    (∃ R : ℤ, grown (zoom (word h) (word w)) (word h) = word R ∧ h ≤ R ∧ R ≤ 511)
      ∧ ∃ R : ℤ, grown (zoom (word h) (word w)) (word w) = word R ∧ w ≤ R ∧ R ≤ 511 := by
  obtain ⟨ah, bh⟩ := zoom_axis hh hh'
  obtain ⟨aw, bw⟩ := zoom_axis hw hw'
  have hhr : (0 : ℝ) ≤ h := by exact_mod_cast (by omega : 0 ≤ h)
  have hwr : (0 : ℝ) ≤ w := by exact_mod_cast (by omega : 0 ≤ w)
  rw [zoom_word hh hh' hw hw']
  exact ⟨grown_between hh hh' (le_min ah aw) ((mul_le_mul_of_nonneg_right (min_le_left _ _) hhr).trans bh),
    grown_between hw hw' (le_min ah aw) ((mul_le_mul_of_nonneg_right (min_le_right _ _) hwr).trans bw)⟩

end Cert.Focus

end
-- ==== Proof.Focus.Detected.lean ====
/- The kernel's stages, read at one entry: the box, its enlarged size and which line of it each output line shows. -/
module

public import proofs.«01_k».proof.Proof.Focus.Image
public import proofs.«01_k».proof.Proof.Focus.Detect
public import proofs.«01_k».proof.Proof.Focus.Growth

@[expose] public section

set_option maxRecDepth 16384
set_option maxHeartbeats 2000000

noncomputable section

namespace Cert.Focus

open Idealize.ShloMosaic Idealize.ShloMosaic.Tactic Cert.KernelIdeal Cert.KernelIdeal.Gen

variable (x : Vec Ideal S1x512x512 .f32)

/-- Which columns of an image have a large entry. -/
def colFlag (w : Fin 512) : BitVec 32 := live fun y => x (ix3 (0 : Fin 1) y w)
/-- Which rows do. -/
def rowFlag (y : Fin 512) : BitVec 32 := live fun w => x (ix3 (0 : Fin 1) y w)

/-- Every column's flag is 0 or 1. -/
theorem colFlag_flag : Flag (colFlag x) := fun _ => live_cases _
/-- Every row's flag is 0 or 1. -/
theorem rowFlag_flag : Flag (rowFlag x) := fun _ => live_cases _

/-- The kernel's column flags, one by one. -/
theorem colFlag_at (i : S1x512.Idx) : k0_pay155 x i = colFlag x (i 1) := by
  unfold colFlag live
  pointwise [k0_pay155, k0_pay154]
  rfl

/-- The kernel's row flags, one by one. -/
theorem rowFlag_at (i : S512x1.Idx) : k0_pay156 x i = rowFlag x (i 0) := by
  unfold rowFlag live
  pointwise [k0_pay156, k0_pay154]
  rfl

/-- The first column of the box. -/
theorem xLo_at (i : S1x1.Idx) : xLo x i = firstLine (colFlag x) := by
  unfold firstLine largest
  pointwise [xLo, k0_pay157, colFlag_at]

/-- The last column of the box. -/
theorem xHi_at (i : S1x1.Idx) : xHi x i = lastLine (colFlag x) := by
  unfold lastLine largest
  pointwise [xHi, k0_pay158, colFlag_at]

/-- The first row of the box. -/
theorem yLo_at (i : S1x1.Idx) : yLo x i = firstLine (rowFlag x) := by
  unfold firstLine largest
  pointwise [yLo, k0_pay159, rowFlag_at]

/-- The last row of the box. -/
theorem yHi_at (i : S1x1.Idx) : yHi x i = lastLine (rowFlag x) := by
  unfold lastLine largest
  pointwise [yHi, k0_pay160, rowFlag_at]

/-- The box's number of rows. -/
theorem hCrop_at (i : S1x1.Idx) : hCrop x i = sizeOf (yLo x i) (yHi x i) := by
  unfold sizeOf
  pointwise [hCrop, k0_pay161]

/-- The box's number of columns. -/
theorem wCrop_at (i : S1x1.Idx) : wCrop x i = sizeOf (xLo x i) (xHi x i) := by
  unfold sizeOf
  pointwise [wCrop, k0_pay162]

/-- The box's number of rows, as a float. -/
theorem hFloat_at (i : S1x1.Idx) : hFloat x i = flt (hCrop x i) := by
  pointwise [hFloat, k0_pay163, hCrop]

/-- The box's number of columns, as a float. -/
theorem wFloat_at (i : S1x1.Idx) : wFloat x i = flt (wCrop x i) := by
  pointwise [wFloat, k0_pay164, wCrop]

/-- The enlarged number of rows. -/
theorem rH_at (i : S1x1.Idx) : rH x i = grown (zoom (hCrop x i) (wCrop x i)) (hCrop x i) := by
  unfold grown zoom hCrop wCrop
  pointwise [rH, k0_pay166, k0_pay165, k0_pay163, k0_pay164]

/-- The enlarged number of columns. -/
theorem rW_at (i : S1x1.Idx) : rW x i = grown (zoom (hCrop x i) (wCrop x i)) (wCrop x i) := by
  unfold grown zoom hCrop wCrop
  pointwise [rW, k0_pay167, k0_pay165, k0_pay163, k0_pay164]

/-- Half a word, as the kernel spells it. -/
abbrev halfOf (w : BitVec 32) : BitVec 32 := floorDiv .vector w 2#32

/-- The zeros before an enlarged box. -/
theorem padBefore_at (r : IVec S1x1 32) (i : S1x1.Idx) : padBefore r i = IntOp.maxsi 0#32 (halfOf (IntOp.subi 512#32 (r i))) := by
  unfold halfOf floorDiv
  pointwise [padBefore, k0_pay177, k0_pay174, k0_pay175, k0_pay176]
  rfl

/-- The lines cut off before an enlarged box. -/
theorem cropBefore_at (r : IVec S1x1 32) (i : S1x1.Idx) : cropBefore r i = IntOp.maxsi 0#32 (halfOf (IntOp.subi (r i) 512#32)) := by
  unfold halfOf floorDiv
  pointwise [cropBefore, k0_pay173]
  rfl

/-- The row of the enlarged box that an output row shows. -/
theorem rowSrc_at (i : S512x1.Idx) : rowSrc x i = shown halfOf (rH x (ix2 (0 : Fin 1) (0 : Fin 1))) (BitVec.ofNat 32 (i 0).val) := by
  unfold shown
  rw [← padBefore_at, ← cropBefore_at]
  pointwise [rowSrc, k0_pay179]

/-- The column of the enlarged box that an output column shows. -/
theorem colSrc_at (i : S1x512.Idx) : colSrc x i = shown halfOf (rW x (ix2 (0 : Fin 1) (0 : Fin 1))) (BitVec.ofNat 32 (i 1).val) := by
  unfold shown
  rw [← padBefore_at, ← cropBefore_at]
  pointwise [colSrc, k0_pay181]

/-- Whether an output row shows a row of the enlarged box. -/
theorem rowOk_at (i : S512x1.Idx) : rowOk x i = inside (rH x (ix2 (0 : Fin 1) (0 : Fin 1))) (rowSrc x i) := by
  unfold inside
  pointwise [rowOk, k0_pay180]

/-- Whether an output column shows a column of the enlarged box. -/
theorem colOk_at (i : S1x512.Idx) : colOk x i = inside (rW x (ix2 (0 : Fin 1) (0 : Fin 1))) (colSrc x i) := by
  unfold inside colSrc
  pointwise [colOk, k0_pay182]

/-- The position of an output line, kept inside the box; far outside the image where it shows nothing. -/
def position (lo c r p : BitVec 32) (ok : BitVec 1) : EReal :=
  Scalar.select ok (flt lo + min (place c r p) (flt c - 1)) (Ideal.ofBits FTy.f32 3296722944#32)

/-- An output row's position in the image. -/
theorem sRow_at (i : S512x1.Idx) : sRow x i = position (yLo x (ix2 (0 : Fin 1) (0 : Fin 1))) (hCrop x (ix2 (0 : Fin 1) (0 : Fin 1)))
    (rH x (ix2 (0 : Fin 1) (0 : Fin 1))) (rowSrc x i) (rowOk x i) := by
  unfold position place
  rw [← hFloat_at]
  pointwise [sRow, k0_pay3, k0_pay2]

/-- An output column's position in the image. -/
theorem sCol_at (i : S1x512.Idx) : sCol x i = position (xLo x (ix2 (0 : Fin 1) (0 : Fin 1))) (wCrop x (ix2 (0 : Fin 1) (0 : Fin 1)))
    (rW x (ix2 (0 : Fin 1) (0 : Fin 1))) (colSrc x i) (colOk x i) := by
  unfold position place
  rw [← wFloat_at]
  pointwise [sCol, k0_pay20, k0_pay2]

/-- The image row that the first output row of a tile reads, clipped into 0..256. -/
def topOf (lo c r i : BitVec 32) : BitVec 32 :=
  let p := IntOp.minsi (IntOp.subi r 1#32) (IntOp.maxsi 0#32 (shown halfOf r i))
  IntOp.minsi 256#32 (IntOp.maxsi 0#32 (IntOp.addi lo (IntOp.minsi (IntOp.subi c 1#32) (IntOp.maxsi 0#32
    (FloatOps.fptosi (F := Ideal) (φ := .f32) 32 (Ideal.liftRound Int.floor (min (place c r p) (flt c - 1))))))))

/-- The image row that a tile's first output row reads, kept where a window fits. -/
theorem tops_at (i : S4x1.Idx) : tops x i = topOf (yLo x (ix2 (0 : Fin 1) (0 : Fin 1))) (hCrop x (ix2 (0 : Fin 1) (0 : Fin 1)))
    (rH x (ix2 (0 : Fin 1) (0 : Fin 1))) (IntOp.muli (BitVec.ofNat 32 (i 0).val) 128#32) := by
  unfold topOf shown place
  rw [← hFloat_at, ← padBefore_at, ← cropBefore_at]
  pointwise [tops, k0_pay4, k0_pay2]

end Cert.Focus

end
-- ==== Proof.Focus.Blend.lean ====
/- The blend of two neighbouring lines as a sum over all lines: the weight of a line is one less its distance to the
   position, never below zero, so at most the two lines next to the position count. -/
module

public import Idealize.ShloMosaic.PureOps.Ideal
public import Mathlib.Data.EReal.Operations

@[expose] public section

noncomputable section

namespace Cert.Focus

/-- The weight at distance `s - d`, as the kernel spells it. -/
def tent (s d : EReal) : EReal := max (1 - max (s - d) (-(s - d))) 0

/-- The tent between two real numbers is a real number. -/
theorem tent_coe (s d : ℝ) : tent (s : EReal) (d : EReal) = ((max (1 - |s - d|) 0 : ℝ) : EReal) := by
  have h : max ((s : EReal) - d) (-((s : EReal) - d)) = ((|s - d| : ℝ) : EReal) := by
    rw [← EReal.coe_sub, ← EReal.coe_neg, ← EReal.coe_strictMono.monotone.map_max]; rfl
  unfold tent
  rw [h, ← EReal.coe_one, ← EReal.coe_sub, ← EReal.coe_zero, ← EReal.coe_strictMono.monotone.map_max]

/-- Two lines that are at least one apart: the weight is zero. -/
theorem tent_far {s d : ℝ} (h : 1 ≤ |s - d|) : tent (s : EReal) (d : EReal) = 0 := by
  rw [tent_coe, max_eq_right (by linarith), EReal.coe_zero]

/-- A position below every line: the sum is zero. -/
theorem sum_tent_out {N : ℕ} (f : Fin N → EReal) {s : ℝ} (hs : s ≤ -1) :
    ∑ k : Fin N, tent (s : EReal) ((k.val : ℝ) : EReal) * f k = 0 :=
  Finset.sum_eq_zero fun k _ => by
    have hk : (0 : ℝ) ≤ k.val := Nat.cast_nonneg _
    rw [tent_far (by rw [abs_of_nonpos (by linarith)]; linarith), zero_mul]

/-- A position between line `a` and the next: the sum is the blend of the two. -/
theorem sum_tent {N : ℕ} (f : Fin N → EReal) {s : ℝ} (a b : Fin N) (ha : (a.val : ℝ) ≤ s) (hs : s < a.val + 1)
    (hb : s = a.val ∨ b.val = a.val + 1) :
    ∑ k : Fin N, tent (s : EReal) ((k.val : ℝ) : EReal) * f k
      = ((1 - (s - a.val) : ℝ) : EReal) * f a + ((s - a.val : ℝ) : EReal) * f b := by
  have far : ∀ k : Fin N, k ≠ a → (k.val = a.val + 1 → s = a.val) → 1 ≤ |s - k.val| := fun k hk hk' => by
    rcases lt_or_gt_of_ne (fun e => hk (Fin.ext e) : k.val ≠ a.val) with h | h
    · have : (k.val : ℝ) + 1 ≤ a.val := by exact_mod_cast h
      rw [abs_of_nonneg (by linarith)]; linarith
    · by_cases e : k.val = a.val + 1
      · have h1 := hk' e
        rw [h1, e]; push_cast
        rw [abs_of_nonpos (by linarith)]; linarith
      · have : (a.val : ℝ) + 2 ≤ k.val := by exact_mod_cast (by omega : a.val + 2 ≤ k.val)
        rw [abs_of_nonpos (by linarith)]; linarith
  have wa : tent (s : EReal) ((a.val : ℝ) : EReal) = ((1 - (s - a.val) : ℝ) : EReal) := by
    rw [tent_coe, abs_of_nonneg (by linarith), max_eq_left (by linarith)]
  rcases hb with e | e
  · rw [Finset.sum_eq_single a (fun k _ hk => by rw [tent_far (far k hk fun _ => e), zero_mul])
      (fun h => absurd (Finset.mem_univ a) h), wa]
    have : (s - a.val : ℝ) = 0 := by linarith
    rw [this, EReal.coe_zero, zero_mul, add_zero]
  · have hne : a ≠ b := fun h => by rw [h] at e; omega
    have wb : tent (s : EReal) ((b.val : ℝ) : EReal) = ((s - a.val : ℝ) : EReal) := by
      rw [tent_coe, e]; push_cast
      rw [abs_of_nonpos (by linarith), max_eq_left (by linarith)]
      congr 1; ring
    rw [Finset.sum_eq_add a b hne (fun k _ hk => by
        rw [tent_far (far k hk.1 fun h => absurd (Fin.ext (h.trans e.symm)) hk.2), zero_mul])
      (fun h => absurd (Finset.mem_univ a) h) (fun h => absurd (Finset.mem_univ b) h), wa, wb]

/-- Two blends, one after the other, in either order: the weights are nonnegative numbers, so they distribute even
    where an entry is infinite. -/
theorem blend_blend (u v : ℝ) (hu₀ : 0 ≤ u) (hu₁ : u ≤ 1) (hv₀ : 0 ≤ v) (hv₁ : v ≤ 1) (a b c d : EReal) :
    ((1 - u : ℝ) : EReal) * (((1 - v : ℝ) : EReal) * a + ((v : ℝ) : EReal) * c)
        + ((u : ℝ) : EReal) * (((1 - v : ℝ) : EReal) * b + ((v : ℝ) : EReal) * d)
      = ((1 - v : ℝ) : EReal) * (((1 - u : ℝ) : EReal) * a + ((u : ℝ) : EReal) * b)
        + ((v : ℝ) : EReal) * (((1 - u : ℝ) : EReal) * c + ((u : ℝ) : EReal) * d) := by
  have dist : ∀ (t : ℝ), 0 ≤ t → ∀ y z : EReal, ((t : ℝ) : EReal) * (y + z) = (t : EReal) * y + (t : EReal) * z :=
    fun t ht y z => EReal.left_distrib_of_nonneg_of_ne_top (EReal.coe_nonneg.mpr ht) (EReal.coe_ne_top t) y z
  rw [dist _ (by linarith), dist _ hu₀, dist _ (by linarith), dist _ hv₀]
  simp only [mul_left_comm ((1 - v : ℝ) : EReal), mul_left_comm ((v : ℝ) : EReal)]
  exact add_add_add_comm _ _ _ _

end Cert.Focus

end
-- ==== Proof.Focus.Axis.lean ====
/- One axis of the picture: from the box's first line `lo`, its size `c` and its enlarged size `R`, which line each output
   line shows, where that lies in the box, its two neighbours and their weights. -/
module

public import proofs.«01_k».proof.Proof.Focus.Numbers
public import proofs.«01_k».proof.Proof.Focus.Blend

@[expose] public section

set_option maxRecDepth 16384

noncomputable section

namespace Cert.Focus

open Idealize.ShloMosaic

/-- What is known of the numbers of one axis: the box has at least one line, lies in the image, and its enlarged size is
    between its size and 511. -/
structure Fits (lo c R : ℤ) : Prop where
  lo_nonneg : 0 ≤ lo
  c_pos : 1 ≤ c
  inside : lo + c ≤ 512
  grows : c ≤ R
  small : R ≤ 511

/-- The zeros before the enlarged box. -/
def before (R : ℤ) : ℤ := (512 - R) / 2

/-- Half the room before and half the overhang, when halved as the reference does it. -/
theorem half_host : ∀ n : Fin 512,
    IntOp.maxsi 0#32 (hostHalf (IntOp.subi 512#32 (word n.val))) = word ((512 - (n.val : ℤ)) / 2)
      ∧ IntOp.maxsi 0#32 (hostHalf (IntOp.subi (word n.val) 512#32)) = word 0 := by
  decide +kernel

/-- The same two halves, when halved as the kernel does it. -/
theorem half_vector : ∀ n : Fin 512,
    IntOp.maxsi 0#32 (floorDiv .vector (IntOp.subi 512#32 (word n.val)) 2#32) = word ((512 - (n.val : ℤ)) / 2)
      ∧ IntOp.maxsi 0#32 (floorDiv .vector (IntOp.subi (word n.val) 512#32) 2#32) = word 0 := by
  decide +kernel

/-- Padding and cropping of an enlarged box not larger than the image: half the difference before it, nothing cut. -/
theorem pads {R : ℤ} (h₀ : 0 ≤ R) (h : R ≤ 511) {half : BitVec 32 → BitVec 32}
    (hh : half = hostHalf ∨ half = fun w => floorDiv .vector w 2#32) :
    IntOp.maxsi 0#32 (half (IntOp.subi 512#32 (word R))) = word (before R)
      ∧ IntOp.maxsi 0#32 (half (IntOp.subi (word R) 512#32)) = word 0 := by
  obtain ⟨n, rfl⟩ : ∃ n : ℕ, R = n := ⟨R.toNat, by omega⟩
  rcases hh with rfl | rfl
  exacts [half_host ⟨n, by omega⟩, half_vector ⟨n, by omega⟩]

/-- The line that an output line shows. -/
theorem shown_word {R : ℤ} (h₀ : 0 ≤ R) (h : R ≤ 511) {half : BitVec 32 → BitVec 32}
    (hh : half = hostHalf ∨ half = fun w => floorDiv .vector w 2#32) (i : ℤ) :
    shown half (word R) (word i) = word (i - before R) := by
  obtain ⟨e₁, e₂⟩ := pads h₀ h hh
  unfold shown
  rw [e₁, e₂, subi_word, addi_word, add_zero]

variable {lo c R p : ℤ}

/-- Whether a line is shown, as a comparison of numbers. -/
theorem inside_word (hR : Small R) (hp : Small p) :
    Focus.inside (word R) (word p) = BitVec.ofBool (decide (0 ≤ p) && decide (p < R)) := by
  have z : (0#32 : BitVec 32) = word 0 := rfl
  unfold Focus.inside
  rw [z, sge_word hp ⟨by omega, by omega⟩, slt_cmp_word hp hR, andi_bool]

/-- The position of line `p` of the enlarged box. -/
def pos (c R p : ℤ) : ℝ := p * (c * (1 / (R : ℝ)))

/-- The position of a line, computed from words, is the position of the numbers. -/
theorem place_word (h : Fits lo c R) (hp : Small p) : place (word c) (word R) (word p) = ((pos c R p : ℝ) : EReal) := by
  have hR : (R : ℝ) ≠ 0 := by exact_mod_cast (by have := h.c_pos; have := h.grows; omega : R ≠ 0)
  have := h.c_pos; have := h.grows; have := h.small
  unfold place pos
  rw [flt_word hp, flt_word ⟨by omega, by omega⟩, flt_word ⟨by omega, by omega⟩, Ideal.div_coe hR, ← EReal.coe_mul,
    ← EReal.coe_mul]

/-- The step from one line of the enlarged box to the next is at most a line of the box. -/
theorem step_le (h : Fits lo c R) : 0 ≤ (c * (1 / (R : ℝ)) : ℝ) ∧ (c * (1 / (R : ℝ)) : ℝ) ≤ 1 := by
  have hc : (1 : ℝ) ≤ c := by exact_mod_cast h.c_pos
  have hR : (c : ℝ) ≤ R := by exact_mod_cast h.grows
  have : (0 : ℝ) < R := by linarith
  rw [mul_one_div]
  exact ⟨by positivity, (div_le_one this).mpr hR⟩

/-- A line inside the enlarged box lies inside the box. -/
theorem pos_bounds (h : Fits lo c R) (h₀ : 0 ≤ p) (h₁ : p < R) : 0 ≤ pos c R p ∧ pos c R p < c := by
  have hc : (1 : ℝ) ≤ c := by exact_mod_cast h.c_pos
  have hp : (0 : ℝ) ≤ p := by exact_mod_cast h₀
  have hpR : (p : ℝ) < R := by exact_mod_cast h₁
  have hR : (0 : ℝ) < R := by linarith
  unfold pos
  constructor
  · exact mul_nonneg hp (step_le h).1
  · rw [mul_one_div, mul_div_assoc', div_lt_iff₀ hR]
    nlinarith

/-- The neighbour before a position. -/
theorem near_word (hc : Small c) (hc1 : 1 ≤ c) {q : ℝ} (h₀ : 0 ≤ q) (h₁ : q < c) : near (word c) (q : EReal) = word ⌊q⌋ := by
  have hq : 0 ≤ ⌊q⌋ := Int.floor_nonneg.mpr h₀
  have hq' : ⌊q⌋ < c := Int.floor_lt.mpr h₁
  have z : (0#32 : BitVec 32) = word 0 := rfl
  have o : (1#32 : BitVec 32) = word 1 := rfl
  obtain ⟨a, b⟩ := hc
  unfold near
  rw [Ideal.liftRound_coe, toWord ⟨by omega, by omega⟩, z, o, subi_word, maxsi_word ⟨by omega, by omega⟩ ⟨by omega, by omega⟩,
    max_eq_right hq, minsi_word ⟨by omega, by omega⟩ ⟨by omega, by omega⟩, min_eq_right (by omega)]

/-- The neighbour after a line, kept inside the box. -/
theorem next_word (hc : Small c) (hc1 : 1 ≤ c) {a : ℤ} (h₀ : 0 ≤ a) (h₁ : a < c) : next (word c) (word a) = word (min (a + 1) (c - 1)) := by
  have o : (1#32 : BitVec 32) = word 1 := rfl
  obtain ⟨x, y⟩ := hc
  unfold next
  rw [o, addi_word, subi_word, minsi_word ⟨by omega, by omega⟩ ⟨by omega, by omega⟩]

/-- The float word of one is the number one. -/
theorem one_bits : Ideal.ofBits FTy.f32 1065353216#32 = 1 := by
  simp [Ideal.ofBits, Ideal.ieee]
  norm_num
  rw [← EReal.coe_mul]
  norm_num

/-- The position given to a line that shows nothing. -/
theorem far_bits : Ideal.ofBits FTy.f32 3296722944#32 = ((-1024 : ℝ) : EReal) := by
  simp [Ideal.ofBits, Ideal.ieee]
  norm_num
  rw [← EReal.coe_mul]
  norm_num

/-- The weight of the neighbour after: how far the position lies past the neighbour before. -/
theorem weight_word {q : ℝ} {a : ℤ} (ha : Small a) (h₀ : (a : ℝ) ≤ q) (h₁ : q ≤ a + 1) :
    weight (q : EReal) (word a) = ((q - a : ℝ) : EReal) := by
  unfold weight
  rw [one_bits, Ideal.ofBits_zero_f32, flt_word ha, ← EReal.coe_sub, max_eq_right (EReal.coe_nonneg.mpr (by linarith)),
    min_eq_right]
  exact_mod_cast (by linarith : q - a ≤ 1)

/-- A line of the box by its number in the image, which needs no clamping. -/
theorem cell_word {a : ℤ} (h₀ : 0 ≤ lo + a) (h₁ : lo + a ≤ 511) : cell (word lo) (word a) = word (lo + a) := by
  have z : (0#32 : BitVec 32) = word 0 := rfl
  have o : (511#32 : BitVec 32) = word 511 := rfl
  unfold cell
  rw [addi_word, z, o, maxsi_word ⟨by omega, by omega⟩ ⟨by omega, by omega⟩, max_eq_right h₀,
    minsi_word ⟨by omega, by omega⟩ ⟨by omega, by omega⟩, min_eq_right h₁]

/-- A line number of the image is not negative, so it is not wrapped. -/
theorem wrap_word {a : ℤ} (h₀ : 0 ≤ a) (h₁ : a ≤ 511) : wrap (word a) = word a := by
  have z : (0#32 : BitVec 32) = word 0 := rfl
  unfold wrap
  rw [z, slt_cmp_word ⟨by omega, by omega⟩ ⟨by omega, by omega⟩, select_bool, if_neg (by simpa using h₀)]

end Cert.Focus

end
-- ==== Proof.Focus.Picture.lean ====
/- The picture that both programs paint: each output entry is the blend of four entries of the image, or zero. The sums over
   all lines that the kernel forms are blends of two lines. -/
module

public import proofs.«01_k».proof.Proof.Focus.Axis
public import proofs.«01_k».proof.Proof.Focus.Growth
public import proofs.«01_k».proof.Proof.Focus.Detect

@[expose] public section

set_option maxRecDepth 16384

noncomputable section

namespace Cert.Focus

open Idealize.ShloMosaic

/-- A line of the image by its number. -/
def lineNo (z : ℤ) : Fin 512 := ⟨z.toNat % 512, Nat.mod_lt _ (by decide)⟩

/-- The number of the line of that number. -/
theorem lineNo_val {z : ℤ} (h₀ : 0 ≤ z) (h₁ : z ≤ 511) : ((lineNo z).val : ℤ) = z := by
  show ((z.toNat % 512 : ℕ) : ℤ) = z
  rw [Nat.mod_eq_of_lt (by omega)]
  omega

/-- Its number as a word. -/
theorem lineNo_word {z : ℤ} (h₀ : 0 ≤ z) (h₁ : z ≤ 511) : word z = word (lineNo z).val := by rw [lineNo_val h₀ h₁]

/-- The neighbour before a position. -/
def lower (c R p : ℤ) : ℤ := ⌊pos c R p⌋
/-- The neighbour after it, inside the box. -/
def upper (c R p : ℤ) : ℤ := min (lower c R p + 1) (c - 1)
/-- The weight of the neighbour after. -/
def share (c R p : ℤ) : ℝ := pos c R p - lower c R p

/-- Output entry `(i, j)` for an image `X` whose box starts at row `lo` and column `lo'`, has `c` rows and `c'` columns and
    is enlarged to `R` rows and `R'` columns. -/
def picture (X : Fin 512 → Fin 512 → EReal) (lo c R lo' c' R' : ℤ) (i j : Fin 512) : EReal :=
  let p := (i.val : ℤ) - before R
  let p' := (j.val : ℤ) - before R'
  if (0 ≤ p ∧ p < R) ∧ (0 ≤ p' ∧ p' < R') then
    (X (lineNo (lo + lower c R p)) (lineNo (lo' + lower c' R' p')) * ((1 - share c' R' p' : ℝ) : EReal)
        + X (lineNo (lo + lower c R p)) (lineNo (lo' + upper c' R' p')) * ((share c' R' p' : ℝ) : EReal)) * ((1 - share c R p : ℝ) : EReal)
      + (X (lineNo (lo + upper c R p)) (lineNo (lo' + lower c' R' p')) * ((1 - share c' R' p' : ℝ) : EReal)
        + X (lineNo (lo + upper c R p)) (lineNo (lo' + upper c' R' p')) * ((share c' R' p' : ℝ) : EReal)) * ((share c R p : ℝ) : EReal)
  else 0

variable {lo c R p : ℤ}

/-- The weight lies between 0 and 1. -/
theorem share_bounds : 0 ≤ share c R p ∧ share c R p ≤ 1 := by
  unfold share lower
  have h₁ := Int.floor_le (pos c R p)
  have h₂ := Int.lt_floor_add_one (pos c R p)
  exact ⟨by linarith, by linarith⟩

/-- Both neighbours lie in the box. -/
theorem neighbours (h : Fits lo c R) (h₀ : 0 ≤ p) (h₁ : p < R) :
    0 ≤ lower c R p ∧ lower c R p < c ∧ lower c R p ≤ upper c R p ∧ upper c R p < c := by
  obtain ⟨b₀, b₁⟩ := pos_bounds h h₀ h₁
  have := h.c_pos
  have l₀ : 0 ≤ lower c R p := Int.floor_nonneg.mpr b₀
  have l₁ : lower c R p < c := Int.floor_lt.mpr b₁
  unfold upper
  exact ⟨l₀, l₁, by omega, by omega⟩

/-- The two parts of a whole, of one entry, make the entry. -/
theorem parts_whole {t : ℝ} (h₀ : 0 ≤ t) (h₁ : t ≤ 1) (x : EReal) : ((1 - t : ℝ) : EReal) * x + ((t : ℝ) : EReal) * x = x := by
  rw [← EReal.right_distrib_of_nonneg (EReal.coe_nonneg.mpr (by linarith)) (EReal.coe_nonneg.mpr h₀), ← EReal.coe_add]
  simp

/-- The kernel's sum over all lines, at a position kept inside the box, is the blend of the two neighbours. -/
theorem axis_sum {N : ℕ} (f : Fin N → EReal) (h : Fits lo c R) (h₀ : 0 ≤ p) (h₁ : p < R) (o : ℤ) (A B : Fin N)
    (hA : (A.val : ℤ) = o + lower c R p) (hB : (B.val : ℤ) = o + upper c R p) :
    ∑ k : Fin N, tent (((o : ℝ) + min (pos c R p) (c - 1) : ℝ) : EReal) ((k.val : ℝ) : EReal) * f k
      = ((1 - share c R p : ℝ) : EReal) * f A + ((share c R p : ℝ) : EReal) * f B := by
  obtain ⟨l₀, l₁, l₂, l₃⟩ := neighbours h h₀ h₁
  have fl := Int.floor_le (pos c R p)
  have fu := Int.lt_floor_add_one (pos c R p)
  have hAr : (A.val : ℝ) = o + lower c R p := by exact_mod_cast hA
  change ((lower c R p : ℤ) : ℝ) ≤ _ at fl
  change _ < ((lower c R p : ℤ) : ℝ) + 1 at fu
  rcases le_or_gt (pos c R p) (c - 1) with hq | hq
  · rw [min_eq_left hq, sum_tent f A B (by linarith) (by linarith) ?_]
    · have e : ((o : ℝ) + pos c R p - A.val) = share c R p := by unfold share; linarith
      rw [e]
    · by_cases hl : lower c R p + 1 ≤ c - 1
      · right
        have : upper c R p = lower c R p + 1 := min_eq_left hl
        omega
      · left
        have e : lower c R p = c - 1 := by omega
        have : ((lower c R p : ℤ) : ℝ) = c - 1 := by rw [e]; push_cast; ring
        linarith
  · have e : lower c R p = c - 1 := by
      have : c - 1 ≤ lower c R p := Int.le_floor.mpr (by push_cast; exact hq.le)
      omega
    have er : ((lower c R p : ℤ) : ℝ) = c - 1 := by rw [e]; push_cast; ring
    have eB : B = A := Fin.ext (by omega)
    rw [min_eq_right hq.le, sum_tent f A A (by linarith) (by linarith) (.inl (by linarith)), eB,
      parts_whole share_bounds.1 share_bounds.2, parts_whole (by linarith) (by linarith)]

/-- The box of an image, from the flags of its rows and its columns. -/
structure Box (a a' : Fin 512 → BitVec 32) (lo c R lo' c' R' : ℤ) : Prop where
  fits : Fits lo c R
  fits' : Fits lo' c' R'
  first : firstLine a = word lo
  size : sizeOf (firstLine a) (lastLine a) = word c
  grow : grown (zoom (word c) (word c')) (word c) = word R
  first' : firstLine a' = word lo'
  size' : sizeOf (firstLine a') (lastLine a') = word c'
  grow' : grown (zoom (word c) (word c')) (word c') = word R'

/-- Some line is where a list of natural numbers first reaches its greatest value. -/
theorem peak_exists (g : Fin 512 → ℤ) (hg : ∀ k, 0 ≤ g k ∧ g k < 2147483648) : ∃ n, Peak g n := by
  obtain ⟨n, -, hn⟩ := search g hg (List.finRange 512) 0
  exact ⟨n, fun k => hn k (List.mem_cons_of_mem _ (List.mem_finRange k))⟩

/-- First line and size on one axis. -/
theorem axis_box {a : Fin 512 → BitVec 32} (ha : Flag a) : ∃ lo c : ℤ, firstLine a = word lo
    ∧ sizeOf (firstLine a) (lastLine a) = word c ∧ 0 ≤ lo ∧ 1 ≤ c ∧ c ≤ 511 ∧ lo + c ≤ 512 := by
  obtain ⟨m, hm⟩ := peak_exists (fromEnd a) (fromEnd_bounds ha)
  obtain ⟨n, hn⟩ := peak_exists (fromStart a) (fromStart_bounds ha)
  have hm' := m.isLt
  have hn' := n.isLt
  refine ⟨m.val, max (n.val - m.val) 1, firstLine_peak ha hm, ?_, by omega, by omega, by omega, by omega⟩
  unfold sizeOf
  rw [firstLine_peak ha hm, lastLine_peak ha hn, subi_word, show (1#32 : BitVec 32) = word 1 from rfl,
    maxsi_word ⟨by omega, by omega⟩ ⟨by omega, by omega⟩]

/-- Every image has a box. -/
theorem box_exists {a a' : Fin 512 → BitVec 32} (ha : Flag a) (ha' : Flag a') : ∃ lo c R lo' c' R' : ℤ, Box a a' lo c R lo' c' R' := by
  obtain ⟨lo, c, e₁, e₂, b₁, b₂, b₃, b₄⟩ := axis_box ha
  obtain ⟨lo', c', e₁', e₂', b₁', b₂', b₃', b₄'⟩ := axis_box ha'
  obtain ⟨⟨R, g, r₁, r₂⟩, R', g', r₁', r₂'⟩ := grown_word b₂ b₃ b₂' b₃'
  exact ⟨lo, c, R, lo', c', R', ⟨b₁, b₂, b₄, r₁, r₂⟩, ⟨b₁', b₂', b₄', r₁', r₂'⟩, e₁, e₂, g, e₁', e₂', g'⟩

end Cert.Focus

end
-- ==== Proof.Focus.Stages.lean ====
/- The kernel's later stages, read at one entry: the test for no magnification, the masked copy and the two blends. -/
module

public import proofs.«01_k».proof.Proof.Focus.Detected
public import proofs.«01_k».proof.Proof.Focus.Picture

@[expose] public section

set_option maxRecDepth 16384
set_option maxHeartbeats 2000000

noncomputable section

namespace Cert.Focus

open Idealize.ShloMosaic Idealize.ShloMosaic.Tactic Cert.KernelIdeal Cert.KernelIdeal.Gen

variable (x : Vec Ideal S1x512x512 .f32)

/-- The two first lines move to the same place that the box is shown at, and its size is kept: one if so, else zero. -/
theorem same_at : same x = (IntOp.andi (IntOp.andi (IntOp.andi
      (IntOp.cmpi .eq (rH x (ix2 (0 : Fin 1) (0 : Fin 1))) (hCrop x (ix2 (0 : Fin 1) (0 : Fin 1))))
      (IntOp.cmpi .eq (rW x (ix2 (0 : Fin 1) (0 : Fin 1))) (wCrop x (ix2 (0 : Fin 1) (0 : Fin 1)))))
      (IntOp.cmpi .eq (IntOp.addi (IntOp.subi (yLo x (ix2 (0 : Fin 1) (0 : Fin 1))) (padBefore (rH x) (ix2 (0 : Fin 1) (0 : Fin 1))))
        (cropBefore (rH x) (ix2 (0 : Fin 1) (0 : Fin 1)))) 0#32))
      (IntOp.cmpi .eq (IntOp.addi (IntOp.subi (xLo x (ix2 (0 : Fin 1) (0 : Fin 1))) (padBefore (rW x) (ix2 (0 : Fin 1) (0 : Fin 1))))
        (cropBefore (rW x) (ix2 (0 : Fin 1) (0 : Fin 1)))) 0#32)).setWidth 32 := by
  pointwise [same, k0_pay183]

/-- A flag as a number. -/
abbrev mask (f : BitVec 1) : EReal := flt (f.setWidth 32)

/-- The masked copy, entry by entry. -/
theorem direct_at (i : S1x512x512.Idx) : direct x i
    = (x i * mask (rowOk x (ix2 (i 1) (0 : Fin 1)))) * mask (colOk x (ix2 (0 : Fin 1) (i 2))) := by
  unfold rowOk colOk
  pointwise [direct, k0_pay184, k0_pay154]

/-- The product with the column weights, entry by entry: a sum against a tent. -/
theorem cols_at (y : Vec Ideal S512x512 .f32) (i : S1x512x512.Idx) : cols x y i
    = ∑ k : Fin 512, y (ix2 (i 1) k) * tent (sCol x (ix2 (0 : Fin 1) (i 2))) (flt (BitVec.ofNat 32 k.val)) := by
  unfold tent
  pointwise [cols, k0_pay185]
  rfl

/-- The first row of a tile's window, as a float. -/
theorem basesF_at (i : S4x1.Idx) : basesF x i = flt (round8 (tops x i)) := by
  rw [← base_read]
  pointwise [basesF, k0_pay7]

/-- An entry of a tile: the sum over the rows of its window against a tent. -/
theorem tile_at (o t : ℕ) (ho : S512x1.Slices ![o, 0] S128x1) (ht : S4x1.Slices ![t, 0] S1x1) (s : FVec Ideal S512x1 .f32)
    (b : FVec Ideal S4x1 .f32) (w : Vec Ideal S1x256x512 .f32) (i : S128x512.Idx) (P : Fin 512) (T : Fin 4)
    (hP : P.val = o + (i 0).val) (hT : T.val = t) :
    tile o t ho ht s b w i = ∑ d : Fin 256, tent (s (ix2 P (0 : Fin 1)) - b (ix2 T (0 : Fin 1))) (flt (BitVec.ofNat 32 d.val))
      * w (ix3 (0 : Fin 1) d (i 1)) := by
  subst hT
  obtain ⟨v, hv⟩ := P
  obtain rfl : v = o + (i 0).val := hP
  unfold tent
  pointwise [tile, tileWeights, k0_pay8]
  rfl

/-- The first row of a tile's window, as a natural number. -/
theorem baseRow_at (t : ℕ) (ht : S4x1.Slices ![t, 0] S1x1) (T : Fin 4) (hT : T.val = t) :
    baseRow x t ht = (round8 (tops x (ix2 T (0 : Fin 1)))).toNat := by
  subst hT
  rw [← base_read]
  pointwise [baseRow, bases]

/-- Image row of row `d` of a window that starts at row `r`. -/
def windowRow (r d : ℕ) : Fin 512 := ⟨(r + d) % 512, Nat.mod_lt _ (by decide)⟩

/-- The blend over rows of output row `i`: window row `d` of its tile is image row `base + d`. -/
def rowSum (T : Fin 4) (i w : Fin 512) : EReal :=
  ∑ d : Fin 256, tent (sRow x (ix2 i (0 : Fin 1)) - basesF x (ix2 T (0 : Fin 1))) (flt (BitVec.ofNat 32 d.val))
    * x (ix3 (0 : Fin 1) (windowRow (round8 (tops x (ix2 T (0 : Fin 1)))).toNat d.val) w)

/-- An entry of a tile, in terms of the whole image. -/
theorem tile_window (o t : ℕ) (ho : S512x1.Slices ![o, 0] S128x1) (ht : S4x1.Slices ![t, 0] S1x1) (T : Fin 4) (i w : Fin 512)
    (hT : T.val = t) (hi : i.val = o + i.val % 128) :
    tile o t ho ht (sRow x) (basesF x) (window x (baseRow x t ht)) (ix2 (⟨i.val % 128, Nat.mod_lt _ (by decide)⟩ : Fin 128) w)
      = rowSum x T i w := by
  rw [tile_at o t ho ht _ _ _ _ i T hi hT, baseRow_at x t ht T hT]
  rfl

/-- The tile of an output row. -/
def tileOf (i : Fin 512) : Fin 4 := ⟨i.val / 128, by omega⟩

/-- An entry of the scratch buffer once its four tiles are written. -/
theorem rows_at (i w : Fin 512) : rows x (ix2 i w) = rowSum x (tileOf i) i w := by
  have hi := i.isLt
  have split : ∀ t : Fin 4, i.val / 128 = t.val → tileOf i = t := fun t h => Fin.ext h
  have e : ∀ a b c d : FVec Ideal S128x512 .f32, stack a b c d (ix2 i w)
      = (if i.val < 128 then a else if i.val < 256 then b else if i.val < 384 then c else d)
        (ix2 (⟨i.val % 128, Nat.mod_lt _ (by decide)⟩ : Fin 128) w) := fun _ _ _ _ => rfl
  unfold rows rowsFrom4
  rw [e]
  by_cases h₁ : i.val < 128
  · rw [if_pos h₁, split 0 (by show _ = 0; omega)]
    exact tile_window x _ _ _ _ 0 i w rfl (by omega)
  rw [if_neg h₁]
  by_cases h₂ : i.val < 256
  · rw [if_pos h₂, split 1 (by show _ = 1; omega)]
    exact tile_window x _ _ _ _ 1 i w rfl (by omega)
  rw [if_neg h₂]
  by_cases h₃ : i.val < 384
  · rw [if_pos h₃, split 2 (by show _ = 2; omega)]
    exact tile_window x _ _ _ _ 2 i w rfl (by omega)
  rw [if_neg h₃, split 3 (by show _ = 3; omega)]
  exact tile_window x _ _ _ _ 3 i w rfl (by omega)

end Cert.Focus

end
-- ==== Proof.Focus.Painted.lean ====
/- The kernel paints the picture: from the box of an image, its result for the image is the picture. -/
module

public import proofs.«01_k».proof.Proof.Focus.Stages

@[expose] public section

set_option maxRecDepth 16384
set_option maxHeartbeats 2000000

noncomputable section

namespace Cert.Focus

open Idealize.ShloMosaic Cert.KernelIdeal Cert.KernelIdeal.Gen

/-! ## Words of an axis -/

variable {lo c R p : ℤ}

/-- Halving as the kernel does it is one of the two halvings. -/
theorem half_kernel : halfOf = hostHalf ∨ halfOf = fun w => floorDiv .vector w 2#32 := .inr rfl

/-- The numbers of one axis are small. -/
theorem Fits.small_all (h : Fits lo c R) : Small lo ∧ Small c ∧ Small R := by
  have := h.lo_nonneg; have := h.c_pos; have := h.inside; have := h.grows; have := h.small
  exact ⟨⟨by omega, by omega⟩, ⟨by omega, by omega⟩, ⟨by omega, by omega⟩⟩

/-- The size less one, as numbers. -/
theorem pred_coe (c : ℤ) : ((c : ℝ) : EReal) - 1 = ((c - 1 : ℝ) : EReal) := by rw [EReal.coe_sub, EReal.coe_one]

/-- The smaller of two real numbers, among the extended reals. -/
theorem min_coe (a b : ℝ) : min (a : EReal) (b : EReal) = ((min a b : ℝ) : EReal) := (EReal.coe_strictMono.monotone.map_min).symm

/-- The position of a line of the enlarged box, or the far position. -/
theorem position_word (h : Fits lo c R) (hp : Small p) (b : Bool) : position (word lo) (word c) (word R) (word p) (BitVec.ofBool b)
    = if b = true then (((lo : ℝ) + min (pos c R p) (c - 1) : ℝ) : EReal) else ((-1024 : ℝ) : EReal) := by
  obtain ⟨s₁, s₂, -⟩ := h.small_all
  unfold position
  rw [select_bool, place_word h hp, flt_word s₁, flt_word s₂, far_bits, pred_coe, min_coe, ← EReal.coe_add]

/-- The line of the enlarged box that the first output line of a tile shows, kept inside it. -/
def firstShown (R i : ℤ) : ℤ := min (R - 1) (max 0 (i - before R))
/-- The image line that it reads, at most 256. -/
def top (lo c R i : ℤ) : ℤ := min 256 (lo + lower c R (firstShown R i))
/-- The first line of the tile's window. -/
def base (lo c R i : ℤ) : ℤ := top lo c R i / 8 * 8

/-- That line lies inside the enlarged box. -/
theorem firstShown_bounds (h : Fits lo c R) (i : ℤ) : 0 ≤ firstShown R i ∧ firstShown R i < R := by
  have := h.c_pos; have := h.grows
  unfold firstShown
  omega

/-- A window of 256 rows from that row on fits in the image. -/
theorem top_bounds (h : Fits lo c R) (i : ℤ) : 0 ≤ top lo c R i ∧ top lo c R i ≤ 256 := by
  obtain ⟨a, b⟩ := firstShown_bounds h i
  have := (neighbours h a b).1
  have := h.lo_nonneg
  unfold top
  omega

/-- The same row, computed from words. -/
theorem topOf_word (h : Fits lo c R) {i : ℤ} (h₀ : 0 ≤ i) (h₁ : i ≤ 511) : topOf (word lo) (word c) (word R) (word i) = word (top lo c R i) := by
  obtain ⟨a, b⟩ := firstShown_bounds h i
  obtain ⟨l₀, l₁, -, -⟩ := neighbours h a b
  obtain ⟨s₁, s₂, -⟩ := h.small_all
  have e₀ := h.lo_nonneg; have e₁ := h.c_pos; have e₂ := h.inside; have e₃ := h.grows; have e₄ := h.small
  have z : (0#32 : BitVec 32) = word 0 := rfl
  have o : (1#32 : BitVec 32) = word 1 := rfl
  have w : (256#32 : BitVec 32) = word 256 := rfl
  have hb : 0 ≤ before R ∧ before R ≤ 256 := by unfold before; omega
  have p₀ : IntOp.minsi (IntOp.subi (word R) 1#32) (IntOp.maxsi 0#32 (shown halfOf (word R) (word i))) = word (firstShown R i) := by
    rw [shown_word (by omega) e₄ half_kernel, o, z, subi_word, maxsi_word ⟨by omega, by omega⟩ ⟨by omega, by omega⟩,
      minsi_word ⟨by omega, by omega⟩ ⟨by omega, by omega⟩]
    rfl
  have fl : ⌊min (pos c R (firstShown R i)) ((c : ℝ) - 1)⌋ = lower c R (firstShown R i) := by
    have m : ⌊min (pos c R (firstShown R i)) ((c : ℝ) - 1)⌋ = min ⌊pos c R (firstShown R i)⌋ ⌊(c : ℝ) - 1⌋ :=
      Int.floor_mono.map_min
    have k : ⌊(c : ℝ) - 1⌋ = c - 1 := by
      have : ((c : ℝ) - 1) = ((c - 1 : ℤ) : ℝ) := by push_cast; ring
      rw [this, Int.floor_intCast]
    rw [m, k]
    show min (lower c R (firstShown R i)) (c - 1) = _
    omega
  have sm : Small (lower c R (firstShown R i)) := ⟨by omega, by omega⟩
  unfold topOf
  dsimp only
  rw [p₀, place_word h ⟨by omega, by omega⟩, flt_word s₂, pred_coe, min_coe, Ideal.liftRound_coe, fl, toWord sm, z, o, w, subi_word,
    maxsi_word ⟨by omega, by omega⟩ sm, max_eq_right l₀, minsi_word ⟨by omega, by omega⟩ sm, min_eq_right (by omega), addi_word,
    maxsi_word ⟨by omega, by omega⟩ ⟨by omega, by omega⟩, max_eq_right (by omega),
    minsi_word ⟨by omega, by omega⟩ ⟨by omega, by omega⟩]
  rfl

/-- Rounding down to a multiple of eight. -/
theorem round8_word {z : ℤ} (h₀ : 0 ≤ z) (h₁ : z ≤ 256) : round8 (word z) = word (z / 8 * 8) := by
  obtain ⟨n, rfl⟩ : ∃ n : ℕ, z = n := ⟨z.toNat, by omega⟩
  have e := round8_nat ⟨n, by omega⟩
  rw [word_nat, word_nat] at e
  exact e.trans (by push_cast; rfl)

/-- The positions go up. -/
theorem pos_le (h : Fits lo c R) {p q : ℤ} (hpq : p ≤ q) : pos c R p ≤ pos c R q ∧ pos c R q ≤ pos c R p + (q - p) := by
  obtain ⟨s₀, s₁⟩ := step_le h
  have d : (0 : ℝ) ≤ (q : ℝ) - p := by have : (p : ℝ) ≤ q := by exact_mod_cast hpq
                                       linarith
  unfold pos
  constructor
  · nlinarith
  · nlinarith

/-- The two neighbours of every output line of a tile lie in the tile's window. -/
theorem window_bounds (h : Fits lo c R) {i t : ℤ} (ht : t ≤ i) (ht' : i ≤ t + 127) (h₀ : 0 ≤ i - before R) (h₁ : i - before R < R) :
    0 ≤ lo + lower c R (i - before R) - base lo c R t ∧ lo + upper c R (i - before R) - base lo c R t ≤ 255 := by
  obtain ⟨a, b⟩ := firstShown_bounds h t
  obtain ⟨l₀, l₁, l₂, l₃⟩ := neighbours h h₀ h₁
  have e₀ := h.lo_nonneg; have e₂ := h.inside
  have hle : firstShown R t ≤ i - before R := by unfold firstShown; omega
  have hge : i - before R ≤ firstShown R t + 127 := by unfold firstShown; omega
  obtain ⟨g₀, g₁⟩ := pos_le h hle
  have m₀ : lower c R (firstShown R t) ≤ lower c R (i - before R) := Int.floor_le_floor g₀
  have m₁ : lower c R (i - before R) < lower c R (firstShown R t) + 128 := by
    unfold lower
    rw [Int.floor_lt]
    have f := Int.lt_floor_add_one (pos c R (firstShown R t))
    have k : (((i - before R : ℤ) : ℝ)) ≤ (firstShown R t : ℝ) + 127 := by exact_mod_cast hge
    push_cast at k g₁ ⊢
    linarith
  have u : upper c R (i - before R) ≤ lower c R (i - before R) + 1 := min_le_left _ _
  unfold base top
  omega

/-! ## One image -/

variable {x : Vec Ideal S1x512x512 .f32} {lo' c' R' : ℤ}

section
variable (hb : Box (rowFlag x) (colFlag x) lo c R lo' c' R')
include hb

/-- The first row of the box, as a number. -/
theorem yLo_word (i : S1x1.Idx) : yLo x i = word lo := by rw [yLo_at, hb.first]
/-- The first column of the box, as a number. -/
theorem xLo_word (i : S1x1.Idx) : xLo x i = word lo' := by rw [xLo_at, hb.first']
/-- The box's number of rows, as a number. -/
theorem hCrop_word (i : S1x1.Idx) : hCrop x i = word c := by rw [hCrop_at, yLo_at, yHi_at, hb.size]
/-- The box's number of columns, as a number. -/
theorem wCrop_word (i : S1x1.Idx) : wCrop x i = word c' := by rw [wCrop_at, xLo_at, xHi_at, hb.size']
/-- The enlarged number of rows, as a number. -/
theorem rH_word (i : S1x1.Idx) : rH x i = word R := by rw [rH_at, hCrop_word hb, wCrop_word hb, hb.grow]
/-- The enlarged number of columns, as a number. -/
theorem rW_word (i : S1x1.Idx) : rW x i = word R' := by rw [rW_at, hCrop_word hb, wCrop_word hb, hb.grow']

/-- The row of the enlarged box that an output row shows, as a number. -/
theorem rowSrc_word (i : Fin 512) : rowSrc x (ix2 i (0 : Fin 1)) = word (i.val - before R) := by
  have := hb.fits.c_pos; have := hb.fits.grows
  rw [rowSrc_at, rH_word hb]
  show shown halfOf (word R) (BitVec.ofNat 32 i.val) = _
  rw [word_nat i.val, shown_word (by omega) hb.fits.small half_kernel]

/-- The column of the enlarged box that an output column shows, as a number. -/
theorem colSrc_word (j : Fin 512) : colSrc x (ix2 (0 : Fin 1) j) = word (j.val - before R') := by
  have := hb.fits'.c_pos; have := hb.fits'.grows
  rw [colSrc_at, rW_word hb]
  show shown halfOf (word R') (BitVec.ofNat 32 j.val) = _
  rw [word_nat j.val, shown_word (by omega) hb.fits'.small half_kernel]

/-- Whether an output row shows something, as a comparison of numbers. -/
theorem rowOk_word (i : Fin 512) : rowOk x (ix2 i (0 : Fin 1))
    = BitVec.ofBool (decide (0 ≤ (i.val : ℤ) - before R) && decide ((i.val : ℤ) - before R < R)) := by
  have := hb.fits.c_pos; have := hb.fits.grows; have := hb.fits.small
  rw [rowOk_at, rH_word hb, rowSrc_word hb, inside_word hb.fits.small_all.2.2 (by unfold before; exact ⟨by omega, by omega⟩)]

/-- Whether an output column shows something, as a comparison of numbers. -/
theorem colOk_word (j : Fin 512) : colOk x (ix2 (0 : Fin 1) j)
    = BitVec.ofBool (decide (0 ≤ (j.val : ℤ) - before R') && decide ((j.val : ℤ) - before R' < R')) := by
  have := hb.fits'.c_pos; have := hb.fits'.grows; have := hb.fits'.small
  rw [colOk_at, rW_word hb, colSrc_word hb, inside_word hb.fits'.small_all.2.2 (by unfold before; exact ⟨by omega, by omega⟩)]

/-- An output row's position in the image, or the far position. -/
theorem sRow_word (i : Fin 512) : sRow x (ix2 i (0 : Fin 1)) = if 0 ≤ (i.val : ℤ) - before R ∧ (i.val : ℤ) - before R < R then
    (((lo : ℝ) + min (pos c R (i.val - before R)) (c - 1) : ℝ) : EReal) else ((-1024 : ℝ) : EReal) := by
  have := hb.fits.c_pos; have := hb.fits.grows; have := hb.fits.small
  rw [sRow_at, yLo_word hb, hCrop_word hb, rH_word hb, rowSrc_word hb, rowOk_word hb,
    position_word hb.fits (by unfold before; exact ⟨by omega, by omega⟩)]
  simp only [Bool.and_eq_true, decide_eq_true_eq]

/-- An output column's position in the image, or the far position. -/
theorem sCol_word (j : Fin 512) : sCol x (ix2 (0 : Fin 1) j) = if 0 ≤ (j.val : ℤ) - before R' ∧ (j.val : ℤ) - before R' < R' then
    (((lo' : ℝ) + min (pos c' R' (j.val - before R')) (c' - 1) : ℝ) : EReal) else ((-1024 : ℝ) : EReal) := by
  have := hb.fits'.c_pos; have := hb.fits'.grows; have := hb.fits'.small
  rw [sCol_at, xLo_word hb, wCrop_word hb, rW_word hb, colSrc_word hb, colOk_word hb,
    position_word hb.fits' (by unfold before; exact ⟨by omega, by omega⟩)]
  simp only [Bool.and_eq_true, decide_eq_true_eq]

/-- The first line of the window of tile `T`, as a word. -/
theorem base_word (T : Fin 4) : round8 (tops x (ix2 T (0 : Fin 1))) = word (base lo c R (T.val * 128)) := by
  have hT := T.isLt
  obtain ⟨t₀, t₁⟩ := top_bounds hb.fits (T.val * 128)
  rw [tops_at, yLo_word hb, hCrop_word hb, rH_word hb]
  show round8 (topOf _ _ _ (IntOp.muli (BitVec.ofNat 32 T.val) (word 128))) = _
  rw [word_nat T.val, muli_word, topOf_word hb.fits (by omega) (by omega), round8_word t₀ t₁]
  rfl

/-- The blend over rows: two rows of the image, or zero. -/
theorem rows_value (i w : Fin 512) : rows x (ix2 i w) = if 0 ≤ (i.val : ℤ) - before R ∧ (i.val : ℤ) - before R < R then
    ((1 - share c R (i.val - before R) : ℝ) : EReal) * x (ix3 (0 : Fin 1) (lineNo (lo + lower c R (i.val - before R))) w)
      + ((share c R (i.val - before R) : ℝ) : EReal) * x (ix3 (0 : Fin 1) (lineNo (lo + upper c R (i.val - before R))) w) else 0 := by
  have hi := i.isLt
  have hT : ((tileOf i).val : ℤ) = i.val / 128 := by unfold tileOf; push_cast; rfl
  obtain ⟨t₀, t₁⟩ := top_bounds hb.fits ((tileOf i).val * 128)
  have b₀ : 0 ≤ base lo c R ((tileOf i).val * 128) ∧ base lo c R ((tileOf i).val * 128) ≤ 256 := by unfold base; omega
  have bn : (word (base lo c R ((tileOf i).val * 128))).toNat = (base lo c R ((tileOf i).val * 128)).toNat :=
    word_toNat b₀.1 (by omega)
  have num : ∀ d : Fin 256, flt (BitVec.ofNat 32 d.val) = ((d.val : ℝ) : EReal) := fun d => by
    have := d.isLt
    rw [word_nat d.val, flt_word ⟨by omega, by omega⟩, Int.cast_natCast]
  rw [rows_at]
  unfold rowSum
  rw [basesF_at, base_word hb, bn, flt_word ⟨by omega, by omega⟩, sRow_word hb]
  simp only [num]
  split_ifs with hp
  · obtain ⟨w₀, w₁⟩ := window_bounds hb.fits (i := i.val) (t := (tileOf i).val * 128) (by omega) (by omega) hp.1 hp.2
    obtain ⟨l₀, l₁, l₂, l₃⟩ := neighbours hb.fits hp.1 hp.2
    have e₀ := hb.fits.lo_nonneg; have e₂ := hb.fits.inside
    generalize base lo c R ((tileOf i).val * 128) = b at *
    have e : (((lo : ℝ) + min (pos c R (i.val - before R)) (c - 1) : ℝ) : EReal) - ((b : ℝ) : EReal)
        = ((((lo - b : ℤ) : ℝ) + min (pos c R (i.val - before R)) (c - 1) : ℝ) : EReal) := by
      rw [← EReal.coe_sub]
      congr 1
      push_cast
      ring
    rw [e]
    refine (axis_sum (fun d : Fin 256 => x (ix3 (0 : Fin 1) (windowRow b.toNat d.val) w)) hb.fits hp.1
      hp.2 (lo - b) ⟨(lo + lower c R (i.val - before R) - b).toNat, by omega⟩ ⟨(lo + upper c R (i.val - before R) - b).toNat, by omega⟩
      (by push_cast; omega) (by push_cast; omega)).trans ?_
    have line : ∀ z : ℤ, 0 ≤ z - b → windowRow b.toNat (z - b).toNat = lineNo z := fun z hz =>
      Fin.ext (by show (b.toNat + (z - b).toNat) % 512 = z.toNat % 512; congr 1; omega)
    dsimp only
    rw [line _ w₀, line _ (by omega)]
  · rw [← EReal.coe_sub]
    exact sum_tent_out _ (by have : (0 : ℝ) ≤ (base lo c R ((tileOf i).val * 128) : ℝ) := by exact_mod_cast b₀.1
                             linarith)

/-- The blend over columns of the blend over rows is the picture. -/
theorem blends_value (i j : Fin 512) : cols x (rows x) (ix3 (0 : Fin 1) i j)
    = picture (fun y w => x (ix3 (0 : Fin 1) y w)) lo c R lo' c' R' i j := by
  have num : ∀ d : Fin 512, flt (BitVec.ofNat 32 d.val) = ((d.val : ℝ) : EReal) := fun d => by
    have := d.isLt
    rw [word_nat d.val, flt_word ⟨by omega, by omega⟩, Int.cast_natCast]
  rw [cols_at]
  show ∑ k : Fin 512, rows x (ix2 i k) * tent (sCol x (ix2 (0 : Fin 1) j)) (flt (BitVec.ofNat 32 k.val)) = _
  simp only [num, mul_comm (rows x _)]
  rw [sCol_word hb]
  unfold picture
  dsimp only
  by_cases hq : 0 ≤ (j.val : ℤ) - before R' ∧ (j.val : ℤ) - before R' < R'
  · obtain ⟨l₀, l₁, l₂, l₃⟩ := neighbours hb.fits' hq.1 hq.2
    have e₀ := hb.fits'.lo_nonneg; have e₂ := hb.fits'.inside
    rw [if_pos hq, axis_sum (fun k => rows x (ix2 i k)) hb.fits' hq.1 hq.2 lo' (lineNo (lo' + lower c' R' (j.val - before R')))
      (lineNo (lo' + upper c' R' (j.val - before R'))) (lineNo_val (by omega) (by omega)) (lineNo_val (by omega) (by omega))]
    rw [rows_value hb, rows_value hb]
    by_cases hp : 0 ≤ (i.val : ℤ) - before R ∧ (i.val : ℤ) - before R < R
    · obtain ⟨u₀, u₁⟩ := share_bounds (c := c) (R := R) (p := i.val - before R)
      obtain ⟨v₀, v₁⟩ := share_bounds (c := c') (R := R') (p := j.val - before R')
      rw [if_pos hp, if_pos hp, if_pos ⟨hp, hq⟩, blend_blend _ _ v₀ v₁ u₀ u₁]
      simp only [mul_comm]
    · rw [if_neg hp, if_neg hp, if_neg (fun h => hp h.1), mul_zero, mul_zero, add_zero]
  · rw [if_neg hq, if_neg (fun h => hq h.2)]
    exact sum_tent_out _ (by norm_num)

/-- Where the kernel takes the short way, the box is not enlarged and is shown where it is. -/
theorem same_word (hs : same x = 1#32) : R = c ∧ R' = c' ∧ lo = before R ∧ lo' = before R' := by
  have f₀ := hb.fits.c_pos; have f₁ := hb.fits.grows; have f₂ := hb.fits.small; have f₃ := hb.fits.lo_nonneg; have f₄ := hb.fits.inside
  have g₀ := hb.fits'.c_pos; have g₁ := hb.fits'.grows; have g₂ := hb.fits'.small; have g₃ := hb.fits'.lo_nonneg
  have g₄ := hb.fits'.inside
  have z : (0#32 : BitVec 32) = word 0 := rfl
  have b : 0 ≤ before R ∧ before R ≤ 256 := by unfold before; omega
  have b' : 0 ≤ before R' ∧ before R' ≤ 256 := by unfold before; omega
  obtain ⟨q₁, q₂⟩ := pads (R := R) (by omega) f₂ half_kernel
  obtain ⟨q₁', q₂'⟩ := pads (R := R') (by omega) g₂ half_kernel
  rw [same_at, padBefore_at, padBefore_at, cropBefore_at, cropBefore_at, rH_word hb, rW_word hb, hCrop_word hb, wCrop_word hb,
    yLo_word hb, xLo_word hb, q₁, q₂, q₁', q₂', subi_word, subi_word, addi_word, addi_word, z, eq_word ⟨by omega, by omega⟩ ⟨by omega, by omega⟩,
    eq_word ⟨by omega, by omega⟩ ⟨by omega, by omega⟩, eq_word ⟨by omega, by omega⟩ ⟨by omega, by omega⟩,
    eq_word ⟨by omega, by omega⟩ ⟨by omega, by omega⟩, andi_bool, andi_bool, andi_bool] at hs
  have one : ∀ p : Bool, (BitVec.ofBool p).setWidth 32 = 1#32 → p = true := by decide
  have h := one _ hs
  simp only [Bool.and_eq_true, decide_eq_true_eq] at h
  omega

omit hb in
/-- With no enlarging, every line is its own neighbour and takes the whole weight. -/
theorem plain_axis (h : 1 ≤ c) (p : ℤ) : lower c c p = p ∧ share c c p = 0 := by
  have e : pos c c p = p := by
    have : (c : ℝ) ≠ 0 := by exact_mod_cast (by omega : c ≠ 0)
    unfold pos
    rw [mul_one_div_cancel this, mul_one]
  unfold share lower
  rw [e, Int.floor_intCast, sub_self]
  exact ⟨rfl, rfl⟩

omit hb in
/-- The mask of a truth value is one or zero. -/
theorem mask_bool (p : Bool) : mask (BitVec.ofBool p) = if p = true then 1 else 0 := by
  cases p
  · show (((((BitVec.ofBool false).setWidth 32).toInt : ℤ) : ℝ) : EReal) = 0
    simp
  · show (((((BitVec.ofBool true).setWidth 32).toInt : ℤ) : ℝ) : EReal) = 1
    have : ((BitVec.ofBool true).setWidth 32).toInt = 1 := by decide
    rw [this]
    simp

/-- The masked copy is the picture too. -/
theorem direct_value (hs : same x = 1#32) (i j : Fin 512) : direct x (ix3 (0 : Fin 1) i j)
    = picture (fun y w => x (ix3 (0 : Fin 1) y w)) lo c R lo' c' R' i j := by
  obtain ⟨e, e', o, o'⟩ := same_word hb hs
  rw [direct_at]
  show (x (ix3 (0 : Fin 1) i j) * mask (rowOk x (ix2 i (0 : Fin 1)))) * mask (colOk x (ix2 (0 : Fin 1) j)) = _
  rw [rowOk_word hb, colOk_word hb, mask_bool, mask_bool]
  have k₀ := hb.fits.c_pos
  have k₁ := hb.fits'.c_pos
  subst e e'
  obtain ⟨n, s⟩ := plain_axis k₀ ((i.val : ℤ) - before R)
  obtain ⟨n', s'⟩ := plain_axis k₁ ((j.val : ℤ) - before R')
  have line : ∀ k : Fin 512, lineNo ((k.val : ℕ) : ℤ) = k := fun k => Fin.ext (by
    show (k.val : ℤ).toNat % 512 = k.val
    have := k.isLt
    omega)
  have ri : lo + ((i.val : ℤ) - before R) = i.val := by omega
  have rj : lo' + ((j.val : ℤ) - before R') = j.val := by omega
  unfold picture
  dsimp only
  rw [n, s, n', s', ri, rj, line, line]
  simp only [Bool.and_eq_true, decide_eq_true_eq, sub_zero, EReal.coe_zero, EReal.coe_one, mul_one, mul_zero, add_zero]
  by_cases hp : 0 ≤ (i.val : ℤ) - before R ∧ (i.val : ℤ) - before R < R
  · by_cases hq : 0 ≤ (j.val : ℤ) - before R' ∧ (j.val : ℤ) - before R' < R'
    · rw [if_pos hp, if_pos hq, if_pos ⟨hp, hq⟩, mul_one, mul_one]
    · rw [if_neg hq, mul_zero, if_neg (fun h => hq h.2)]
  · rw [if_neg hp, mul_zero, zero_mul, if_neg (fun h => hp h.1)]

/-- The kernel's result for an image is the picture. -/
theorem out_value (i j : Fin 512) : out x (ix3 (0 : Fin 1) i j) = picture (fun y w => x (ix3 (0 : Fin 1) y w)) lo c R lo' c' R' i j := by
  unfold out
  split_ifs with hs
  · exact direct_value hb hs i j
  · exact blends_value hb i j

end

end Cert.Focus

end
-- ==== Proof.Focus.Result.lean ====
/- The kernel's whole result: the launch covers the array of 128 results, and the operations around it lay the images out. -/
module

public import proofs.«01_k».proof.Proof.Focus.Launch
public import proofs.«01_k».proof.Proof.Focus.Painted
public import Idealize.ShloMosaic.Lib.Pipeline.Value

@[expose] public section

set_option maxRecDepth 16384
set_option maxHeartbeats 2000000

noncomputable section

namespace Cert.Focus

open Idealize.ShloMosaic Idealize.ShloMosaic.TcCoe Idealize.ShloMosaic.Tactic Cert.KernelIdeal Cert.KernelIdeal.Gen Idealize.SL.Sem

/-! ## The blocks of the launch -/

section
variable {F : FTy → Type} [FloatOps F] (m : (ℓ : Loc nD τ sig) → Buf (Elt F) ℓ)

/-- One image of the array of 128. -/
def imageAt (X : Vec F S128x512x512 .f32) (n : Fin 128) : Vec F S1x512x512 .f32 := fun j => X (ix3 n (j 1) (j 2))

/-- The result for the array of 128 images: each image's own. -/
def wholeOut (X : Vec F S128x512x512 .f32) : Vec F S128x512x512 .f32 :=
  fun i => out (imageAt X (i 0)) (ix3 (0 : Fin 1) (i 1) (i 2))

/-- Block `t` of the images starts at image `8 t` and takes all rows and columns; so does block `t` of the results. -/
theorem block_in : ∀ t : Fin grid0.N, win0_0.index t (0 : Fin 3) = t.val ∧ win0_0.index t (1 : Fin 3) = 0 ∧ win0_0.index t (2 : Fin 3) = 0 := by
  decide +kernel
/-- The output block of step `t` is block `t`. -/
theorem block_out : ∀ t : Fin grid0.N, win0_1.index t (0 : Fin 3) = t.val ∧ win0_1.index t (1 : Fin 3) = 0 ∧ win0_1.index t (2 : Fin 3) = 0 := by
  decide +kernel

/-- The eight images of a step are among the 128. -/
theorem flat8 (t : Fin cfg0.N) (k : Fin 8) : t.val * 8 + k.val < 128 := by
  have h : t.val < 16 := lt_of_lt_of_eq t.isLt N_0
  omega

/-- Entry of a step's input block, placed in the array of images. -/
theorem place_in (t : Fin cfg0.N) (j : S8x512x512.Idx) :
    ((cfg0.win 0).blk t).view.emb j = ix3 (⟨t.val * 8 + (j 0).val, flat8 t (j 0)⟩ : Fin 128) (j 1) (j 2) := by
  obtain ⟨e0, e1, e2⟩ := block_in t
  funext a; apply Fin.ext
  match a with
  | ⟨0, _⟩ => show win0_0.index t (0 : Fin 3) * 8 + 1 * (j 0).val = t.val * 8 + (j 0).val; rw [e0]; omega
  | ⟨1, _⟩ => show win0_0.index t (1 : Fin 3) * 512 + 1 * (j 1).val = (j 1).val; rw [e1]; omega
  | ⟨2, _⟩ => show win0_0.index t (2 : Fin 3) * 512 + 1 * (j 2).val = (j 2).val; rw [e2]; omega

/-- Entry of a step's output block, placed in the array of results. -/
theorem place_out (t : Fin cfg0.N) (j : S8x512x512.Idx) :
    ((cfg0.win 1).blk t).view.emb j = ix3 (⟨t.val * 8 + (j 0).val, flat8 t (j 0)⟩ : Fin 128) (j 1) (j 2) := by
  obtain ⟨e0, e1, e2⟩ := block_out t
  funext a; apply Fin.ext
  match a with
  | ⟨0, _⟩ => show win0_1.index t (0 : Fin 3) * 8 + 1 * (j 0).val = t.val * 8 + (j 0).val; rw [e0]; omega
  | ⟨1, _⟩ => show win0_1.index t (1 : Fin 3) * 512 + 1 * (j 1).val = (j 1).val; rw [e1]; omega
  | ⟨2, _⟩ => show win0_1.index t (2 : Fin 3) * 512 + 1 * (j 2).val = (j 2).val; rw [e2]; omega

/-- Image `k` of block `t` is image `8 t + k` of the array. -/
theorem image_block (c : Dev nD) (t : Fin cfg0.N) (k : Fin 8) :
    image (iblk m c 0 t) k = imageAt (V m c main_v1) ⟨t.val * 8 + k.val, flat8 t k⟩ := by
  funext j
  show V m c main_v1 (((cfg0.win 0).blk t).view.emb (ix3 k (j 1) (j 2))) = _
  rw [place_in]
  rfl

/-- What is written back at point `t` is block `t` of the whole result. -/
theorem written (c : Dev nD) (t : Fin cfg0.N) :
    (data m 0 c).flushed 1 t = ((cfg0.win 1).blk t).view.read (Elt F) (wholeOut (V m c main_v1)) := by
  show (cfg0.win 1).cut (grid0.coords t) ((data m 0 c).after 1 t) = _
  rw [data_out]
  refine funext fun (j : S8x512x512.Idx) => ?_
  show blockOut (iblk m c 0 t) j = wholeOut (V m c main_v1) (((cfg0.win 1).blk t).view.emb j)
  rw [place_out]
  exact congrFun (congrArg out (image_block m c t (j 0))) (ix3 (0 : Fin 1) (j 1) (j 2))

/-- Every image is in a block. -/
theorem covered (i : S128x512x512.Idx) : ∃ t : Fin cfg0.N, (cfg0.win 1).flush t = true ∧ i ∈ ((cfg0.win 1).blk t).view.set := by
  have hi : (i 0).val < 128 := (i 0).isLt
  have ht : (i 0).val / 8 < cfg0.N := lt_of_lt_of_eq (by omega : (i 0).val / 8 < 16) N_0.symm
  refine ⟨⟨(i 0).val / 8, ht⟩, flush0_1 _, ?_⟩
  have h := ((cfg0.win 1).blk ⟨(i 0).val / 8, ht⟩).view.emb_mem_set (ix3 (⟨(i 0).val % 8, by omega⟩ : Fin 8) (i 1) (i 2))
  have e : ((cfg0.win 1).blk ⟨(i 0).val / 8, ht⟩).view.emb (ix3 (⟨(i 0).val % 8, by omega⟩ : Fin 8) (i 1) (i 2)) = i := by
    refine (place_out _ _).trans ?_
    funext a; apply Fin.ext
    match a with
    | ⟨0, _⟩ => show (i 0).val / 8 * 8 + (i 0).val % 8 = (i 0).val; omega
    | ⟨1, _⟩ => rfl
    | ⟨2, _⟩ => rfl
  rwa [e] at h

/-- The array of the results after the launch. -/
theorem launched (c : Dev nD) : (data m 0 c).arrAt 1 cfg0.N = wholeOut (V m c main_v1) :=
  (data m 0 c).arrAt_eq_of_cover 1 (wholeOut (V m c main_v1)) (fun t _ => written m c t) covered

end

/-! ## The operations around the launch -/

variable (m : (ℓ : Loc nD τ sig) → Buf (Elt Ideal) ℓ) (ρ : Dev nD → PrngReg)

/-- The array of 128 images is the argument, its channels before its rows. -/
theorem images_at (c : Dev nD) (n : Fin 128) (y w : Fin 512) : V m c main_v1 (ix3 n y w)
    = m ((c : Thread nD τ).loc main_arg0) (ix4 (⟨n.val / 32, by omega⟩ : Fin 4) y w (⟨n.val % 32, by omega⟩ : Fin 32)) := by
  show StableHlo.after (hostOps0 ++ []) _ _ _ = _
  rw [List.append_nil]
  unfold hostOps0
  after_reads_at

/-- The result is the array of 128 results, its channels after its columns. -/
theorem result_read (W : Valuation τ sig (Elt Ideal)) (b : Fin 4) (i j : Fin 512) (ch : Fin 32) :
    StableHlo.after hostOps1 W (Proc.devRef .tc main_v4) (ix4 b i j ch)
      = W (Proc.devRef .tc main_v2) (ix3 (⟨b.val * 32 + ch.val, by omega⟩ : Fin 128) i j) := by
  unfold hostOps1
  after_reads_at

/-- What the kernel's result holds. -/
def answer (c : Dev nD) : Buf (Elt Ideal) ((c : Thread nD τ).loc main_v4) :=
  Pipeline.afterTail₀ cfgs (data m) 0 (V0 m) [hostOps1] c main_v4

/-- An entry of the kernel's result is an entry of what is computed from one image. -/
theorem answer_at (c : Dev nD) (b : Fin 4) (i j : Fin 512) (ch : Fin 32) : answer m c (ix4 b i j ch)
    = out (imageAt (V m c main_v1) ⟨b.val * 32 + ch.val, by omega⟩) (ix3 (0 : Fin 1) i j) := by
  unfold answer Pipeline.afterTail₀
  show StableHlo.after (hostOps1 ++ []) _ _ _ = _
  rw [List.append_nil, result_read]
  have e := Pipeline.withArrays_arr spec0 launch0.win.arr_inj c (V0 m c) (fun w => (data m 0 c).arrAt w cfg0.N) 1
  refine (congrFun e _).trans ?_
  rw [launched]
  rfl

/-- The kernel's run: its result is the answer, and its argument is unchanged. -/
theorem answer_run : θ_run defs (onTc (τ := τ) (main (F := Ideal))) ⟨m, fun _ => 0, ρ⟩ (fun r => ∀ c : Dev nD,
    r.2.mem ((c.tc : Thread nD τ).loc main_v4) = answer m c
      ∧ r.2.mem ((c.tc : Thread nD τ).loc main_arg0) = m ((c.tc : Thread nD τ).loc main_arg0)) :=
  θ_run_mono (θ_run_and (launch_run m ρ) (frame_run m ρ)) fun r h c =>
    ⟨(h.1.1 c).2 main_v4 (Pipeline.mem_restRefs_of main_v4 (by decide) (by decide)), h.2.1 c⟩

end Cert.Focus

end
-- ==== Proof.Focus.RefScan.lean ====
/- The reference's first stretch, read at one entry: which rows and which columns of each image have a large entry. -/
module

public import proofs.«01_k».proof.Proof.Focus.Scalars
public import proofs.«01_k».proof.Proof.Focus.RefLine

@[expose] public section

set_option maxRecDepth 16384
set_option maxHeartbeats 2000000

noncomputable section

namespace Cert.Focus.Ref

open Idealize.ShloMosaic Idealize.SL.Sem Cert.ReferenceIdeal Cert.ReferenceIdeal.Facts₀

variable (V : Valuation τ sig (Elt Ideal))

/-- The largest entry of a line, squashed and rounded to a word. -/
def squashed (m : EReal) : BitVec 32 :=
  FloatOps.fptosi (F := Ideal) (φ := .f32) 32 (Ideal.liftRound Ideal.roundHalfEven (Ideal.div 1 (1 + Ideal.exp (-m))))

/-- The largest entry of each column. -/
def topCols (x : (⟨S4x512x512x32, .f32⟩ : BufTy).Contents (Elt Ideal)) : (⟨S4x512x32, .f32⟩ : BufTy).Contents (Elt Ideal) :=
  Host.reduce (FloatOps.maximumf (F := Ideal) (φ := .f32)) x (constant (F := Ideal) S_ .f32 0xFF800000#32) reducesTo_S4x512x512x32_S4x512x32_d1 h_S_

/-- The largest entry of each row. -/
def topRows (x : (⟨S4x512x512x32, .f32⟩ : BufTy).Contents (Elt Ideal)) : (⟨S4x512x32, .f32⟩ : BufTy).Contents (Elt Ideal) :=
  Host.reduce (FloatOps.maximumf (F := Ideal) (φ := .f32)) x (constant (F := Ideal) S_ .f32 0xFF800000#32) reducesTo_S4x512x512x32_S4x512x32_d2 h_S_

/-- A column's maximum is the greatest of its entries. -/
theorem topCols_at (x : (⟨S4x512x512x32, .f32⟩ : BufTy).Contents (Elt Ideal)) (i : S4x512x32.Idx) :
    topCols x i = Finset.fold max (Ideal.ofBits FTy.f32 4286578688#32)
      (fun y : Fin 512 => (x (ix4 (i 0) y (i 1) (i 2)) : EReal)) Finset.univ := by
  unfold topCols
  pointwise []

/-- A row's maximum is the greatest of its entries. -/
theorem topRows_at (x : (⟨S4x512x512x32, .f32⟩ : BufTy).Contents (Elt Ideal)) (i : S4x512x32.Idx) :
    topRows x i = Finset.fold max (Ideal.ofBits FTy.f32 4286578688#32)
      (fun y : Fin 512 => (x (ix4 (i 0) (i 1) y (i 2)) : EReal)) Finset.univ := by
  unfold topRows
  pointwise []

/-- Squashing and rounding, as the reference spells them, at one entry. -/
theorem squash_at (M : S4x512x32.Idx → Elt Ideal EltTy.f32) (i : S4x512x32.Idx) :
    fptosi (F := Ideal) (φ := .f32) 32 (Host.roundeven (F := Ideal) (addf (Host.divf (broadcastInDim S4x512x32 ![] bcast_S_S4x512x32 (constant S_ .f32 0x3F800000#32))
      (addf (broadcastInDim S4x512x32 ![] bcast_S_S4x512x32 (constant S_ .f32 0x3F800000#32)) (Host.exp (Host.negf M))))
      (broadcastInDim S4x512x32 ![] bcast_S_S4x512x32 (constant S_ .f32 0x00000000#32)))) i = squashed (M i) := by
  unfold squashed
  pointwise []

/-- Whether a column has a large entry. -/
theorem read_live_col (i : S4x512x32.Idx) : StableHlo.after lineScan V (Proc.devRef .tc main_v10) i
    = squashed (topCols (V (Proc.devRef .tc main_arg0)) i) := by
  unfold lineScan topCols
  after_reads_simp
  simp -implicitDefEqProofs only [StableHlo.TRef.toBuf, StableHlo.TRef.ofBuf, cast_cast, cast_eq]
  clean_types
  exact squash_at _ i

/-- Whether a row has a large entry. -/
theorem read_live_row (i : S4x512x32.Idx) : StableHlo.after lineScan V (Proc.devRef .tc main_v21) i
    = squashed (topRows (V (Proc.devRef .tc main_arg0)) i) := by
  unfold lineScan topRows
  after_reads_simp
  simp -implicitDefEqProofs only [StableHlo.TRef.toBuf, StableHlo.TRef.ofBuf, cast_cast, cast_eq]
  clean_types
  exact squash_at _ i

end Cert.Focus.Ref

end
-- ==== Proof.Focus.RefEdge.lean ====
/- The reference's second stretch, read at one entry: the first and the last line of each image with a large entry, and
   the images laid out flat. -/
module

public import proofs.«01_k».proof.Proof.Focus.Detect

@[expose] public section

set_option maxRecDepth 16384
set_option maxHeartbeats 2000000

noncomputable section

namespace Cert.Focus.Ref

open Idealize.ShloMosaic Idealize.SL.Sem Cert.ReferenceIdeal Cert.ReferenceIdeal.Facts₀

variable (V : Valuation τ sig (Elt Ideal))

/-- The batch entry of a flat image number. -/
abbrev batch (n : Fin 128) : Fin 4 := ⟨n.val / 32, by omega⟩
/-- The channel of a flat image number. -/
abbrev chan (n : Fin 128) : Fin 32 := ⟨n.val % 32, by omega⟩

/-- The reference's search of the products that fall with the line finds the first line with a large entry. -/
theorem search_first (x : IVec S4x512x32 32) {a : Fin 512 → BitVec 32} (ha : Flag a) (j : S4x32.Idx)
    (hx : ∀ w : Fin 512, x (ix3 (j 0) w (j 1)) = IntOp.muli (a w) (BitVec.ofNat 32 (512 - 1 - w.val))) :
    (Host.reduce2 reducer_argmax_i32_i32 x (iotaInDim S4x512x32 32 1) (constantI S_ 32 2147483648#32)
        (constantI S_ 32 0#32) reducesTo_S4x512x32_S4x32_d1 h_S_ j).2 = firstLine a := by
  obtain ⟨n, e, hn⟩ := search_axis x (fromEnd a) (fromEnd_bounds ha) j fun w => by
    rw [hx w, word_nat, flag_word (a := a) w, muli_word]
    congr 1
    unfold fromEnd
    congr 1
    have := w.isLt
    omega
  exact e.trans (firstLine_peak ha hn).symm

/-- Its search of the products that rise with the line finds the last. -/
theorem search_last (x : IVec S4x512x32 32) {a : Fin 512 → BitVec 32} (ha : Flag a) (j : S4x32.Idx)
    (hx : ∀ w : Fin 512, x (ix3 (j 0) w (j 1)) = IntOp.muli (a w) (BitVec.ofNat 32 w.val)) :
    (Host.reduce2 reducer_argmax_i32_i32 x (iotaInDim S4x512x32 32 1) (constantI S_ 32 2147483648#32)
        (constantI S_ 32 0#32) reducesTo_S4x512x32_S4x32_d1 h_S_ j).2 = lastLine a := by
  obtain ⟨n, e, hn⟩ := search_axis x (fromStart a) (fromStart_bounds ha) j fun w => (hx w).trans (fromStart_word a w)
  exact e.trans (lastLine_peak ha hn).symm

/-- The images, laid out flat. -/
theorem read_image (i : S128x512x512.Idx) : StableHlo.after lineEdge V (Proc.devRef .tc main_v43) i
    = V (Proc.devRef .tc main_arg0) (ix4 (batch (i 0)) (i 1) (i 2) (chan (i 0))) := by
  unfold lineEdge
  after_reads_at

/-- The first column of an image with a large entry. -/
theorem read_first_col (i : S128.Idx) {a : Fin 512 → BitVec 32} (ha : Flag a)
    (hv : ∀ w : Fin 512, V (Proc.devRef .tc main_v10) (ix3 (batch (i 0)) w (chan (i 0))) = a w) :
    StableHlo.after lineEdge V (Proc.devRef .tc main_v44) i = firstLine a := by
  unfold lineEdge
  after_reads_at
  refine search_first _ ha _ fun w => ?_
  rw [← hv w]
  pointwise []
  refine congrArg (IntOp.muli _) (congrArg (BitVec.ofNat 32) ?_)
  show (Fin.rev w).val = 511 - w.val
  rw [Fin.val_rev]
  omega

/-- The first row. -/
theorem read_first_row (i : S128.Idx) {a : Fin 512 → BitVec 32} (ha : Flag a)
    (hv : ∀ w : Fin 512, V (Proc.devRef .tc main_v21) (ix3 (batch (i 0)) w (chan (i 0))) = a w) :
    StableHlo.after lineEdge V (Proc.devRef .tc main_v45) i = firstLine a := by
  unfold lineEdge
  after_reads_at
  refine search_first _ ha _ fun w => ?_
  rw [← hv w]
  pointwise []
  refine congrArg (IntOp.muli _) (congrArg (BitVec.ofNat 32) ?_)
  show (Fin.rev w).val = 511 - w.val
  rw [Fin.val_rev]
  omega

/-- The last column. -/
theorem read_last_col (i : S128.Idx) {a : Fin 512 → BitVec 32} (ha : Flag a)
    (hv : ∀ w : Fin 512, V (Proc.devRef .tc main_v10) (ix3 (batch (i 0)) w (chan (i 0))) = a w) :
    StableHlo.after lineEdge V (Proc.devRef .tc main_v46) i = lastLine a := by
  unfold lineEdge
  after_reads_at
  refine search_last _ ha _ fun w => ?_
  rw [← hv w]
  pointwise []

/-- The last row. -/
theorem read_last_row (i : S128.Idx) {a : Fin 512 → BitVec 32} (ha : Flag a)
    (hv : ∀ w : Fin 512, V (Proc.devRef .tc main_v21) (ix3 (batch (i 0)) w (chan (i 0))) = a w) :
    StableHlo.after lineEdge V (Proc.devRef .tc main_v47) i = lastLine a := by
  unfold lineEdge
  after_reads_at
  refine search_last _ ha _ fun w => ?_
  rw [← hv w]
  pointwise []

end Cert.Focus.Ref

end
-- ==== Proof.Focus.RefSizes.lean ====
/- The reference's stretches, read at one entry: the sizes and which line of the enlarged box each output line shows. -/
module

public import proofs.«01_k».proof.Proof.Focus.Scalars
public import proofs.«01_k».proof.Proof.Focus.RefLine

@[expose] public section

set_option maxRecDepth 16384
set_option maxHeartbeats 2000000

noncomputable section

namespace Cert.Focus.Ref

open Idealize.ShloMosaic Idealize.SL.Sem Cert.ReferenceIdeal

variable (V : Valuation τ sig (Elt Ideal))

/-- The size of the box on one axis. -/
theorem read_size_h (i : S128.Idx) : StableHlo.after lineSize V (Proc.devRef .tc main_v50) i
    = sizeOf (V (Proc.devRef .tc main_v45) i) (V (Proc.devRef .tc main_v47) i) := by
  unfold lineSize lineSize₁ lineSize₂
  after_reads_at
  rfl

/-- The size of the box on one axis. -/
theorem read_size_w (i : S128.Idx) : StableHlo.after lineSize V (Proc.devRef .tc main_v53) i
    = sizeOf (V (Proc.devRef .tc main_v44) i) (V (Proc.devRef .tc main_v46) i) := by
  unfold lineSize lineSize₁ lineSize₂
  after_reads_at
  rfl

/-- The enlarged size on one axis. -/
theorem read_grown_h (i : S128.Idx) : StableHlo.after lineGrow V (Proc.devRef .tc main_v68) i
    = grown (zoom (V (Proc.devRef .tc main_v50) i) (V (Proc.devRef .tc main_v53) i)) (V (Proc.devRef .tc main_v50) i) := by
  unfold lineGrow
  after_reads_at
  rfl

/-- The enlarged size on one axis. -/
theorem read_grown_w (i : S128.Idx) : StableHlo.after lineGrow V (Proc.devRef .tc main_v72) i
    = grown (zoom (V (Proc.devRef .tc main_v50) i) (V (Proc.devRef .tc main_v53) i)) (V (Proc.devRef .tc main_v53) i) := by
  unfold lineGrow
  after_reads_at
  rfl

/-- The row of the enlarged box that each output row shows. -/
theorem read_shown_row (i : S128x512x1.Idx) : StableHlo.after lineRow V (Proc.devRef .tc main_v94) i
    = shown hostHalf (V (Proc.devRef .tc main_v68) (ix1 (i 0))) (BitVec.ofNat 32 (i 1).val) := by
  unfold lineRow
  after_reads_at
  rfl

/-- The column that each output column shows. -/
theorem read_shown_col (i : S128x1x512.Idx) : StableHlo.after lineCol V (Proc.devRef .tc main_v112) i
    = shown hostHalf (V (Proc.devRef .tc main_v72) (ix1 (i 0))) (V (Proc.devRef .tc main_v76) (ix2 (0 : Fin 1) (i 2))) := by
  unfold lineCol lineCol₁ lineCol₂
  after_reads_at
  rfl

/-- The numbers of the output columns. -/
theorem read_numbers (i : S1x512.Idx) : StableHlo.after lineRow V (Proc.devRef .tc main_v76) i = BitVec.ofNat 32 (i 1).val := by
  unfold lineRow
  after_reads_at

end Cert.Focus.Ref

end
-- ==== Proof.Focus.RefPlaces.lean ====
/- The reference's stretches, read at one entry: which outputs show the box, where they lie in it, and the neighbours and weights. -/
module

public import proofs.«01_k».proof.Proof.Focus.Scalars
public import proofs.«01_k».proof.Proof.Focus.RefLine

@[expose] public section

set_option maxRecDepth 16384
set_option maxHeartbeats 2000000

noncomputable section

namespace Cert.Focus.Ref

open Idealize.ShloMosaic Idealize.SL.Sem Cert.ReferenceIdeal

variable (V : Valuation τ sig (Elt Ideal))

/-- Whether an output shows the enlarged box. -/
theorem read_inside (i : S128x512x512.Idx) : StableHlo.after lineInside V (Proc.devRef .tc main_v128) i
    = IntOp.andi (IntOp.andi (inside (V (Proc.devRef .tc main_v68) (ix1 (i 0))) (V (Proc.devRef .tc main_v94) (ix3 (i 0) (i 1) (0 : Fin 1))))
        (IntOp.cmpi .sge (V (Proc.devRef .tc main_v112) (ix3 (i 0) (0 : Fin 1) (i 2))) 0#32))
      (IntOp.cmpi .slt (V (Proc.devRef .tc main_v112) (ix3 (i 0) (0 : Fin 1) (i 2))) (V (Proc.devRef .tc main_v72) (ix1 (i 0)))) := by
  unfold lineInside
  after_reads_at
  rfl

/-- The position in the box. -/
theorem read_place_row (i : S128x512x1.Idx) : StableHlo.after linePos V (Proc.devRef .tc main_v135) i
    = place (V (Proc.devRef .tc main_v50) (ix1 (i 0))) (V (Proc.devRef .tc main_v68) (ix1 (i 0))) (V (Proc.devRef .tc main_v94) i) := by
  unfold linePos
  after_reads_at
  rfl

/-- The position in the box. -/
theorem read_place_col (i : S128x1x512.Idx) : StableHlo.after linePos V (Proc.devRef .tc main_v142) i
    = place (V (Proc.devRef .tc main_v53) (ix1 (i 0))) (V (Proc.devRef .tc main_v72) (ix1 (i 0))) (V (Proc.devRef .tc main_v112) i) := by
  unfold linePos
  after_reads_at
  rfl

/-- The line of the box at or before the position. -/
theorem read_near_row (i : S128x512x1.Idx) : StableHlo.after lineNear V (Proc.devRef .tc main_v147) i
    = near (V (Proc.devRef .tc main_v50) (ix1 (i 0))) (V (Proc.devRef .tc main_v135) i) := by
  unfold lineNear lineNear₁ lineNear₂
  after_reads_at
  rfl

/-- The line after it. -/
theorem read_next_row (i : S128x512x1.Idx) : StableHlo.after lineNear V (Proc.devRef .tc main_v159) i
    = next (V (Proc.devRef .tc main_v50) (ix1 (i 0))) (near (V (Proc.devRef .tc main_v50) (ix1 (i 0))) (V (Proc.devRef .tc main_v135) i)) := by
  unfold lineNear lineNear₁ lineNear₂
  after_reads_at
  rfl

/-- The weight of the line after. -/
theorem read_weight_row (i : S128x512x1.Idx) : StableHlo.after lineNear V (Proc.devRef .tc main_v169) i
    = weight (V (Proc.devRef .tc main_v135) i) (near (V (Proc.devRef .tc main_v50) (ix1 (i 0))) (V (Proc.devRef .tc main_v135) i)) := by
  unfold lineNear lineNear₁ lineNear₂
  after_reads_at
  rfl

/-- The line of the box at or before the position. -/
theorem read_near_col (i : S128x1x512.Idx) : StableHlo.after lineNear V (Proc.devRef .tc main_v152) i
    = near (V (Proc.devRef .tc main_v53) (ix1 (i 0))) (V (Proc.devRef .tc main_v142) i) := by
  unfold lineNear lineNear₁ lineNear₂
  after_reads_at
  rfl

/-- The line after it. -/
theorem read_next_col (i : S128x1x512.Idx) : StableHlo.after lineNear V (Proc.devRef .tc main_v166) i
    = next (V (Proc.devRef .tc main_v53) (ix1 (i 0))) (near (V (Proc.devRef .tc main_v53) (ix1 (i 0))) (V (Proc.devRef .tc main_v142) i)) := by
  unfold lineNear lineNear₁ lineNear₂
  after_reads_at
  rfl

/-- The weight of the line after. -/
theorem read_weight_col (i : S128x1x512.Idx) : StableHlo.after lineNear V (Proc.devRef .tc main_v172) i
    = weight (V (Proc.devRef .tc main_v142) i) (near (V (Proc.devRef .tc main_v53) (ix1 (i 0))) (V (Proc.devRef .tc main_v142) i)) := by
  unfold lineNear lineNear₁ lineNear₂
  after_reads_at
  rfl

/-- A neighbour as a line of the image. -/
theorem read_cell_row_near (i : S128x512x1.Idx) : StableHlo.after lineCell V (Proc.devRef .tc main_v176) i
    = cell (V (Proc.devRef .tc main_v45) (ix1 (i 0))) (V (Proc.devRef .tc main_v147) i) := by
  unfold lineCell
  after_reads_at
  rfl

/-- A neighbour as a line of the image. -/
theorem read_cell_row_next (i : S128x512x1.Idx) : StableHlo.after lineCell V (Proc.devRef .tc main_v180) i
    = cell (V (Proc.devRef .tc main_v45) (ix1 (i 0))) (V (Proc.devRef .tc main_v159) i) := by
  unfold lineCell
  after_reads_at
  rfl

/-- A neighbour as a line of the image. -/
theorem read_cell_col_near (i : S128x1x512.Idx) : StableHlo.after lineCell V (Proc.devRef .tc main_v184) i
    = cell (V (Proc.devRef .tc main_v44) (ix1 (i 0))) (V (Proc.devRef .tc main_v152) i) := by
  unfold lineCell
  after_reads_at
  rfl

/-- A neighbour as a line of the image. -/
theorem read_cell_col_next (i : S128x1x512.Idx) : StableHlo.after lineCell V (Proc.devRef .tc main_v188) i
    = cell (V (Proc.devRef .tc main_v44) (ix1 (i 0))) (V (Proc.devRef .tc main_v166) i) := by
  unfold lineCell
  after_reads_at
  rfl

end Cert.Focus.Ref

end
-- ==== Proof.Focus.RefLookups.lean ====
/- The reference's four look-ups: each takes, for an output, the entry of the image at a row and a column. -/
module

public import proofs.«01_k».proof.Proof.Focus.Numbers
public import proofs.«01_k».proof.Proof.Focus.RefLine

@[expose] public section

set_option maxRecDepth 16384
set_option maxHeartbeats 2000000

noncomputable section

namespace Cert.Focus.Ref

open Idealize.ShloMosaic Idealize.SL.Sem Cert.ReferenceIdeal

variable (V : Valuation τ sig (Elt Ideal))

/-- A look-up at row `p` and column `q`, both inside the image. -/
theorem cells_at (x : (⟨S128x512x512, .f32⟩ : BufTy).Contents (Elt Ideal)) (a b : (⟨S128x512x512x1, .i32⟩ : BufTy).Contents (Elt Ideal))
    (i : S128x512x512.Idx) (p q : Fin 512) (ha : a (ix4 (i 0) (i 1) (i 2) (0 : Fin 1)) = word p.val)
    (hb : b (ix4 (i 0) (i 1) (i 2) (0 : Fin 1)) = word q.val) :
    cells (F := Ideal) x (pairs (F := Ideal) a b) i = x (ix3 (i 0) p q) := by
  have ea : pairs (F := Ideal) a b (ix4 (i 0) (i 1) (i 2) (0 : Fin 2)) = word p.val := by
    unfold pairs; pointwise []; exact ha
  have eb : pairs (F := Ideal) a b (ix4 (i 0) (i 1) (i 2) (1 : Fin 2)) = word q.val := by
    unfold pairs; pointwise []; exact hb
  have start : ∀ (k : Fin 3) (n : Fin 2) (r : Fin 512) (hk : k ∈ gather_S128x512x512_S128x512x512x2_S128x512x512_n_12_0_0_12_3_111.startIndexMap),
      gather_S128x512x512_S128x512x512x2_S128x512x512_n_12_0_0_12_3_111.siIdx i ⟨_, List.idxOf_lt_length_iff.2 hk⟩ = ix4 (i 0) (i 1) (i 2) n →
      S128x512x512.size k - gather_S128x512x512_S128x512x512x2_S128x512x512_n_12_0_0_12_3_111.sliceSizes k = 511 →
      pairs (F := Ideal) a b (ix4 (i 0) (i 1) (i 2) n) = word r.val →
      gather_S128x512x512_S128x512x512x2_S128x512x512_n_12_0_0_12_3_111.start i (pairs (F := Ideal) a b) k = r.val := by
    intro k n r hk hs hz hr
    have h := r.isLt
    refine (dif_pos hk).trans ((congrArg (fun w : BitVec 32 => min w.toInt.toNat _) ((congrArg (pairs (F := Ideal) a b) hs).trans hr)).trans ?_)
    show min (BitVec.toInt (word r.val)).toNat _ = _
    rw [hz, word_toInt ⟨by omega, by omega⟩]
    omega
  unfold cells Host.gather
  refine congrArg x ?_
  funext k
  apply Fin.ext
  fin_cases k
  · show GatherDims.start _ i _ 0 + GatherDims.batchCoord _ i 0 + GatherDims.offCoord _ i 0 = (i 0).val
    rw [show GatherDims.start _ i _ _ = 0 from dif_neg (by decide),
      show GatherDims.offCoord _ i _ = 0 from dif_neg (by decide),
      show GatherDims.batchCoord _ i _ = (i 0).val from (dif_pos (by decide)).trans rfl]
    omega
  · show GatherDims.start _ i _ 1 + GatherDims.batchCoord _ i 1 + GatherDims.offCoord _ i 1 = p.val
    rw [start 1 0 p (by decide) (by funext b; fin_cases b <;> rfl) rfl ea,
      show GatherDims.offCoord _ i _ = 0 from dif_neg (by decide),
      show GatherDims.batchCoord _ i _ = 0 from dif_neg (by decide)]; rfl
  · show GatherDims.start _ i _ 2 + GatherDims.batchCoord _ i 2 + GatherDims.offCoord _ i 2 = q.val
    rw [start 2 1 q (by decide) (by funext b; fin_cases b <;> rfl) rfl eb,
      show GatherDims.offCoord _ i _ = 0 from dif_neg (by decide),
      show GatherDims.batchCoord _ i _ = 0 from dif_neg (by decide)]; rfl

/-- The entry at the row and the column before the position. -/
theorem read_top_left (i : S128x512x512.Idx) (p q : Fin 512)
    (hp : wrap (V (Proc.devRef .tc main_v176) (ix3 (i 0) (i 1) (0 : Fin 1))) = word p.val)
    (hq : wrap (V (Proc.devRef .tc main_v184) (ix3 (i 0) (0 : Fin 1) (i 2))) = word q.val) :
    StableHlo.after lineTopLeft V (Proc.devRef .tc main_v204) i = V (Proc.devRef .tc main_v43) (ix3 (i 0) p q) := by
  unfold lineTopLeft lineTopLeft₁ lineTopLeft₂
  after_reads_simp
  refine cells_at _ _ _ i p q ?_ ?_
  · pointwise []; exact hp
  · pointwise []; exact hq

/-- The entry at the row before and the column after. -/
theorem read_top_right (i : S128x512x512.Idx) (p q : Fin 512)
    (hp : wrap (V (Proc.devRef .tc main_v176) (ix3 (i 0) (i 1) (0 : Fin 1))) = word p.val)
    (hq : wrap (V (Proc.devRef .tc main_v188) (ix3 (i 0) (0 : Fin 1) (i 2))) = word q.val) :
    StableHlo.after lineTopRight V (Proc.devRef .tc main_v220) i = V (Proc.devRef .tc main_v43) (ix3 (i 0) p q) := by
  unfold lineTopRight
  after_reads_simp
  refine cells_at _ _ _ i p q ?_ ?_
  · pointwise []; exact hp
  · pointwise []; exact hq

/-- The entry at the row after and the column before. -/
theorem read_bot_left (i : S128x512x512.Idx) (p q : Fin 512)
    (hp : wrap (V (Proc.devRef .tc main_v180) (ix3 (i 0) (i 1) (0 : Fin 1))) = word p.val)
    (hq : wrap (V (Proc.devRef .tc main_v184) (ix3 (i 0) (0 : Fin 1) (i 2))) = word q.val) :
    StableHlo.after lineBotLeft V (Proc.devRef .tc main_v236) i = V (Proc.devRef .tc main_v43) (ix3 (i 0) p q) := by
  unfold lineBotLeft
  after_reads_simp
  refine cells_at _ _ _ i p q ?_ ?_
  · pointwise []; exact hp
  · pointwise []; exact hq

/-- The entry at the row and the column after. -/
theorem read_bot_right (i : S128x512x512.Idx) (p q : Fin 512)
    (hp : wrap (V (Proc.devRef .tc main_v180) (ix3 (i 0) (i 1) (0 : Fin 1))) = word p.val)
    (hq : wrap (V (Proc.devRef .tc main_v188) (ix3 (i 0) (0 : Fin 1) (i 2))) = word q.val) :
    StableHlo.after lineBotRight V (Proc.devRef .tc main_v252) i = V (Proc.devRef .tc main_v43) (ix3 (i 0) p q) := by
  unfold lineBotRight lineBotRight₁ lineBotRight₂
  after_reads_simp
  refine cells_at _ _ _ i p q ?_ ?_
  · pointwise []; exact hp
  · pointwise []; exact hq

end Cert.Focus.Ref

end
-- ==== Proof.Focus.RefMix.lean ====
/- The reference's stretches, read at one entry: the four neighbours and the blend. -/
module

public import proofs.«01_k».proof.Proof.Focus.Scalars
public import proofs.«01_k».proof.Proof.Focus.RefLine

@[expose] public section

set_option maxRecDepth 16384
set_option maxHeartbeats 2000000

noncomputable section

namespace Cert.Focus.Ref

open Idealize.ShloMosaic Idealize.SL.Sem Cert.ReferenceIdeal

variable (V : Valuation τ sig (Elt Ideal))

/-- Image `b`, channel `c` is one of the 128 images. -/
theorem flat_lt (b : Fin 4) (c : Fin 32) : b.val * 32 + c.val < 128 := by omega

/-- An extended real as such. -/
abbrev num (x : EReal) : EReal := x

/-- The result at one entry: the blend of the four neighbours where the output shows the box, zero elsewhere. -/
theorem read_mix (i : S4x512x512x32.Idx) : StableHlo.after lineMix V (Proc.devRef .tc main_v276) i
    = Scalar.select (V (Proc.devRef .tc main_v128) (ix3 (⟨(i 0).val * 32 + (i 3).val, flat_lt (i 0) (i 3)⟩ : Fin 128) (i 1) (i 2)))
      (((num (V (Proc.devRef .tc main_v204) (ix3 (⟨(i 0).val * 32 + (i 3).val, flat_lt (i 0) (i 3)⟩ : Fin 128) (i 1) (i 2)))) * ((1 : EReal) - (num (V (Proc.devRef .tc main_v172) (ix3 (⟨(i 0).val * 32 + (i 3).val, flat_lt (i 0) (i 3)⟩ : Fin 128) (0 : Fin 1) (i 2))))) + (num (V (Proc.devRef .tc main_v220) (ix3 (⟨(i 0).val * 32 + (i 3).val, flat_lt (i 0) (i 3)⟩ : Fin 128) (i 1) (i 2)))) * (num (V (Proc.devRef .tc main_v172) (ix3 (⟨(i 0).val * 32 + (i 3).val, flat_lt (i 0) (i 3)⟩ : Fin 128) (0 : Fin 1) (i 2))))) * ((1 : EReal) - (num (V (Proc.devRef .tc main_v169) (ix3 (⟨(i 0).val * 32 + (i 3).val, flat_lt (i 0) (i 3)⟩ : Fin 128) (i 1) (0 : Fin 1)))))
        + ((num (V (Proc.devRef .tc main_v236) (ix3 (⟨(i 0).val * 32 + (i 3).val, flat_lt (i 0) (i 3)⟩ : Fin 128) (i 1) (i 2)))) * ((1 : EReal) - (num (V (Proc.devRef .tc main_v172) (ix3 (⟨(i 0).val * 32 + (i 3).val, flat_lt (i 0) (i 3)⟩ : Fin 128) (0 : Fin 1) (i 2))))) + (num (V (Proc.devRef .tc main_v252) (ix3 (⟨(i 0).val * 32 + (i 3).val, flat_lt (i 0) (i 3)⟩ : Fin 128) (i 1) (i 2)))) * (num (V (Proc.devRef .tc main_v172) (ix3 (⟨(i 0).val * 32 + (i 3).val, flat_lt (i 0) (i 3)⟩ : Fin 128) (0 : Fin 1) (i 2))))) * (num (V (Proc.devRef .tc main_v169) (ix3 (⟨(i 0).val * 32 + (i 3).val, flat_lt (i 0) (i 3)⟩ : Fin 128) (i 1) (0 : Fin 1)))))
      (0 : EReal) := by
  unfold lineMix
  after_reads_at
  exact congrArg (Scalar.select _ _) Ideal.ofBits_zero_f32

end Cert.Focus.Ref

end
-- ==== Proof.Focus.RefPicture.lean ====
/- The reference paints the picture: its result, followed back through its stretches to the argument, one entry at a time. -/
module

public import proofs.«01_k».proof.Proof.Focus.Picture
public import proofs.«01_k».proof.Proof.Focus.RefFrame
public import proofs.«01_k».proof.Proof.Focus.RefScan
public import proofs.«01_k».proof.Proof.Focus.RefEdge
public import proofs.«01_k».proof.Proof.Focus.RefSizes
public import proofs.«01_k».proof.Proof.Focus.RefPlaces
public import proofs.«01_k».proof.Proof.Focus.RefLookups
public import proofs.«01_k».proof.Proof.Focus.RefMix

@[expose] public section

set_option maxRecDepth 16384
set_option maxHeartbeats 2000000

noncomputable section

namespace Cert.Focus.Ref

open Idealize.ShloMosaic Idealize.SL.Sem Cert.ReferenceIdeal

/-- What a buffer holds. -/
abbrev held (V : Valuation τ sig (Elt Ideal)) (r : Ref sig .tc) := V (Proc.devRef .tc r)

/-- The argument's image `n`. -/
def imageOf (V : Valuation τ sig (Elt Ideal)) (n : Fin 128) (y w : Fin 512) : EReal := V (Proc.devRef .tc main_arg0) (ix4 (batch n) y w (chan n))

/-- Which rows of an image have a large entry. -/
def rowsLive (X : Fin 512 → Fin 512 → EReal) (y : Fin 512) : BitVec 32 := live fun w => X y w
/-- Which columns do. -/
def colsLive (X : Fin 512 → Fin 512 → EReal) (w : Fin 512) : BitVec 32 := live fun y => X y w

/-- Every row's flag is 0 or 1. -/
theorem rowsLive_flag (X : Fin 512 → Fin 512 → EReal) : Flag (rowsLive X) := fun _ => live_cases _
/-- Every column's flag is 0 or 1. -/
theorem colsLive_flag (X : Fin 512 → Fin 512 → EReal) : Flag (colsLive X) := fun _ => live_cases _

variable (V : Valuation τ sig (Elt Ideal))

/-! ## The buffers, stretch after stretch -/

/-- What the buffers hold after the scans. -/
def V1 := StableHlo.after lineScan V
/-- What the buffers hold after the edges. -/
def V2 := StableHlo.after lineEdge (V1 V)
/-- What the buffers hold after the sizes of the box. -/
def V3 := StableHlo.after lineSize (V2 V)
/-- What the buffers hold after the enlarged sizes. -/
def V4 := StableHlo.after lineGrow (V3 V)
/-- What the buffers hold after the rows shown. -/
def V5 := StableHlo.after lineRow (V4 V)
/-- What the buffers hold after the columns shown. -/
def V6 := StableHlo.after lineCol (V5 V)
/-- What the buffers hold after the test of what is shown. -/
def V7 := StableHlo.after lineInside (V6 V)
/-- What the buffers hold after the positions. -/
def V8 := StableHlo.after linePos (V7 V)
/-- What the buffers hold after the neighbours and weights. -/
def V9 := StableHlo.after lineNear (V8 V)
/-- What the buffers hold after the neighbours' numbers in the image. -/
def V10 := StableHlo.after lineCell (V9 V)
/-- What the buffers hold after the look-up at the row before and the column before. -/
def V11 := StableHlo.after lineTopLeft (V10 V)
/-- What the buffers hold after the look-up at the row before and the column after. -/
def V12 := StableHlo.after lineTopRight (V11 V)
/-- What the buffers hold after the look-up at the row after and the column before. -/
def V13 := StableHlo.after lineBotLeft (V12 V)
/-- What the buffers hold after the look-up at the row after and the column after. -/
def V14 := StableHlo.after lineBotRight (V13 V)
/-- What the buffers hold after the blend. -/
def V15 := StableHlo.after lineMix (V14 V)

/-- The stretches one after another are the whole line. -/
theorem all_stretches : StableHlo.after line V = V15 V := stretches V

variable {V} {n : Fin 128} {lo c R lo' c' R' : ℤ}

/-! ## The box -/

/-- The columns' flags. -/
theorem flag_col (w : Fin 512) : V1 V (Proc.devRef .tc main_v10) (ix3 (batch n) w (chan n)) = colsLive (imageOf V n) w := by
  unfold V1
  rw [read_live_col, topCols_at]
  rfl

/-- The rows' flags. -/
theorem flag_row (y : Fin 512) : V1 V (Proc.devRef .tc main_v21) (ix3 (batch n) y (chan n)) = rowsLive (imageOf V n) y := by
  unfold V1
  rw [read_live_row, topRows_at]
  rfl

/-- The images, one after another. -/
theorem image_at (y w : Fin 512) : V2 V (Proc.devRef .tc main_v43) (ix3 n y w) = imageOf V n y w := by
  unfold V2
  rw [read_image]
  show V1 V (Proc.devRef .tc main_arg0) _ = _
  unfold V1
  rw [keepScan _ (by decide)]
  rfl

/-- The first row of the box. -/
theorem first_row : V2 V (Proc.devRef .tc main_v45) (ix1 n) = firstLine (rowsLive (imageOf V n)) :=
  read_first_row _ _ (rowsLive_flag _) fun w => flag_row w
/-- The last row of the box. -/
theorem last_row : V2 V (Proc.devRef .tc main_v47) (ix1 n) = lastLine (rowsLive (imageOf V n)) :=
  read_last_row _ _ (rowsLive_flag _) fun w => flag_row w
/-- The first column of the box. -/
theorem first_col : V2 V (Proc.devRef .tc main_v44) (ix1 n) = firstLine (colsLive (imageOf V n)) :=
  read_first_col _ _ (colsLive_flag _) fun w => flag_col w
/-- The last column of the box. -/
theorem last_col : V2 V (Proc.devRef .tc main_v46) (ix1 n) = lastLine (colsLive (imageOf V n)) :=
  read_last_col _ _ (colsLive_flag _) fun w => flag_col w

variable (hb : Box (rowsLive (imageOf V n)) (colsLive (imageOf V n)) lo c R lo' c' R')

include hb

/-- The box's number of rows. -/
theorem size_row : V3 V (Proc.devRef .tc main_v50) (ix1 n) = word c := by
  unfold V3
  rw [read_size_h, first_row, last_row, hb.size]

/-- The box's number of columns. -/
theorem size_col : V3 V (Proc.devRef .tc main_v53) (ix1 n) = word c' := by
  unfold V3
  rw [read_size_w, first_col, last_col, hb.size']

/-- The enlarged number of rows. -/
theorem grown_row : V4 V (Proc.devRef .tc main_v68) (ix1 n) = word R := by
  unfold V4
  rw [read_grown_h, size_row hb, size_col hb, hb.grow]

/-- The enlarged number of columns. -/
theorem grown_col : V4 V (Proc.devRef .tc main_v72) (ix1 n) = word R' := by
  unfold V4
  rw [read_grown_w, size_row hb, size_col hb, hb.grow']

/-! ## Where each output line looks -/

/-- The row of the enlarged box that an output row shows. -/
theorem shown_row (i : Fin 512) : V5 V (Proc.devRef .tc main_v94) (ix3 n i (0 : Fin 1)) = word (i.val - before R) := by
  unfold V5
  refine (read_shown_row _ _).trans ?_
  refine (congrArg₂ (shown hostHalf) (grown_row hb) (word_nat i.val)).trans ?_
  exact shown_word (by have := hb.fits.c_pos; have := hb.fits.grows; omega) hb.fits.small (.inl rfl) _

/-- The enlarged number of columns, when the columns shown are computed. -/
theorem grown_col_6 : V5 V (Proc.devRef .tc main_v72) (ix1 n) = word R' := by
  unfold V5
  rw [keepRow _ (by decide), grown_col hb]

/-- The column of the enlarged box that an output column shows. -/
theorem shown_col (j : Fin 512) : V6 V (Proc.devRef .tc main_v112) (ix3 n (0 : Fin 1) j) = word (j.val - before R') := by
  unfold V6
  refine (read_shown_col _ _).trans ?_
  have e : V5 V (Proc.devRef .tc main_v76) (ix2 (0 : Fin 1) j) = word j.val := by
    unfold V5
    exact (read_numbers _ _).trans (word_nat j.val)
  refine (congrArg₂ (shown hostHalf) (grown_col_6 hb) e).trans ?_
  exact shown_word (by have := hb.fits'.c_pos; have := hb.fits'.grows; omega) hb.fits'.small (.inl rfl) _

omit hb in
/-- A buffer that the stretches from `Row` to `Col` do not write. -/
theorem kept_6 {r : Ref sig .tc} (h₁ : r ∉ wRow) (h₂ : r ∉ wCol) : V6 V (Proc.devRef .tc r) = V4 V (Proc.devRef .tc r) := by
  unfold V6 V5
  rw [keepCol _ h₂, keepRow _ h₁]

/-- The rows shown, once the columns shown are known. -/
theorem shown_row_6 (i : Fin 512) : V6 V (Proc.devRef .tc main_v94) (ix3 n i (0 : Fin 1)) = word (i.val - before R) := by
  unfold V6
  rw [keepCol _ (by decide)]
  exact shown_row hb i

/-- The enlarged number of rows, once the columns shown are known. -/
theorem grown_row_6 : V6 V (Proc.devRef .tc main_v68) (ix1 n) = word R := by
  rw [kept_6 (by decide) (by decide), grown_row hb]
/-- The enlarged number of columns, once the columns shown are known. -/
theorem grown_col_7 : V6 V (Proc.devRef .tc main_v72) (ix1 n) = word R' := by
  rw [kept_6 (by decide) (by decide), grown_col hb]
/-- The box's number of rows, once the columns shown are known. -/
theorem size_row_6 : V6 V (Proc.devRef .tc main_v50) (ix1 n) = word c := by
  rw [kept_6 (by decide) (by decide)]
  unfold V4
  rw [keepGrow _ (by decide), size_row hb]
/-- The box's number of columns, once the columns shown are known. -/
theorem size_col_6 : V6 V (Proc.devRef .tc main_v53) (ix1 n) = word c' := by
  rw [kept_6 (by decide) (by decide)]
  unfold V4
  rw [keepGrow _ (by decide), size_col hb]

omit hb in
/-- The zeros before an enlarged box are at most half the image. -/
theorem small_before {R : ℤ} (h : Fits lo c R) : 0 ≤ before R ∧ before R ≤ 256 := by
  have := h.c_pos; have := h.grows; have := h.small
  unfold before
  omega

/-- Whether an output entry shows the box. -/
theorem inside_at (i j : Fin 512) : V7 V (Proc.devRef .tc main_v128) (ix3 n i j)
    = BitVec.ofBool (decide ((0 ≤ (i.val : ℤ) - before R ∧ (i.val : ℤ) - before R < R) ∧ (0 ≤ (j.val : ℤ) - before R' ∧ (j.val : ℤ) - before R' < R'))) := by
  obtain ⟨x₁, x₂⟩ := small_before hb.fits
  obtain ⟨y₁, y₂⟩ := small_before hb.fits'
  have := hb.fits.c_pos; have := hb.fits.grows; have := hb.fits.small
  have := hb.fits'.c_pos; have := hb.fits'.grows; have := hb.fits'.small
  have hi := i.isLt
  have hj := j.isLt
  unfold V7
  refine (read_inside _ _).trans ?_
  have e₁ : V6 V (Proc.devRef .tc main_v94) (ix3 n i (0 : Fin 1)) = word (i.val - before R) := shown_row_6 hb i
  have e₂ : V6 V (Proc.devRef .tc main_v112) (ix3 n (0 : Fin 1) j) = word (j.val - before R') := shown_col hb j
  show IntOp.andi (IntOp.andi (inside (V6 V (Proc.devRef .tc main_v68) (ix1 n)) (V6 V (Proc.devRef .tc main_v94) (ix3 n i (0 : Fin 1))))
      (IntOp.cmpi .sge (V6 V (Proc.devRef .tc main_v112) (ix3 n (0 : Fin 1) j)) (word 0)))
    (IntOp.cmpi .slt (V6 V (Proc.devRef .tc main_v112) (ix3 n (0 : Fin 1) j)) (V6 V (Proc.devRef .tc main_v72) (ix1 n))) = _
  rw [e₁, e₂, grown_row_6 hb, grown_col_7 hb, inside_word ⟨by omega, by omega⟩ ⟨by omega, by omega⟩,
    sge_word ⟨by omega, by omega⟩ ⟨by omega, by omega⟩, slt_cmp_word ⟨by omega, by omega⟩ ⟨by omega, by omega⟩, andi_bool, andi_bool]
  congr 1
  simp only [Bool.decide_and, Bool.and_assoc]

omit hb in
/-- What the test of what is shown does not write. -/
theorem kept_7 {r : Ref sig .tc} (h : r ∉ wInside) : V7 V (Proc.devRef .tc r) = V6 V (Proc.devRef .tc r) := by
  unfold V7
  rw [keepInside _ h]

omit hb in
/-- What the test and the positions do not write. -/
theorem kept_8 {r : Ref sig .tc} (h₁ : r ∉ wInside) (h₂ : r ∉ wPos) : V8 V (Proc.devRef .tc r) = V6 V (Proc.devRef .tc r) := by
  unfold V8
  rw [keepPos _ h₂, kept_7 h₁]

/-- A row's position in the box. -/
theorem place_row (i : Fin 512) : V8 V (Proc.devRef .tc main_v135) (ix3 n i (0 : Fin 1)) = ((pos c R (i.val - before R) : ℝ) : EReal) := by
  obtain ⟨x₁, x₂⟩ := small_before hb.fits
  have hi := i.isLt
  unfold V8
  refine (read_place_row _ _).trans ?_
  show place (V7 V (Proc.devRef .tc main_v50) (ix1 n)) (V7 V (Proc.devRef .tc main_v68) (ix1 n)) (V7 V (Proc.devRef .tc main_v94) (ix3 n i (0 : Fin 1))) = _
  rw [kept_7 (by decide), kept_7 (by decide), kept_7 (by decide), size_row_6 hb, grown_row_6 hb]
  refine (congrArg (place _ _) (shown_row_6 hb i)).trans ?_
  exact place_word hb.fits ⟨by omega, by omega⟩

/-- A column's position in the box. -/
theorem place_col (j : Fin 512) : V8 V (Proc.devRef .tc main_v142) (ix3 n (0 : Fin 1) j) = ((pos c' R' (j.val - before R') : ℝ) : EReal) := by
  obtain ⟨x₁, x₂⟩ := small_before hb.fits'
  have hj := j.isLt
  unfold V8
  refine (read_place_col _ _).trans ?_
  show place (V7 V (Proc.devRef .tc main_v53) (ix1 n)) (V7 V (Proc.devRef .tc main_v72) (ix1 n)) (V7 V (Proc.devRef .tc main_v112) (ix3 n (0 : Fin 1) j)) = _
  rw [kept_7 (by decide), kept_7 (by decide), kept_7 (by decide), size_col_6 hb, grown_col_7 hb]
  refine (congrArg (place _ _) (shown_col hb j)).trans ?_
  exact place_word hb.fits' ⟨by omega, by omega⟩

/-- The box's number of rows, once the positions are known. -/
theorem size_row_8 : V8 V (Proc.devRef .tc main_v50) (ix1 n) = word c := by
  rw [kept_8 (by decide) (by decide), size_row_6 hb]
/-- The box's number of columns, once the positions are known. -/
theorem size_col_8 : V8 V (Proc.devRef .tc main_v53) (ix1 n) = word c' := by
  rw [kept_8 (by decide) (by decide), size_col_6 hb]

end Cert.Focus.Ref

end
-- ==== Proof.Focus.RefPaint.lean ====
/- The reference paints the picture: the neighbours, the look-ups and the blend. -/
module

public import proofs.«01_k».proof.Proof.Focus.RefPicture

@[expose] public section

set_option maxRecDepth 16384
set_option maxHeartbeats 2000000

noncomputable section

namespace Cert.Focus.Ref

open Idealize.ShloMosaic Idealize.SL.Sem Cert.ReferenceIdeal

variable {V : Valuation τ sig (Elt Ideal)} {n : Fin 128} {lo c R lo' c' R' : ℤ}

/-- The neighbour before a position, from the position. -/
theorem near_pos (h : Fits lo c R) {p : ℤ} (h₀ : 0 ≤ p) (h₁ : p < R) : near (word c) ((pos c R p : ℝ) : EReal) = word (lower c R p) := by
  obtain ⟨b₀, b₁⟩ := pos_bounds h h₀ h₁
  have := h.c_pos; have := h.grows; have := h.small
  exact near_word ⟨by omega, by omega⟩ h.c_pos b₀ b₁

/-- The neighbour after it. -/
theorem next_pos (h : Fits lo c R) {p : ℤ} (h₀ : 0 ≤ p) (h₁ : p < R) :
    next (word c) (near (word c) ((pos c R p : ℝ) : EReal)) = word (upper c R p) := by
  obtain ⟨l₀, l₁, -, -⟩ := neighbours h h₀ h₁
  have := h.c_pos; have := h.grows; have := h.small
  rw [near_pos h h₀ h₁]
  exact next_word ⟨by omega, by omega⟩ h.c_pos l₀ l₁

/-- The weight of the neighbour after. -/
theorem weight_pos (h : Fits lo c R) {p : ℤ} (h₀ : 0 ≤ p) (h₁ : p < R) :
    weight ((pos c R p : ℝ) : EReal) (near (word c) ((pos c R p : ℝ) : EReal)) = ((share c R p : ℝ) : EReal) := by
  obtain ⟨l₀, l₁, -, -⟩ := neighbours h h₀ h₁
  have := h.c_pos; have := h.grows; have := h.small
  rw [near_pos h h₀ h₁]
  exact weight_word ⟨by omega, by omega⟩ (Int.floor_le _) (Int.lt_floor_add_one _).le

/-- A line of the box, as the look-ups take it. -/
theorem cell_line {a : ℤ} (h₀ : 0 ≤ lo + a) (h₁ : lo + a ≤ 511) : wrap (cell (word lo) (word a)) = word (lineNo (lo + a)).val := by
  rw [cell_word h₀ h₁, wrap_word h₀ h₁, ← lineNo_word h₀ h₁]

variable (hb : Box (rowsLive (imageOf V n)) (colsLive (imageOf V n)) lo c R lo' c' R')

/-- A buffer that the stretches between the second and the ninth do not write. -/
theorem kept_9 {r : Ref sig .tc} (h₁ : r ∉ wSize) (h₂ : r ∉ wGrow) (h₃ : r ∉ wRow) (h₄ : r ∉ wCol) (h₅ : r ∉ wInside)
    (h₆ : r ∉ wPos) (h₇ : r ∉ wNear) : V9 V (Proc.devRef .tc r) = V2 V (Proc.devRef .tc r) := by
  unfold V9
  rw [keepNear _ h₇, kept_8 h₅ h₆, kept_6 h₃ h₄]
  unfold V4 V3
  rw [keepGrow _ h₂, keepSize _ h₁]

/-- What the look-ups do not write is as it was before them. -/
theorem kept_14 {r : Ref sig .tc} (h₁ : r ∉ wCell) (h₂ : r ∉ wTopLeft) (h₃ : r ∉ wTopRight) (h₄ : r ∉ wBotLeft)
    (h₅ : r ∉ wBotRight) : V14 V (Proc.devRef .tc r) = V9 V (Proc.devRef .tc r) := by
  unfold V14 V13 V12 V11 V10
  rw [keepBotRight _ h₅, keepBotLeft _ h₄, keepTopRight _ h₃, keepTopLeft _ h₂, keepCell _ h₁]

/-- The images are still there when the look-ups begin. -/
theorem image_10 (y w : Fin 512) : V10 V (Proc.devRef .tc main_v43) (ix3 n y w) = imageOf V n y w := by
  unfold V10
  rw [keepCell _ (by decide), kept_9 (by decide) (by decide) (by decide) (by decide) (by decide) (by decide) (by decide), image_at]

include hb

/-- The first row of the box. -/
theorem first_row_9 : V9 V (Proc.devRef .tc main_v45) (ix1 n) = word lo := by
  rw [kept_9 (by decide) (by decide) (by decide) (by decide) (by decide) (by decide) (by decide), first_row, hb.first]
/-- The first column of the box. -/
theorem first_col_9 : V9 V (Proc.devRef .tc main_v44) (ix1 n) = word lo' := by
  rw [kept_9 (by decide) (by decide) (by decide) (by decide) (by decide) (by decide) (by decide), first_col, hb.first']

/-! ## The rows -/

/-- The weight of the row after, for an output row that shows something. -/
theorem weight_row (i : Fin 512) (h₀ : 0 ≤ (i.val : ℤ) - before R) (h₁ : (i.val : ℤ) - before R < R) :
    V9 V (Proc.devRef .tc main_v169) (ix3 n i (0 : Fin 1)) = ((share c R (i.val - before R) : ℝ) : EReal) := by
  unfold V9
  refine (read_weight_row _ _).trans ?_
  show weight (V8 V (Proc.devRef .tc main_v135) (ix3 n i (0 : Fin 1))) (near (V8 V (Proc.devRef .tc main_v50) (ix1 n)) (V8 V (Proc.devRef .tc main_v135) (ix3 n i (0 : Fin 1)))) = _
  rw [place_row hb, size_row_8 hb, weight_pos hb.fits h₀ h₁]

/-- The row of the box before the position. -/
theorem near_row (i : Fin 512) (h₀ : 0 ≤ (i.val : ℤ) - before R) (h₁ : (i.val : ℤ) - before R < R) :
    V9 V (Proc.devRef .tc main_v147) (ix3 n i (0 : Fin 1)) = word (lower c R (i.val - before R)) := by
  unfold V9
  refine (read_near_row _ _).trans ?_
  show near (V8 V (Proc.devRef .tc main_v50) (ix1 n)) (V8 V (Proc.devRef .tc main_v135) (ix3 n i (0 : Fin 1))) = _
  rw [place_row hb, size_row_8 hb, near_pos hb.fits h₀ h₁]

/-- The row of the box after the position. -/
theorem next_row (i : Fin 512) (h₀ : 0 ≤ (i.val : ℤ) - before R) (h₁ : (i.val : ℤ) - before R < R) :
    V9 V (Proc.devRef .tc main_v159) (ix3 n i (0 : Fin 1)) = word (upper c R (i.val - before R)) := by
  unfold V9
  refine (read_next_row _ _).trans ?_
  show next (V8 V (Proc.devRef .tc main_v50) (ix1 n)) (near (V8 V (Proc.devRef .tc main_v50) (ix1 n)) (V8 V (Proc.devRef .tc main_v135) (ix3 n i (0 : Fin 1)))) = _
  rw [place_row hb, size_row_8 hb, next_pos hb.fits h₀ h₁]

/-- The image row before the position. -/
theorem cell_row_near (i : Fin 512) (h₀ : 0 ≤ (i.val : ℤ) - before R) (h₁ : (i.val : ℤ) - before R < R) :
    wrap (V10 V (Proc.devRef .tc main_v176) (ix3 n i (0 : Fin 1))) = word (lineNo (lo + lower c R (i.val - before R))).val := by
  obtain ⟨l₀, l₁, l₂, l₃⟩ := neighbours hb.fits h₀ h₁
  have := hb.fits.lo_nonneg; have := hb.fits.inside
  unfold V10
  refine (congrArg wrap (read_cell_row_near _ _)).trans ?_
  show wrap (cell (V9 V (Proc.devRef .tc main_v45) (ix1 n)) (V9 V (Proc.devRef .tc main_v147) (ix3 n i (0 : Fin 1)))) = _
  rw [first_row_9 hb, near_row hb i h₀ h₁, cell_line (by omega) (by omega)]

/-- The image row after the position. -/
theorem cell_row_next (i : Fin 512) (h₀ : 0 ≤ (i.val : ℤ) - before R) (h₁ : (i.val : ℤ) - before R < R) :
    wrap (V10 V (Proc.devRef .tc main_v180) (ix3 n i (0 : Fin 1))) = word (lineNo (lo + upper c R (i.val - before R))).val := by
  obtain ⟨l₀, l₁, l₂, l₃⟩ := neighbours hb.fits h₀ h₁
  have := hb.fits.lo_nonneg; have := hb.fits.inside
  unfold V10
  refine (congrArg wrap (read_cell_row_next _ _)).trans ?_
  show wrap (cell (V9 V (Proc.devRef .tc main_v45) (ix1 n)) (V9 V (Proc.devRef .tc main_v159) (ix3 n i (0 : Fin 1)))) = _
  rw [first_row_9 hb, next_row hb i h₀ h₁, cell_line (by omega) (by omega)]

/-! ## The columns -/

/-- The weight of the column after, for an output column that shows something. -/
theorem weight_col (j : Fin 512) (h₀ : 0 ≤ (j.val : ℤ) - before R') (h₁ : (j.val : ℤ) - before R' < R') :
    V9 V (Proc.devRef .tc main_v172) (ix3 n (0 : Fin 1) j) = ((share c' R' (j.val - before R') : ℝ) : EReal) := by
  unfold V9
  refine (read_weight_col _ _).trans ?_
  show weight (V8 V (Proc.devRef .tc main_v142) (ix3 n (0 : Fin 1) j)) (near (V8 V (Proc.devRef .tc main_v53) (ix1 n)) (V8 V (Proc.devRef .tc main_v142) (ix3 n (0 : Fin 1) j))) = _
  rw [place_col hb, size_col_8 hb, weight_pos hb.fits' h₀ h₁]

/-- The column of the box before the position. -/
theorem near_col (j : Fin 512) (h₀ : 0 ≤ (j.val : ℤ) - before R') (h₁ : (j.val : ℤ) - before R' < R') :
    V9 V (Proc.devRef .tc main_v152) (ix3 n (0 : Fin 1) j) = word (lower c' R' (j.val - before R')) := by
  unfold V9
  refine (read_near_col _ _).trans ?_
  show near (V8 V (Proc.devRef .tc main_v53) (ix1 n)) (V8 V (Proc.devRef .tc main_v142) (ix3 n (0 : Fin 1) j)) = _
  rw [place_col hb, size_col_8 hb, near_pos hb.fits' h₀ h₁]

/-- The column of the box after the position. -/
theorem next_col (j : Fin 512) (h₀ : 0 ≤ (j.val : ℤ) - before R') (h₁ : (j.val : ℤ) - before R' < R') :
    V9 V (Proc.devRef .tc main_v166) (ix3 n (0 : Fin 1) j) = word (upper c' R' (j.val - before R')) := by
  unfold V9
  refine (read_next_col _ _).trans ?_
  show next (V8 V (Proc.devRef .tc main_v53) (ix1 n)) (near (V8 V (Proc.devRef .tc main_v53) (ix1 n)) (V8 V (Proc.devRef .tc main_v142) (ix3 n (0 : Fin 1) j))) = _
  rw [place_col hb, size_col_8 hb, next_pos hb.fits' h₀ h₁]

/-- The image column before the position. -/
theorem cell_col_near (j : Fin 512) (h₀ : 0 ≤ (j.val : ℤ) - before R') (h₁ : (j.val : ℤ) - before R' < R') :
    wrap (V10 V (Proc.devRef .tc main_v184) (ix3 n (0 : Fin 1) j)) = word (lineNo (lo' + lower c' R' (j.val - before R'))).val := by
  obtain ⟨l₀, l₁, l₂, l₃⟩ := neighbours hb.fits' h₀ h₁
  have := hb.fits'.lo_nonneg; have := hb.fits'.inside
  unfold V10
  refine (congrArg wrap (read_cell_col_near _ _)).trans ?_
  show wrap (cell (V9 V (Proc.devRef .tc main_v44) (ix1 n)) (V9 V (Proc.devRef .tc main_v152) (ix3 n (0 : Fin 1) j))) = _
  rw [first_col_9 hb, near_col hb j h₀ h₁, cell_line (by omega) (by omega)]

/-- The image column after the position. -/
theorem cell_col_next (j : Fin 512) (h₀ : 0 ≤ (j.val : ℤ) - before R') (h₁ : (j.val : ℤ) - before R' < R') :
    wrap (V10 V (Proc.devRef .tc main_v188) (ix3 n (0 : Fin 1) j)) = word (lineNo (lo' + upper c' R' (j.val - before R'))).val := by
  obtain ⟨l₀, l₁, l₂, l₃⟩ := neighbours hb.fits' h₀ h₁
  have := hb.fits'.lo_nonneg; have := hb.fits'.inside
  unfold V10
  refine (congrArg wrap (read_cell_col_next _ _)).trans ?_
  show wrap (cell (V9 V (Proc.devRef .tc main_v44) (ix1 n)) (V9 V (Proc.devRef .tc main_v166) (ix3 n (0 : Fin 1) j))) = _
  rw [first_col_9 hb, next_col hb j h₀ h₁, cell_line (by omega) (by omega)]

/-! ## The four look-ups -/

/-- The entry at the row before and the column before. -/
theorem top_left (i j : Fin 512) (h₀ : 0 ≤ (i.val : ℤ) - before R) (h₁ : (i.val : ℤ) - before R < R)
    (h₀' : 0 ≤ (j.val : ℤ) - before R') (h₁' : (j.val : ℤ) - before R' < R') :
    V14 V (Proc.devRef .tc main_v204) (ix3 n i j)
      = imageOf V n (lineNo (lo + lower c R (i.val - before R))) (lineNo (lo' + lower c' R' (j.val - before R'))) := by
  have er : wrap (V10 V (Proc.devRef .tc main_v176) (ix3 n i (0 : Fin 1))) = word (lineNo (lo + lower c R (i.val - before R))).val := by
    exact cell_row_near hb i h₀ h₁
  have ec : wrap (V10 V (Proc.devRef .tc main_v184) (ix3 n (0 : Fin 1) j)) = word (lineNo (lo' + lower c' R' (j.val - before R'))).val := by
    exact cell_col_near hb j h₀' h₁'
  have ei : ∀ y w : Fin 512, V10 V (Proc.devRef .tc main_v43) (ix3 n y w) = imageOf V n y w := by
    intro y w
    exact image_10 y w
  unfold V14 V13 V12 V11
  rw [keepBotRight _ (by decide), keepBotLeft _ (by decide), keepTopRight _ (by decide)]
  exact (read_top_left (V10 V) (ix3 n i j) _ _ er ec).trans (ei _ _)

/-- The entry at the row before and the column after. -/
theorem top_right (i j : Fin 512) (h₀ : 0 ≤ (i.val : ℤ) - before R) (h₁ : (i.val : ℤ) - before R < R)
    (h₀' : 0 ≤ (j.val : ℤ) - before R') (h₁' : (j.val : ℤ) - before R' < R') :
    V14 V (Proc.devRef .tc main_v220) (ix3 n i j)
      = imageOf V n (lineNo (lo + lower c R (i.val - before R))) (lineNo (lo' + upper c' R' (j.val - before R'))) := by
  have er : wrap (V11 V (Proc.devRef .tc main_v176) (ix3 n i (0 : Fin 1))) = word (lineNo (lo + lower c R (i.val - before R))).val := by
    unfold V11
    rw [keepTopLeft _ (by decide)]
    exact cell_row_near hb i h₀ h₁
  have ec : wrap (V11 V (Proc.devRef .tc main_v188) (ix3 n (0 : Fin 1) j)) = word (lineNo (lo' + upper c' R' (j.val - before R'))).val := by
    unfold V11
    rw [keepTopLeft _ (by decide)]
    exact cell_col_next hb j h₀' h₁'
  have ei : ∀ y w : Fin 512, V11 V (Proc.devRef .tc main_v43) (ix3 n y w) = imageOf V n y w := by
    intro y w
    unfold V11
    rw [keepTopLeft _ (by decide)]
    exact image_10 y w
  unfold V14 V13 V12
  rw [keepBotRight _ (by decide), keepBotLeft _ (by decide)]
  exact (read_top_right (V11 V) (ix3 n i j) _ _ er ec).trans (ei _ _)

/-- The entry at the row after and the column before. -/
theorem bot_left (i j : Fin 512) (h₀ : 0 ≤ (i.val : ℤ) - before R) (h₁ : (i.val : ℤ) - before R < R)
    (h₀' : 0 ≤ (j.val : ℤ) - before R') (h₁' : (j.val : ℤ) - before R' < R') :
    V14 V (Proc.devRef .tc main_v236) (ix3 n i j)
      = imageOf V n (lineNo (lo + upper c R (i.val - before R))) (lineNo (lo' + lower c' R' (j.val - before R'))) := by
  have er : wrap (V12 V (Proc.devRef .tc main_v180) (ix3 n i (0 : Fin 1))) = word (lineNo (lo + upper c R (i.val - before R))).val := by
    unfold V12 V11
    rw [keepTopRight _ (by decide), keepTopLeft _ (by decide)]
    exact cell_row_next hb i h₀ h₁
  have ec : wrap (V12 V (Proc.devRef .tc main_v184) (ix3 n (0 : Fin 1) j)) = word (lineNo (lo' + lower c' R' (j.val - before R'))).val := by
    unfold V12 V11
    rw [keepTopRight _ (by decide), keepTopLeft _ (by decide)]
    exact cell_col_near hb j h₀' h₁'
  have ei : ∀ y w : Fin 512, V12 V (Proc.devRef .tc main_v43) (ix3 n y w) = imageOf V n y w := by
    intro y w
    unfold V12 V11
    rw [keepTopRight _ (by decide), keepTopLeft _ (by decide)]
    exact image_10 y w
  unfold V14 V13
  rw [keepBotRight _ (by decide)]
  exact (read_bot_left (V12 V) (ix3 n i j) _ _ er ec).trans (ei _ _)

/-- The entry at the row after and the column after. -/
theorem bot_right (i j : Fin 512) (h₀ : 0 ≤ (i.val : ℤ) - before R) (h₁ : (i.val : ℤ) - before R < R)
    (h₀' : 0 ≤ (j.val : ℤ) - before R') (h₁' : (j.val : ℤ) - before R' < R') :
    V14 V (Proc.devRef .tc main_v252) (ix3 n i j)
      = imageOf V n (lineNo (lo + upper c R (i.val - before R))) (lineNo (lo' + upper c' R' (j.val - before R'))) := by
  have er : wrap (V13 V (Proc.devRef .tc main_v180) (ix3 n i (0 : Fin 1))) = word (lineNo (lo + upper c R (i.val - before R))).val := by
    unfold V13 V12 V11
    rw [keepBotLeft _ (by decide), keepTopRight _ (by decide), keepTopLeft _ (by decide)]
    exact cell_row_next hb i h₀ h₁
  have ec : wrap (V13 V (Proc.devRef .tc main_v188) (ix3 n (0 : Fin 1) j)) = word (lineNo (lo' + upper c' R' (j.val - before R'))).val := by
    unfold V13 V12 V11
    rw [keepBotLeft _ (by decide), keepTopRight _ (by decide), keepTopLeft _ (by decide)]
    exact cell_col_next hb j h₀' h₁'
  have ei : ∀ y w : Fin 512, V13 V (Proc.devRef .tc main_v43) (ix3 n y w) = imageOf V n y w := by
    intro y w
    unfold V13 V12 V11
    rw [keepBotLeft _ (by decide), keepTopRight _ (by decide), keepTopLeft _ (by decide)]
    exact image_10 y w
  unfold V14
  exact (read_bot_right (V13 V) (ix3 n i j) _ _ er ec).trans (ei _ _)

/-! ## The result -/

/-- The reference's result at one entry is the picture's. -/
theorem result_at (b : Fin 4) (i j : Fin 512) (ch : Fin 32) (hn : n = ⟨b.val * 32 + ch.val, flat_lt b ch⟩) :
    StableHlo.after line V (Proc.devRef .tc main_v276) (ix4 b i j ch) = picture (imageOf V n) lo c R lo' c' R' i j := by
  rw [all_stretches]
  unfold V15
  refine (read_mix _ _).trans ?_
  show Scalar.select (V14 V (Proc.devRef .tc main_v128) (ix3 (⟨b.val * 32 + ch.val, flat_lt b ch⟩ : Fin 128) i j)) (
    (num (V14 V (Proc.devRef .tc main_v204) (ix3 (⟨b.val * 32 + ch.val, flat_lt b ch⟩ : Fin 128) i j)) * (1 - num (V14 V (Proc.devRef .tc main_v172) (ix3 (⟨b.val * 32 + ch.val, flat_lt b ch⟩ : Fin 128) (0 : Fin 1) j)))
          + num (V14 V (Proc.devRef .tc main_v220) (ix3 (⟨b.val * 32 + ch.val, flat_lt b ch⟩ : Fin 128) i j)) * num (V14 V (Proc.devRef .tc main_v172) (ix3 (⟨b.val * 32 + ch.val, flat_lt b ch⟩ : Fin 128) (0 : Fin 1) j)))
          * (1 - num (V14 V (Proc.devRef .tc main_v169) (ix3 (⟨b.val * 32 + ch.val, flat_lt b ch⟩ : Fin 128) i (0 : Fin 1))))
        + (num (V14 V (Proc.devRef .tc main_v236) (ix3 (⟨b.val * 32 + ch.val, flat_lt b ch⟩ : Fin 128) i j)) * (1 - num (V14 V (Proc.devRef .tc main_v172) (ix3 (⟨b.val * 32 + ch.val, flat_lt b ch⟩ : Fin 128) (0 : Fin 1) j)))
          + num (V14 V (Proc.devRef .tc main_v252) (ix3 (⟨b.val * 32 + ch.val, flat_lt b ch⟩ : Fin 128) i j)) * num (V14 V (Proc.devRef .tc main_v172) (ix3 (⟨b.val * 32 + ch.val, flat_lt b ch⟩ : Fin 128) (0 : Fin 1) j)))
          * num (V14 V (Proc.devRef .tc main_v169) (ix3 (⟨b.val * 32 + ch.val, flat_lt b ch⟩ : Fin 128) i (0 : Fin 1)))) 0 = _
  rw [← hn]
  have e : V14 V (Proc.devRef .tc main_v128) (ix3 n i j)
      = BitVec.ofBool (decide ((0 ≤ (i.val : ℤ) - before R ∧ (i.val : ℤ) - before R < R)
        ∧ (0 ≤ (j.val : ℤ) - before R' ∧ (j.val : ℤ) - before R' < R'))) := by
    rw [kept_14 (by decide) (by decide) (by decide) (by decide) (by decide)]
    unfold V9 V8
    rw [keepNear _ (by decide), keepPos _ (by decide)]
    exact inside_at hb i j
  rw [e, select_bool]
  unfold picture
  by_cases h : (0 ≤ (i.val : ℤ) - before R ∧ (i.val : ℤ) - before R < R) ∧ (0 ≤ (j.val : ℤ) - before R' ∧ (j.val : ℤ) - before R' < R')
  · rw [if_pos (by simpa using h), if_pos h]
    obtain ⟨⟨h₀, h₁⟩, h₀', h₁'⟩ := h
    have w : V14 V (Proc.devRef .tc main_v169) (ix3 n i (0 : Fin 1)) = ((share c R (i.val - before R) : ℝ) : EReal) := by
      rw [kept_14 (by decide) (by decide) (by decide) (by decide) (by decide)]
      exact weight_row hb i h₀ h₁
    have w' : V14 V (Proc.devRef .tc main_v172) (ix3 n (0 : Fin 1) j) = ((share c' R' (j.val - before R') : ℝ) : EReal) := by
      rw [kept_14 (by decide) (by decide) (by decide) (by decide) (by decide)]
      exact weight_col hb j h₀' h₁'
    have one : ∀ t : ℝ, (1 : EReal) - ((t : ℝ) : EReal) = ((1 - t : ℝ) : EReal) := fun t => by
      rw [EReal.coe_sub, EReal.coe_one]
    rw [w, w', top_left hb i j h₀ h₁ h₀' h₁', top_right hb i j h₀ h₁ h₀' h₁', bot_left hb i j h₀ h₁ h₀' h₁',
      bot_right hb i j h₀ h₁ h₀' h₁']
    unfold num
    rw [one, one]
  · rw [if_neg (by simpa using h), if_neg h]

end Cert.Focus.Ref

end
-- ==== Proof.Focus.Equal.lean ====
/- The kernel and the reference give the same result: each entry of either is the picture's. -/
module

public import proofs.«01_k».proof.Defs
public import proofs.«01_k».proof.Proof.Focus.Result
public import proofs.«01_k».proof.Proof.Focus.RefPaint

@[expose] public section

set_option maxRecDepth 16384
set_option maxHeartbeats 2000000

noncomputable section

namespace Cert.Focus

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- What the reference's result holds. -/
def referenceAnswer (c : Dev ReferenceIdeal.nD) : Buf (Elt Ideal) ((c.tc : Thread ReferenceIdeal.nD ReferenceIdeal.τ).loc ReferenceIdeal.main_v276) :=
  StableHlo.after Ref.line (StableHlo.launchContents m' c) (Proc.devRef .tc ReferenceIdeal.main_v276)

/-- The two programs' arguments are equal. -/
def SameArgument : Prop := ∀ c : Dev KernelIdeal.nD,
  m' ((c.tc : Thread ReferenceIdeal.nD ReferenceIdeal.τ).loc ReferenceIdeal.main_arg0)
    = m ((c.tc : Thread KernelIdeal.nD KernelIdeal.τ).loc KernelIdeal.main_arg0)

variable {m m'}

/-- So the kernel's image `n` is the reference's. -/
theorem image_same (h : SameArgument m m') (c : Dev KernelIdeal.nD) (n : Fin 128) (y w : Fin 512) :
    imageAt (KernelIdeal.Gen.V m c KernelIdeal.main_v1) n (ix3 (0 : Fin 1) y w) = Ref.imageOf (StableHlo.launchContents m' c) n y w :=
  (images_at m c n y w).trans (congrFun (h c) _).symm

/-- Entry by entry, the two results are equal. -/
theorem entry_same (h : SameArgument m m') (c : Dev KernelIdeal.nD) (b : Fin 4) (i j : Fin 512) (ch : Fin 32) :
    answer m c (ix4 b i j ch) = referenceAnswer m' c (ix4 b i j ch) := by
  have hX : (fun y w => imageAt (KernelIdeal.Gen.V m c KernelIdeal.main_v1) ⟨b.val * 32 + ch.val, Ref.flat_lt b ch⟩ (ix3 (0 : Fin 1) y w))
      = Ref.imageOf (StableHlo.launchContents m' c) ⟨b.val * 32 + ch.val, Ref.flat_lt b ch⟩ :=
    funext fun y => funext fun w => image_same h c _ y w
  obtain ⟨lo, k, R, lo', k', R', hb⟩ := box_exists
    (rowFlag_flag (imageAt (KernelIdeal.Gen.V m c KernelIdeal.main_v1) ⟨b.val * 32 + ch.val, Ref.flat_lt b ch⟩))
    (colFlag_flag (imageAt (KernelIdeal.Gen.V m c KernelIdeal.main_v1) ⟨b.val * 32 + ch.val, Ref.flat_lt b ch⟩))
  have er : rowFlag (imageAt (KernelIdeal.Gen.V m c KernelIdeal.main_v1) ⟨b.val * 32 + ch.val, Ref.flat_lt b ch⟩)
      = Ref.rowsLive (Ref.imageOf (StableHlo.launchContents m' c) ⟨b.val * 32 + ch.val, Ref.flat_lt b ch⟩) := congrArg Ref.rowsLive hX
  have ec : colFlag (imageAt (KernelIdeal.Gen.V m c KernelIdeal.main_v1) ⟨b.val * 32 + ch.val, Ref.flat_lt b ch⟩)
      = Ref.colsLive (Ref.imageOf (StableHlo.launchContents m' c) ⟨b.val * 32 + ch.val, Ref.flat_lt b ch⟩) := congrArg Ref.colsLive hX
  have hb' := hb
  rw [er, ec] at hb'
  rw [answer_at, out_value hb, hX]
  exact (Ref.result_at hb' b i j ch rfl).symm

/-- The two results are equal. -/
theorem answer_same (h : SameArgument m m') (c : Dev KernelIdeal.nD) : referenceAnswer m' c = answer m c :=
  funext fun (z : KernelIdeal.S4x512x512x32.Idx) => by
    have e : z = ix4 (z 0) (z 1) (z 2) (z 3) := funext fun a => by fin_cases a <;> rfl
    rw [e]
    exact (entry_same h c (z 0) (z 1) (z 2) (z 3)).symm

/-- The kernel over the extended reals and the reference end with one and the same result. -/
theorem algebraic : Cert.algebraic_KernelIdeal_ReferenceIdeal := fun m g m' g' _ h =>
  ⟨answer m, answer_run m g, θ_run_mono (Ref.run (F := Ideal) m' g') fun r hr c =>
    ⟨(hr c ReferenceIdeal.main_v276).trans (answer_same h c), (hr c ReferenceIdeal.main_arg0).trans (Ref.argument_kept _)⟩⟩

end Cert.Focus

end
-- ==== Proof.lean ====
/- The certificate's claims, put together from the modules under `Proof/Focus/`: the two frames of the kernel
   (`Frames`), the frame of the reference (`RefFrame`), and the equality of their results (`Equal`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Focus.Frames
public import proofs.«01_k».proof.Proof.Focus.RefFrame
public import proofs.«01_k».proof.Proof.Focus.Equal

@[expose] public section

noncomputable section

namespace Cert.Proof

open Idealize.ShloMosaic Idealize.SL.Sem Cert.Kernel

/-- All five claims: the kernel, the kernel over the extended reals and the reference each run to their end, leaving
their argument and every semaphore as they found them; the second program is the first over the extended reals; and
it computes the reference's result. -/
theorem claim : Cert.Claim :=
  ⟨Cert.Kernel.Gen.facts, Cert.KernelIdeal.Gen.facts, Cert.ReferenceIdeal.Gen.facts,
    Cert.Focus.frame_kernel, Cert.Focus.frame_ideal, Cert.Focus.Ref.frame_reference, trivial, Cert.Focus.algebraic⟩

end Cert.Proof

end
